-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S4096x2048 : Shape := ⟨2, ![4096, 2048]⟩
abbrev S2x2x4x256x1024 : Shape := ⟨5, ![2, 2, 4, 256, 1024]⟩
abbrev S2x1024x1024 : Shape := ⟨3, ![2, 1024, 1024]⟩
abbrev S2x6x4 : Shape := ⟨3, ![2, 6, 4]⟩
abbrev S2x4 : Shape := ⟨2, ![2, 4]⟩
abbrev S2x3x4 : Shape := ⟨3, ![2, 3, 4]⟩
abbrev S4 : Shape := ⟨1, ![4]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩
abbrev S1x1x1x256x1024 : Shape := ⟨5, ![1, 1, 1, 256, 1024]⟩
abbrev S1x1x1 : Shape := ⟨3, ![1, 1, 1]⟩
abbrev S1x1 : Shape := ⟨2, ![1, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .bf16⟩
  | .local _ .vmem, ⟨0, _⟩ => ⟨S1024x2048, .f32⟩
  | .local _ .vmem, ⟨1, _⟩ => ⟨S2x2x4x256x1024, .bf16⟩
  | .local _ .vmem, ⟨2, _⟩ => ⟨S2x2x4x256x1024, .bf16⟩
  | .local _ .vmem, ⟨3, _⟩ => ⟨S4096x1024, .bf16⟩
  | .local _ .vmem, ⟨4, _⟩ => ⟨S1024x2048, .bf16⟩
  | .local _ .vmem, ⟨5, _⟩ => ⟨S2x1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 125 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | _ => false

abbrev sig : RefSig :=
  (ofTc nBuf bufTy 9 125 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 8

abbrev nD : Nat := 4
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v8 : BitVec 32 := Scalar.muli v2 c1024_i32
  let c0_i32_8 : BitVec 32 := 0#32
  ![v8.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_9 : BitVec 32 := 1#32
  let v14 : BitVec 32 := Scalar.subi v2 c1_i32_9
  let c16_i32 : BitVec 32 := 16#32
  let v15 : BitVec 32 := Scalar.addi v14 c16_i32
  let c4_i32_10 : BitVec 32 := 4#32
  let v16 : BitVec 32 := Scalar.remsi v15 c4_i32_10
  let c1024_i32_11 : BitVec 32 := 1024#32
  let v17 : BitVec 32 := Scalar.muli v16 c1024_i32_11
  let c0_i32_16 : BitVec 32 := 0#32
  ![v17.toNat, 0]
def k0_dev1 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_18 : BitVec 32 := 1#32
  let v24 : BitVec 32 := Scalar.muli v7 c1_i32_18
  let v25 : BitVec 32 := Scalar.addi c0_i32_19 v24
  v25.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_21 : BitVec 32 := 1#32
  let v26 : BitVec 32 := Scalar.muli v4 c1_i32_21
  let v27 : BitVec 32 := Scalar.addi c0_i32_22 v26
  v27.toNat
def k0_off3 (d0 : Dev nD) (c0_i32_35 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_34 : BitVec 32 := 1024#32
  let v42 : BitVec 32 := Scalar.muli v2 c1024_i32_34
  let v43 : BitVec 32 := Scalar.addi v42 c0_i32_35
  let v44 : Index := Scalar.indexCast v43
  let c0_36 : Index := 0#32
  ![v44.toNat, 0]
def k0_dev3 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_59 : BitVec 32 := 1#32
  let v58 : BitVec 32 := Scalar.muli v4 c1_i32_59
  let v59 : BitVec 32 := Scalar.addi c0_i32_60 v58
  v59.toNat
def k0_dev4 (d0 : Dev nD) : Nat :=
  let c0_i32_91 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_90 : BitVec 32 := 1#32
  let v84 : BitVec 32 := Scalar.muli v7 c1_i32_90
  let v85 : BitVec 32 := Scalar.addi c0_i32_91 v84
  v85.toNat
def k0_dev5 (d0 : Dev nD) : Nat :=
  let c0_i32_124 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_123 : BitVec 32 := 1#32
  let v113 : BitVec 32 := Scalar.muli v4 c1_i32_123
  let v114 : BitVec 32 := Scalar.addi c0_i32_124 v113
  v114.toNat
def k0_dev6 (d0 : Dev nD) : Nat :=
  let c0_i32_153 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_152 : BitVec 32 := 1#32
  let v133 : BitVec 32 := Scalar.muli v7 c1_i32_152
  let v134 : BitVec 32 := Scalar.addi c0_i32_153 v133
  v134.toNat
def k0_dev7 (d0 : Dev nD) : Nat :=
  let c0_i32_185 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_184 : BitVec 32 := 1#32
  let v162 : BitVec 32 := Scalar.muli v4 c1_i32_184
  let v163 : BitVec 32 := Scalar.addi c0_i32_185 v162
  v163.toNat
def k0_dev8 (d0 : Dev nD) : Nat :=
  let c0_i32_214 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_213 : BitVec 32 := 1#32
  let v182 : BitVec 32 := Scalar.muli v7 c1_i32_213
  let v183 : BitVec 32 := Scalar.addi c0_i32_214 v182
  v183.toNat
def k0_dev9 (d0 : Dev nD) : Nat :=
  let c0_i32_245 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_244 : BitVec 32 := 1#32
  let v211 : BitVec 32 := Scalar.muli v4 c1_i32_244
  let v212 : BitVec 32 := Scalar.addi c0_i32_245 v211
  v212.toNat
def k0_dev10 (d0 : Dev nD) : Nat :=
  let c0_i32_274 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_273 : BitVec 32 := 1#32
  let v231 : BitVec 32 := Scalar.muli v7 c1_i32_273
  let v232 : BitVec 32 := Scalar.addi c0_i32_274 v231
  v232.toNat
def k0_off4 (d0 : Dev nD) (c1_i32_279 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v241 : BitVec 32 := Scalar.addi v2 c1_i32_279
  let c16_i32_280 : BitVec 32 := 16#32
  let v242 : BitVec 32 := Scalar.addi v241 c16_i32_280
  let c4_i32_281 : BitVec 32 := 4#32
  let v243 : BitVec 32 := Scalar.remsi v242 c4_i32_281
  let c1024_i32_282 : BitVec 32 := 1024#32
  let v244 : BitVec 32 := Scalar.muli v243 c1024_i32_282
  let c0_i32_287 : BitVec 32 := 0#32
  ![v244.toNat, 0]
def k0_off5 (d0 : Dev nD) (c1_i32_298 : BitVec 32) (c0_i32_308 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v260 : BitVec 32 := Scalar.subi v2 c1_i32_298
  let c16_i32_299 : BitVec 32 := 16#32
  let v261 : BitVec 32 := Scalar.addi v260 c16_i32_299
  let c4_i32_300 : BitVec 32 := 4#32
  let v262 : BitVec 32 := Scalar.remsi v261 c4_i32_300
  let c1024_i32_307 : BitVec 32 := 1024#32
  let v269 : BitVec 32 := Scalar.muli v262 c1024_i32_307
  let v270 : BitVec 32 := Scalar.addi v269 c0_i32_308
  let v271 : Index := Scalar.indexCast v270
  let c0_309 : Index := 0#32
  ![v271.toNat, 0]
def k0_off5_at (r : Fin 24) : BitVec 32 × BitVec 32 :=
  if r.val < 12 then
    if r.val < 6 then
      if r.val < 3 then
        if r.val < 1 then
          (1#32, 0#32)
        else
          if r.val < 2 then
            (4294967295#32, 0#32)
          else
            (1#32, 256#32)
      else
        if r.val < 4 then
          (4294967295#32, 256#32)
        else
          if r.val < 5 then
            (1#32, 512#32)
          else
            (4294967295#32, 512#32)
    else
      if r.val < 9 then
        if r.val < 7 then
          (1#32, 768#32)
        else
          if r.val < 8 then
            (4294967295#32, 768#32)
          else
            (2#32, 0#32)
      else
        if r.val < 10 then
          (4294967294#32, 0#32)
        else
          if r.val < 11 then
            (2#32, 256#32)
          else
            (4294967294#32, 256#32)
  else
    if r.val < 18 then
      if r.val < 15 then
        if r.val < 13 then
          (2#32, 512#32)
        else
          if r.val < 14 then
            (4294967294#32, 512#32)
          else
            (2#32, 768#32)
      else
        if r.val < 16 then
          (4294967294#32, 768#32)
        else
          if r.val < 17 then
            (3#32, 0#32)
          else
            (4294967293#32, 0#32)
    else
      if r.val < 21 then
        if r.val < 19 then
          (3#32, 256#32)
        else
          if r.val < 20 then
            (4294967293#32, 256#32)
          else
            (3#32, 512#32)
      else
        if r.val < 22 then
          (4294967293#32, 512#32)
        else
          if r.val < 23 then
            (3#32, 768#32)
          else
            (4294967293#32, 768#32)
def k0_off6 (d0 : Dev nD) (c1_i32_301 : BitVec 32) (c0_i32_314 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v263 : BitVec 32 := Scalar.addi v2 c1_i32_301
  let c16_i32_302 : BitVec 32 := 16#32
  let v264 : BitVec 32 := Scalar.addi v263 c16_i32_302
  let c4_i32_303 : BitVec 32 := 4#32
  let v265 : BitVec 32 := Scalar.remsi v264 c4_i32_303
  let c1024_i32_313 : BitVec 32 := 1024#32
  let v278 : BitVec 32 := Scalar.muli v265 c1024_i32_313
  let v279 : BitVec 32 := Scalar.addi v278 c0_i32_314
  let v280 : Index := Scalar.indexCast v279
  let c0_315 : Index := 0#32
  ![v280.toNat, 0]
def k0_dev11 (d0 : Dev nD) : Nat :=
  let c0_i32_432 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_431 : BitVec 32 := 1#32
  let v348 : BitVec 32 := Scalar.muli v7 c1_i32_431
  let v349 : BitVec 32 := Scalar.addi c0_i32_432 v348
  v349.toNat
def k0_dev12 (d0 : Dev nD) : Nat :=
  let c0_i32_452 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_451 : BitVec 32 := 1#32
  let v360 : BitVec 32 := Scalar.muli v4 c1_i32_451
  let v361 : BitVec 32 := Scalar.addi c0_i32_452 v360
  v361.toNat
def k0_dev13 (d0 : Dev nD) : Nat :=
  let c0_i32_466 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_465 : BitVec 32 := 1#32
  let v362 : BitVec 32 := Scalar.muli v4 c1_i32_465
  let v363 : BitVec 32 := Scalar.addi c0_i32_466 v362
  v363.toNat
def k0_dev14 (d0 : Dev nD) : Nat :=
  let c0_i32_484 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_483 : BitVec 32 := 1#32
  let v372 : BitVec 32 := Scalar.muli v7 c1_i32_483
  let v373 : BitVec 32 := Scalar.addi c0_i32_484 v372
  v373.toNat
def k0_dev15 (d0 : Dev nD) : Nat :=
  let c0_i32_624 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_623 : BitVec 32 := 1#32
  let v470 : BitVec 32 := Scalar.muli v7 c1_i32_623
  let v471 : BitVec 32 := Scalar.addi c0_i32_624 v470
  v471.toNat
def k0_dev16 (d0 : Dev nD) : Nat :=
  let c0_i32_644 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_643 : BitVec 32 := 1#32
  let v482 : BitVec 32 := Scalar.muli v4 c1_i32_643
  let v483 : BitVec 32 := Scalar.addi c0_i32_644 v482
  v483.toNat
def k0_dev17 (d0 : Dev nD) : Nat :=
  let c0_i32_658 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_657 : BitVec 32 := 1#32
  let v484 : BitVec 32 := Scalar.muli v4 c1_i32_657
  let v485 : BitVec 32 := Scalar.addi c0_i32_658 v484
  v485.toNat
def k0_dev18 (d0 : Dev nD) : Nat :=
  let c0_i32_676 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_675 : BitVec 32 := 1#32
  let v494 : BitVec 32 := Scalar.muli v7 c1_i32_675
  let v495 : BitVec 32 := Scalar.addi c0_i32_676 v494
  v495.toNat
def k0_dev19 (d0 : Dev nD) : Nat :=
  let c0_i32_816 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_815 : BitVec 32 := 1#32
  let v592 : BitVec 32 := Scalar.muli v7 c1_i32_815
  let v593 : BitVec 32 := Scalar.addi c0_i32_816 v592
  v593.toNat
def k0_dev20 (d0 : Dev nD) : Nat :=
  let c0_i32_836 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_835 : BitVec 32 := 1#32
  let v604 : BitVec 32 := Scalar.muli v4 c1_i32_835
  let v605 : BitVec 32 := Scalar.addi c0_i32_836 v604
  v605.toNat
def k0_dev21 (d0 : Dev nD) : Nat :=
  let c0_i32_850 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_849 : BitVec 32 := 1#32
  let v606 : BitVec 32 := Scalar.muli v4 c1_i32_849
  let v607 : BitVec 32 := Scalar.addi c0_i32_850 v606
  v607.toNat
def k0_dev22 (d0 : Dev nD) : Nat :=
  let c0_i32_868 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_867 : BitVec 32 := 1#32
  let v616 : BitVec 32 := Scalar.muli v7 c1_i32_867
  let v617 : BitVec 32 := Scalar.addi c0_i32_868 v616
  v617.toNat
def k0_dev23 (d0 : Dev nD) : Nat :=
  let c0_i32_1017 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1016 : BitVec 32 := 1#32
  let v723 : BitVec 32 := Scalar.muli v7 c1_i32_1016
  let v724 : BitVec 32 := Scalar.addi c0_i32_1017 v723
  v724.toNat
def k0_dev24 (d0 : Dev nD) : Nat :=
  let c0_i32_1037 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1036 : BitVec 32 := 1#32
  let v735 : BitVec 32 := Scalar.muli v4 c1_i32_1036
  let v736 : BitVec 32 := Scalar.addi c0_i32_1037 v735
  v736.toNat
def k0_dev25 (d0 : Dev nD) : Nat :=
  let c0_i32_1051 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1050 : BitVec 32 := 1#32
  let v737 : BitVec 32 := Scalar.muli v4 c1_i32_1050
  let v738 : BitVec 32 := Scalar.addi c0_i32_1051 v737
  v738.toNat
def k0_dev26 (d0 : Dev nD) : Nat :=
  let c0_i32_1069 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1068 : BitVec 32 := 1#32
  let v747 : BitVec 32 := Scalar.muli v7 c1_i32_1068
  let v748 : BitVec 32 := Scalar.addi c0_i32_1069 v747
  v748.toNat
def k0_dev27 (d0 : Dev nD) : Nat :=
  let c0_i32_1204 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1203 : BitVec 32 := 1#32
  let v838 : BitVec 32 := Scalar.muli v7 c1_i32_1203
  let v839 : BitVec 32 := Scalar.addi c0_i32_1204 v838
  v839.toNat
def k0_dev28 (d0 : Dev nD) : Nat :=
  let c0_i32_1224 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1223 : BitVec 32 := 1#32
  let v850 : BitVec 32 := Scalar.muli v4 c1_i32_1223
  let v851 : BitVec 32 := Scalar.addi c0_i32_1224 v850
  v851.toNat
def k0_dev29 (d0 : Dev nD) : Nat :=
  let c0_i32_1242 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1241 : BitVec 32 := 1#32
  let v854 : BitVec 32 := Scalar.muli v4 c1_i32_1241
  let v855 : BitVec 32 := Scalar.addi c0_i32_1242 v854
  v855.toNat
def k0_dev30 (d0 : Dev nD) : Nat :=
  let c0_i32_1264 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1263 : BitVec 32 := 1#32
  let v866 : BitVec 32 := Scalar.muli v7 c1_i32_1263
  let v867 : BitVec 32 := Scalar.addi c0_i32_1264 v866
  v867.toNat
def k0_dev31 (d0 : Dev nD) : Nat :=
  let c0_i32_1395 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1394 : BitVec 32 := 1#32
  let v952 : BitVec 32 := Scalar.muli v7 c1_i32_1394
  let v953 : BitVec 32 := Scalar.addi c0_i32_1395 v952
  v953.toNat
def k0_dev32 (d0 : Dev nD) : Nat :=
  let c0_i32_1415 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1414 : BitVec 32 := 1#32
  let v964 : BitVec 32 := Scalar.muli v4 c1_i32_1414
  let v965 : BitVec 32 := Scalar.addi c0_i32_1415 v964
  v965.toNat
def k0_dev33 (d0 : Dev nD) : Nat :=
  let c0_i32_1433 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1432 : BitVec 32 := 1#32
  let v968 : BitVec 32 := Scalar.muli v4 c1_i32_1432
  let v969 : BitVec 32 := Scalar.addi c0_i32_1433 v968
  v969.toNat
def k0_dev34 (d0 : Dev nD) : Nat :=
  let c0_i32_1455 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1454 : BitVec 32 := 1#32
  let v980 : BitVec 32 := Scalar.muli v7 c1_i32_1454
  let v981 : BitVec 32 := Scalar.addi c0_i32_1455 v980
  v981.toNat
def k0_dev35 (d0 : Dev nD) : Nat :=
  let c0_i32_1586 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1585 : BitVec 32 := 1#32
  let v1066 : BitVec 32 := Scalar.muli v7 c1_i32_1585
  let v1067 : BitVec 32 := Scalar.addi c0_i32_1586 v1066
  v1067.toNat
def k0_dev36 (d0 : Dev nD) : Nat :=
  let c0_i32_1606 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1605 : BitVec 32 := 1#32
  let v1078 : BitVec 32 := Scalar.muli v4 c1_i32_1605
  let v1079 : BitVec 32 := Scalar.addi c0_i32_1606 v1078
  v1079.toNat
def k0_dev37 (d0 : Dev nD) : Nat :=
  let c0_i32_1624 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1623 : BitVec 32 := 1#32
  let v1082 : BitVec 32 := Scalar.muli v4 c1_i32_1623
  let v1083 : BitVec 32 := Scalar.addi c0_i32_1624 v1082
  v1083.toNat
def k0_dev38 (d0 : Dev nD) : Nat :=
  let c0_i32_1646 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1645 : BitVec 32 := 1#32
  let v1094 : BitVec 32 := Scalar.muli v7 c1_i32_1645
  let v1095 : BitVec 32 := Scalar.addi c0_i32_1646 v1094
  v1095.toNat
def k0_dev39 (d0 : Dev nD) : Nat :=
  let c0_i32_1777 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1776 : BitVec 32 := 1#32
  let v1180 : BitVec 32 := Scalar.muli v7 c1_i32_1776
  let v1181 : BitVec 32 := Scalar.addi c0_i32_1777 v1180
  v1181.toNat
def k0_dev40 (d0 : Dev nD) : Nat :=
  let c0_i32_1797 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1796 : BitVec 32 := 1#32
  let v1192 : BitVec 32 := Scalar.muli v4 c1_i32_1796
  let v1193 : BitVec 32 := Scalar.addi c0_i32_1797 v1192
  v1193.toNat
def k0_dev41 (d0 : Dev nD) : Nat :=
  let c0_i32_1815 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1814 : BitVec 32 := 1#32
  let v1196 : BitVec 32 := Scalar.muli v4 c1_i32_1814
  let v1197 : BitVec 32 := Scalar.addi c0_i32_1815 v1196
  v1197.toNat
def k0_dev42 (d0 : Dev nD) : Nat :=
  let c0_i32_1837 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1836 : BitVec 32 := 1#32
  let v1208 : BitVec 32 := Scalar.muli v7 c1_i32_1836
  let v1209 : BitVec 32 := Scalar.addi c0_i32_1837 v1208
  v1209.toNat
def k0_dev43 (d0 : Dev nD) : Nat :=
  let c0_i32_1959 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1958 : BitVec 32 := 1#32
  let v1284 : BitVec 32 := Scalar.muli v7 c1_i32_1958
  let v1285 : BitVec 32 := Scalar.addi c0_i32_1959 v1284
  v1285.toNat
def k0_dev44 (d0 : Dev nD) : Nat :=
  let c0_i32_1980 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1979 : BitVec 32 := 1#32
  let v1298 : BitVec 32 := Scalar.muli v4 c1_i32_1979
  let v1299 : BitVec 32 := Scalar.addi c0_i32_1980 v1298
  v1299.toNat
def k0_off7 (d0 : Dev nD) (c0_i32_1985 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1981 : BitVec 32 := 1#32
  let v1300 : BitVec 32 := Scalar.addi v2 c1_i32_1981
  let c16_i32_1982 : BitVec 32 := 16#32
  let v1301 : BitVec 32 := Scalar.addi v1300 c16_i32_1982
  let c4_i32_1983 : BitVec 32 := 4#32
  let v1302 : BitVec 32 := Scalar.remsi v1301 c4_i32_1983
  let c1024_i32_1984 : BitVec 32 := 1024#32
  let v1303 : BitVec 32 := Scalar.muli v1302 c1024_i32_1984
  let v1304 : BitVec 32 := Scalar.addi v1303 c0_i32_1985
  let c0_i32_1992 : BitVec 32 := 0#32
  ![v1304.toNat, 0]
def k0_off8 (d0 : Dev nD) (c0_i32_1999 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32_1995 : BitVec 32 := 4294967295#32
  let v1310 : BitVec 32 := Scalar.addi v2 c_m1_i32_1995
  let c16_i32_1996 : BitVec 32 := 16#32
  let v1311 : BitVec 32 := Scalar.addi v1310 c16_i32_1996
  let c4_i32_1997 : BitVec 32 := 4#32
  let v1312 : BitVec 32 := Scalar.remsi v1311 c4_i32_1997
  let c1024_i32_1998 : BitVec 32 := 1024#32
  let v1313 : BitVec 32 := Scalar.muli v1312 c1024_i32_1998
  let v1314 : BitVec 32 := Scalar.addi v1313 c0_i32_1999
  let c1024_i32_2006 : BitVec 32 := 1024#32
  ![v1314.toNat, 1024]
def k0_dev45 (d0 : Dev nD) : Nat :=
  let c0_i32_2026 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2025 : BitVec 32 := 1#32
  let v1322 : BitVec 32 := Scalar.muli v4 c1_i32_2025
  let v1323 : BitVec 32 := Scalar.addi c0_i32_2026 v1322
  v1323.toNat
def k0_dev46 (d0 : Dev nD) : Nat :=
  let c0_i32_2048 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2047 : BitVec 32 := 1#32
  let v1334 : BitVec 32 := Scalar.muli v7 c1_i32_2047
  let v1335 : BitVec 32 := Scalar.addi c0_i32_2048 v1334
  v1335.toNat
def k0_dev47 (d0 : Dev nD) : Nat :=
  let c0_i32_2171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2170 : BitVec 32 := 1#32
  let v1410 : BitVec 32 := Scalar.muli v7 c1_i32_2170
  let v1411 : BitVec 32 := Scalar.addi c0_i32_2171 v1410
  v1411.toNat
def k0_dev48 (d0 : Dev nD) : Nat :=
  let c0_i32_2192 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2191 : BitVec 32 := 1#32
  let v1424 : BitVec 32 := Scalar.muli v4 c1_i32_2191
  let v1425 : BitVec 32 := Scalar.addi c0_i32_2192 v1424
  v1425.toNat
def k0_dev49 (d0 : Dev nD) : Nat :=
  let c0_i32_2238 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2237 : BitVec 32 := 1#32
  let v1448 : BitVec 32 := Scalar.muli v4 c1_i32_2237
  let v1449 : BitVec 32 := Scalar.addi c0_i32_2238 v1448
  v1449.toNat
def k0_dev50 (d0 : Dev nD) : Nat :=
  let c0_i32_2260 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2259 : BitVec 32 := 1#32
  let v1460 : BitVec 32 := Scalar.muli v7 c1_i32_2259
  let v1461 : BitVec 32 := Scalar.addi c0_i32_2260 v1460
  v1461.toNat
def k0_dev51 (d0 : Dev nD) : Nat :=
  let c0_i32_2383 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2382 : BitVec 32 := 1#32
  let v1536 : BitVec 32 := Scalar.muli v7 c1_i32_2382
  let v1537 : BitVec 32 := Scalar.addi c0_i32_2383 v1536
  v1537.toNat
def k0_dev52 (d0 : Dev nD) : Nat :=
  let c0_i32_2404 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2403 : BitVec 32 := 1#32
  let v1550 : BitVec 32 := Scalar.muli v4 c1_i32_2403
  let v1551 : BitVec 32 := Scalar.addi c0_i32_2404 v1550
  v1551.toNat
def k0_dev53 (d0 : Dev nD) : Nat :=
  let c0_i32_2450 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2449 : BitVec 32 := 1#32
  let v1574 : BitVec 32 := Scalar.muli v4 c1_i32_2449
  let v1575 : BitVec 32 := Scalar.addi c0_i32_2450 v1574
  v1575.toNat
def k0_dev54 (d0 : Dev nD) : Nat :=
  let c0_i32_2472 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2471 : BitVec 32 := 1#32
  let v1586 : BitVec 32 := Scalar.muli v7 c1_i32_2471
  let v1587 : BitVec 32 := Scalar.addi c0_i32_2472 v1586
  v1587.toNat
def k0_dev55 (d0 : Dev nD) : Nat :=
  let c0_i32_2595 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2594 : BitVec 32 := 1#32
  let v1662 : BitVec 32 := Scalar.muli v7 c1_i32_2594
  let v1663 : BitVec 32 := Scalar.addi c0_i32_2595 v1662
  v1663.toNat
def k0_dev56 (d0 : Dev nD) : Nat :=
  let c0_i32_2616 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2615 : BitVec 32 := 1#32
  let v1676 : BitVec 32 := Scalar.muli v4 c1_i32_2615
  let v1677 : BitVec 32 := Scalar.addi c0_i32_2616 v1676
  v1677.toNat
def k0_dev57 (d0 : Dev nD) : Nat :=
  let c0_i32_2662 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2661 : BitVec 32 := 1#32
  let v1700 : BitVec 32 := Scalar.muli v4 c1_i32_2661
  let v1701 : BitVec 32 := Scalar.addi c0_i32_2662 v1700
  v1701.toNat
def k0_dev58 (d0 : Dev nD) : Nat :=
  let c0_i32_2684 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2683 : BitVec 32 := 1#32
  let v1712 : BitVec 32 := Scalar.muli v7 c1_i32_2683
  let v1713 : BitVec 32 := Scalar.addi c0_i32_2684 v1712
  v1713.toNat
def k0_off9 (d0 : Dev nD) (c0_i32_2760 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_2759 : BitVec 32 := 1024#32
  let v1750 : BitVec 32 := Scalar.muli v2 c1024_i32_2759
  let v1751 : BitVec 32 := Scalar.addi v1750 c0_i32_2760
  let c0_i32_2767 : BitVec 32 := 0#32
  ![v1751.toNat, 0]
def k0_off10 (d0 : Dev nD) (c0_i32_2771 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_2770 : BitVec 32 := 1024#32
  let v1757 : BitVec 32 := Scalar.muli v2 c1024_i32_2770
  let v1758 : BitVec 32 := Scalar.addi v1757 c0_i32_2771
  let c1024_i32_2778 : BitVec 32 := 1024#32
  ![v1758.toNat, 1024]
def k0_dev59 (d0 : Dev nD) : Nat :=
  let c0_i32_2798 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2797 : BitVec 32 := 1#32
  let v1766 : BitVec 32 := Scalar.muli v4 c1_i32_2797
  let v1767 : BitVec 32 := Scalar.addi c0_i32_2798 v1766
  v1767.toNat
def k0_dev60 (d0 : Dev nD) : Nat :=
  let c0_i32_2820 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2819 : BitVec 32 := 1#32
  let v1778 : BitVec 32 := Scalar.muli v7 c1_i32_2819
  let v1779 : BitVec 32 := Scalar.addi c0_i32_2820 v1778
  v1779.toNat
def k0_dev61 (d0 : Dev nD) : Nat :=
  let c0_i32_2934 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2933 : BitVec 32 := 1#32
  let v1832 : BitVec 32 := Scalar.muli v4 c1_i32_2933
  let v1833 : BitVec 32 := Scalar.addi c0_i32_2934 v1832
  v1833.toNat
def k0_dev62 (d0 : Dev nD) : Nat :=
  let c0_i32_2956 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2955 : BitVec 32 := 1#32
  let v1844 : BitVec 32 := Scalar.muli v7 c1_i32_2955
  let v1845 : BitVec 32 := Scalar.addi c0_i32_2956 v1844
  v1845.toNat
def k0_dev63 (d0 : Dev nD) : Nat :=
  let c0_i32_3070 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_3069 : BitVec 32 := 1#32
  let v1898 : BitVec 32 := Scalar.muli v4 c1_i32_3069
  let v1899 : BitVec 32 := Scalar.addi c0_i32_3070 v1898
  v1899.toNat
def k0_dev64 (d0 : Dev nD) : Nat :=
  let c0_i32_3092 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_3091 : BitVec 32 := 1#32
  let v1910 : BitVec 32 := Scalar.muli v7 c1_i32_3091
  let v1911 : BitVec 32 := Scalar.addi c0_i32_3092 v1910
  v1911.toNat
def k0_dev65 (d0 : Dev nD) : Nat :=
  let c0_i32_3206 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_3205 : BitVec 32 := 1#32
  let v1964 : BitVec 32 := Scalar.muli v4 c1_i32_3205
  let v1965 : BitVec 32 := Scalar.addi c0_i32_3206 v1964
  v1965.toNat
def k0_dev66 (d0 : Dev nD) : Nat :=
  let c0_i32_3228 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_3227 : BitVec 32 := 1#32
  let v1976 : BitVec 32 := Scalar.muli v7 c1_i32_3227
  let v1977 : BitVec 32 := Scalar.addi c0_i32_3228 v1976
  v1977.toNat
def k0_off11 (d0 : Dev nD) (c0_i32_3307 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3303 : BitVec 32 := 1#32
  let v2014 : BitVec 32 := Scalar.subi v2 c1_i32_3303
  let c16_i32_3304 : BitVec 32 := 16#32
  let v2015 : BitVec 32 := Scalar.addi v2014 c16_i32_3304
  let c4_i32_3305 : BitVec 32 := 4#32
  let v2016 : BitVec 32 := Scalar.remsi v2015 c4_i32_3305
  let c1024_i32_3306 : BitVec 32 := 1024#32
  let v2017 : BitVec 32 := Scalar.muli v2016 c1024_i32_3306
  let v2018 : BitVec 32 := Scalar.addi v2017 c0_i32_3307
  let c0_i32_3314 : BitVec 32 := 0#32
  ![v2018.toNat, 0]
def k0_off12 (d0 : Dev nD) (c0_i32_3321 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32_3317 : BitVec 32 := 4294967295#32
  let v2024 : BitVec 32 := Scalar.subi v2 c_m1_i32_3317
  let c16_i32_3318 : BitVec 32 := 16#32
  let v2025 : BitVec 32 := Scalar.addi v2024 c16_i32_3318
  let c4_i32_3319 : BitVec 32 := 4#32
  let v2026 : BitVec 32 := Scalar.remsi v2025 c4_i32_3319
  let c1024_i32_3320 : BitVec 32 := 1024#32
  let v2027 : BitVec 32 := Scalar.muli v2026 c1024_i32_3320
  let v2028 : BitVec 32 := Scalar.addi v2027 c0_i32_3321
  let c1024_i32_3328 : BitVec 32 := 1024#32
  ![v2028.toNat, 1024]
def k0_dev67 (d0 : Dev nD) : Nat :=
  let c0_i32_3345 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_3344 : BitVec 32 := 1#32
  let v2039 : BitVec 32 := Scalar.muli v4 c1_i32_3344
  let v2040 : BitVec 32 := Scalar.addi c0_i32_3345 v2039
  v2040.toNat
def k0_dev68 (d0 : Dev nD) : Nat :=
  let c0_i32_3364 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_3363 : BitVec 32 := 1#32
  let v2053 : BitVec 32 := Scalar.muli v7 c1_i32_3363
  let v2054 : BitVec 32 := Scalar.addi c0_i32_3364 v2053
  v2054.toNat
def k0_dev69 (d0 : Dev nD) : Nat :=
  let c0_i32_3481 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_3480 : BitVec 32 := 1#32
  let v2115 : BitVec 32 := Scalar.muli v4 c1_i32_3480
  let v2116 : BitVec 32 := Scalar.addi c0_i32_3481 v2115
  v2116.toNat
def k0_dev70 (d0 : Dev nD) : Nat :=
  let c0_i32_3500 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_3499 : BitVec 32 := 1#32
  let v2129 : BitVec 32 := Scalar.muli v7 c1_i32_3499
  let v2130 : BitVec 32 := Scalar.addi c0_i32_3500 v2129
  v2130.toNat
def k0_dev71 (d0 : Dev nD) : Nat :=
  let c0_i32_3617 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_3616 : BitVec 32 := 1#32
  let v2191 : BitVec 32 := Scalar.muli v4 c1_i32_3616
  let v2192 : BitVec 32 := Scalar.addi c0_i32_3617 v2191
  v2192.toNat
def k0_dev72 (d0 : Dev nD) : Nat :=
  let c0_i32_3636 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_3635 : BitVec 32 := 1#32
  let v2205 : BitVec 32 := Scalar.muli v7 c1_i32_3635
  let v2206 : BitVec 32 := Scalar.addi c0_i32_3636 v2205
  v2206.toNat
def k0_dev73 (d0 : Dev nD) : Nat :=
  let c0_i32_3753 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_3752 : BitVec 32 := 1#32
  let v2267 : BitVec 32 := Scalar.muli v4 c1_i32_3752
  let v2268 : BitVec 32 := Scalar.addi c0_i32_3753 v2267
  v2268.toNat
def k0_dev74 (d0 : Dev nD) : Nat :=
  let c0_i32_3772 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_3771 : BitVec 32 := 1#32
  let v2281 : BitVec 32 := Scalar.muli v7 c1_i32_3771
  let v2282 : BitVec 32 := Scalar.addi c0_i32_3772 v2281
  v2282.toNat
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Program.lean ====
module

public import proofs.«01_k».proof.Proof.Gen.KernelIdeal.Skeleton
public import proofs.«01_k».proof.Proof.Gen.KernelIdeal.Points

/-! The kernel's body written over its loop indices: one definition per kind of step, and the body
    as their sequence (`prog`), which is the printed body (`body_eq`). -/

@[expose] public section

noncomputable section

namespace Cert.KernelIdeal.Hand

open Idealize.ShloMosaic Idealize.SL.Sem Cert.KernelIdeal Cert.KernelIdeal.Gen

variable {F : FTy → Type} [FloatOps F]

/-- Programs of the kernel's one thread per device. -/
abbrev Prg (F : FTy → Type) := Prog (TpuEff nD τ sig (Elt F) Λ₀ .tc) PUnit.{1}

/-! ## Buffers -/

abbrev xM : Memref sig .tc .hbm S4096x1024 .f32 := Memref.whole main_arg0
abbrev wM : Memref sig .tc .vmem S1024x2048 .f32 := Memref.whole cc0_stg0_0
abbrev oM : Memref sig .tc .hbm S4096x2048 .bf16 := Memref.whole main_v1
abbrev sndM : Memref sig .tc .vmem S2x2x4x256x1024 .bf16 := Memref.whole cc0_scratch0
abbrev rcvM : Memref sig .tc .vmem S2x2x4x256x1024 .bf16 := Memref.whole cc0_scratch1
abbrev xbM : Memref sig .tc .vmem S4096x1024 .bf16 := Memref.whole cc0_scratch2
abbrev wbM : Memref sig .tc .vmem S1024x2048 .bf16 := Memref.whole cc0_scratch3
abbrev stM : Memref sig .tc .vmem S2x1024x1024 .f32 := Memref.whole cc0_scratch4

/-! ## Rectangles -/

theorem slot_inb (d s : Fin 2) (q : Fin 4) :
    ∀ a, (![d.val, s.val, q.val, 0, 0] : Fin 5 → Nat) a + S1x1x1x256x1024.size a ≤ S2x2x4x256x1024.size a := by
  revert d s q; decide

/-- Slot `s` of stream `(d, q)` in the send or receive buffer. -/
abbrev slotR (d s : Fin 2) (q : Fin 4) : Rect S2x2x4x256x1024 :=
  Rect.unit (s := S2x2x4x256x1024) ![d.val, s.val, q.val, 0, 0] S1x1x1x256x1024.size (slot_inb d s q)

theorem slot_packed (d s : Fin 2) (q : Fin 4) : (slotR d s q).PackedRows (EltTy.packing .bf16) := by
  revert d s q; decide

theorem slot_words (d s : Fin 2) (q : Fin 4) : (slotR d s q).WholeWords (EltTy.packing .bf16) := by
  revert d s q; decide

/-- A slot of the send buffer as a matrix. -/
abbrev sndS (d s : Fin 2) (q : Fin 4) : Memref sig .tc .vmem S256x1024 .bf16 :=
  (sndM.slice (slotR d s q) (fun _ => rfl)).squeeze S256x1024 squeezes_S1x1x1x256x1024_S256x1024

/-- A slot of the receive buffer as a matrix. -/
abbrev rcvS (d s : Fin 2) (q : Fin 4) : Memref sig .tc .vmem S256x1024 .bf16 :=
  (rcvM.slice (slotR d s q) (fun _ => rfl)).squeeze S256x1024 squeezes_S1x1x1x256x1024_S256x1024

theorem sndS_words (d s : Fin 2) (q : Fin 4) : (sndS d s q).view.WordExact :=
  ((Memref.isWhole_whole cc0_scratch0).wordExact_slice rfl _ (slot_words d s q)).reshape _ _

theorem rcvS_words (d s : Fin 2) (q : Fin 4) : (rcvS d s q).view.WordExact :=
  ((Memref.isWhole_whole cc0_scratch1).wordExact_slice rfl _ (slot_words d s q)).reshape _ _

theorem st_inb (s : Fin 2) : ∀ a, (![s.val, 0, 0] : Fin 3 → Nat) a + S1x1024x1024.size a ≤ S2x1024x1024.size a := by
  revert s; decide

/-- One half of the staging buffer as a matrix. -/
abbrev stS (s : Fin 2) : Memref sig .tc .vmem S1024x1024 .f32 :=
  (stM.slice (Rect.unit (s := S2x1024x1024) ![s.val, 0, 0] S1x1024x1024.size (st_inb s)) (fun _ => rfl)).squeeze
    S1024x1024 squeezes_S1x1024x1024_S1024x1024

theorem stq_inb (s : Fin 2) (q : Fin 4) :
    ∀ a, (![s.val, 256 * q.val, 0] : Fin 3 → Nat) a + S1x256x1024.size a ≤ S2x1024x1024.size a := by
  revert s q; decide

abbrev stR (s : Fin 2) (q : Fin 4) : Rect S2x1024x1024 :=
  Rect.unit (s := S2x1024x1024) ![s.val, 256 * q.val, 0] S1x256x1024.size (stq_inb s q)

theorem wb_inb (d : Fin 2) : ∀ a, (![0, 1024 * d.val] : Fin 2 → Nat) a + S1024x1024.size a ≤ S1024x2048.size a := by
  revert d; decide

/-- The columns of direction `d` of the weight. -/
abbrev wR (d : Fin 2) : Rect S1024x2048 :=
  Rect.unit (s := S1024x2048) ![0, 1024 * d.val] S1024x1024.size (wb_inb d)

theorem w_packed (d : Fin 2) : (wR d).PackedRows (EltTy.packing .bf16) := by revert d; decide

abbrev xbR (off : Fin 2 → Nat) (h : ∀ a, off a + S256x1024.size a ≤ S4096x1024.size a) : Rect S4096x1024 :=
  Rect.unit (s := S4096x1024) off S256x1024.size h

abbrev oS (off : Fin 2 → Nat) (h : ∀ a, off a + S256x1024.size a ≤ S4096x2048.size a) :
    Memref sig .tc .hbm S256x1024 .bf16 :=
  oM.slice (Rect.unit (s := S4096x2048) off S256x1024.size h) (fun _ => rfl)

abbrev xS (off : Fin 2 → Nat) (h : ∀ a, off a + S1024x1024.size a ≤ S4096x1024.size a) :
    Memref sig .tc .hbm S1024x1024 .f32 :=
  xM.slice (Rect.unit (s := S4096x1024) off S1024x1024.size h) (fun _ => rfl)

/-! ## Semaphores -/

theorem sem_inb (d : Fin 2) (h : Fin 6) (q : Fin 4) :
    ∀ a, (![d.val, h.val, q.val] : Fin 3 → Nat) a + S1x1x1.size a ≤ S2x6x4.size a := by revert d h q; decide
theorem osem_inb (d : Fin 2) (j : Fin 3) (q : Fin 4) :
    ∀ a, (![d.val, j.val, q.val] : Fin 3 → Nat) a + S1x1x1.size a ≤ S2x3x4.size a := by revert d j q; decide
theorem csem_inb (d : Fin 2) (q : Fin 4) :
    ∀ a, (![d.val, q.val] : Fin 2 → Nat) a + S1x1.size a ≤ S2x4.size a := by revert d q; decide
theorem xsem_inb (j : Fin 4) : ∀ a, (![j.val] : Fin 1 → Nat) a + S1.size a ≤ S4.size a := by revert j; decide

abbrev sSem (d : Fin 2) (h : Fin 6) (q : Fin 4) : DmaSem sig :=
  ((cc0_scratch5.slice (Rect.unit (s := S2x6x4) ![d.val, h.val, q.val] S1x1x1.size (sem_inb d h q))).squeeze
    S_ squeezes_S1x1x1_S_).sem
abbrev rSem (d : Fin 2) (h : Fin 6) (q : Fin 4) : DmaSem sig :=
  ((cc0_scratch6.slice (Rect.unit (s := S2x6x4) ![d.val, h.val, q.val] S1x1x1.size (sem_inb d h q))).squeeze
    S_ squeezes_S1x1x1_S_).sem
abbrev cSem (d : Fin 2) (q : Fin 4) : Sem sig :=
  ((cc0_scratch7.slice (Rect.unit (s := S2x4) ![d.val, q.val] S1x1.size (csem_inb d q))).squeeze
    S_ squeezes_S1x1_S_).sem
abbrev oSem (d : Fin 2) (j : Fin 3) (q : Fin 4) : DmaSem sig :=
  ((cc0_scratch8.slice (Rect.unit (s := S2x3x4) ![d.val, j.val, q.val] S1x1x1.size (osem_inb d j q))).squeeze
    S_ squeezes_S1x1x1_S_).sem
abbrev xSem (j : Fin 4) : DmaSem sig :=
  ((cc0_scratch9.slice (Rect.unit (s := S4) ![j.val] S1.size (xsem_inb j))).squeeze S_ squeezes_S1_S_).sem
abbrev bSem : Sem sig := (SemArray.scalar (sig.barrier 0 rfl) : Sems sig S_).sem

/-! ## Places named by the device -/

/-- The word of row `256 q`. -/
abbrev rw256 (q : Fin 4) : BitVec 32 := BitVec.ofNat 32 (256 * q.val)

/-- The left neighbour, the right neighbour. -/
abbrev lft (c : Dev nD) : Dev nD := ⟨k0_dev1 c, k0_dev1_lt c⟩
abbrev rgt (c : Dev nD) : Dev nD := ⟨k0_dev2 c, k0_dev2_lt c⟩

/-- The neighbour the stream `d` sends to. -/
abbrev sndTo (d : Fin 2) (c : Dev nD) : Dev nD := ![rgt c, lft c] d
/-- The neighbour it receives from. -/
abbrev rcvFrom (d : Fin 2) (c : Dev nD) : Dev nD := ![lft c, rgt c] d

/-- Rows of the `n`-th product of direction `d`. -/
abbrev dotOff (n : Fin 4) (d : Fin 2) (q : Fin 4) (c : Dev nD) : Fin 2 → Nat :=
  ![![k0_off3 c (rw256 q), k0_off3 c (rw256 q)],
    ![k0_off5 c 1#32 (rw256 q), k0_off5 c 4294967295#32 (rw256 q)],
    ![k0_off5 c 2#32 (rw256 q), k0_off5 c 4294967294#32 (rw256 q)],
    ![k0_off5 c 3#32 (rw256 q), k0_off5 c 4294967293#32 (rw256 q)]] n d

theorem dotOff_inb : ∀ n d q c, ∀ a, dotOff n d q c a + S256x1024.size a ≤ S4096x1024.size a := by
  decide +kernel

/-- Rows the cast of the `n`-th fetched chunk writes. -/
abbrev castOff (n : Fin 4) (q : Fin 4) (c : Dev nD) : Fin 2 → Nat :=
  ![k0_off3 c (rw256 q), k0_off5 c 1#32 (rw256 q), k0_off6 c 1#32 (rw256 q), k0_off6 c 2#32 (rw256 q)] n

theorem castOff_inb : ∀ n q c, ∀ a, castOff n q c a + S256x1024.size a ≤ S4096x1024.size a := by
  decide +kernel
theorem castOff_packed : ∀ n q c, (xbR (castOff n q c) (castOff_inb n q c)).PackedRows (EltTy.packing .bf16) := by
  decide +kernel

/-- Rows of the `n`-th fetched chunk. -/
abbrev fetOff (n : Fin 4) (c : Dev nD) : Fin 2 → Nat :=
  ![k0_off1 c, k0_off2 c, k0_off4 c 1#32, k0_off4 c 2#32] n

theorem fetOff_inb : ∀ n c, ∀ a, fetOff n c a + S1024x1024.size a ≤ S4096x1024.size a := by
  decide +kernel

/-- Where the `j`-th copy of stream `(d, q)` into the result goes. -/
abbrev outOff (j : Fin 3) (d : Fin 2) (q : Fin 4) (c : Dev nD) : Fin 2 → Nat :=
  ![![k0_off7 c (rw256 q), k0_off8 c (rw256 q)],
    ![k0_off9 c (rw256 q), k0_off10 c (rw256 q)],
    ![k0_off11 c (rw256 q), k0_off12 c (rw256 q)]] j d

theorem outOff_inb : ∀ j d q c, ∀ a, outOff j d q c a + S256x1024.size a ≤ S4096x2048.size a := by
  decide +kernel
theorem outOff_words : ∀ j d q c,
    (Rect.unit (s := S4096x2048) (outOff j d q c) S256x1024.size (outOff_inb j d q c)).WholeWords (EltTy.packing .bf16) := by
  decide +kernel

abbrev outS (j : Fin 3) (d : Fin 2) (q : Fin 4) (c : Dev nD) : Memref sig .tc .hbm S256x1024 .bf16 :=
  oS (outOff j d q c) (outOff_inb j d q c)

theorem outS_words (j : Fin 3) (d : Fin 2) (q : Fin 4) (c : Dev nD) : (outS j d q c).view.WordExact :=
  (Memref.isWhole_whole main_v1).wordExact_slice rfl _ (outOff_words j d q c)

/-! ## Values -/

/-- A staged block of rows rounded. -/
def castP (v : Vec F S1x256x1024 .f32) : FVec F S256x1024 .bf16 :=
  shapeCast S256x1024 (truncf .bf16 (shapeCast S256x1024 v shapeCasts_S1x256x1024_S256x1024) bitsLt_bf16_f32)
    shapeCasts_S256x1024_S256x1024

/-- Half of the weight rounded. -/
def castW (v : Vec F S1024x1024 .f32) : FVec F S1024x1024 .bf16 :=
  shapeCast S1024x1024 (truncf .bf16 (shapeCast S1024x1024 v shapeCasts_S1024x1024_S1024x1024) bitsLt_bf16_f32)
    shapeCasts_S1024x1024_S1024x1024

/-- A product of rows and half of the weight, rounded. -/
def dotP (v : Vec F S256x1024 .bf16) (w : Vec F S1024x1024 .bf16) : FVec F S256x1024 .bf16 :=
  truncf .bf16 (matmul dot_S256x1024_S1024x1024_S256x1024_1_0_0_1_n_n none v w
    (constant S256x1024 .f32 0x00000000#32)) bitsLt_bf16_f32

/-- Reading a slot as a matrix, and back. -/
def toMat (v : Vec F S1x1x1x256x1024 .bf16) : FVec F S256x1024 .bf16 :=
  shapeCast S256x1024 v shapeCasts_S1x1x1x256x1024_S256x1024
def ofMat (v : FVec F S256x1024 .bf16) : FVec F S1x1x1x256x1024 .bf16 :=
  shapeCast S1x1x1x256x1024 v shapeCasts_S256x1024_S1x1x1x256x1024

/-- Accumulating what came in: the last time, clipped below at zero. -/
def addP (relu : Bool) (u v : FVec F S256x1024 .bf16) : FVec F S256x1024 .bf16 :=
  match relu with
  | false => addf u v
  | true => maximumf (addf u v) (broadcast S256x1024 (Scalar.ofBits .bf16 0x0000#16))

/-! ## Steps -/

/-- Fetch a chunk of the operand into half `s` of the staging buffer. -/
def fetchX (n : Fin 4) (s : Fin 2) (c : Dev nD) (k : Prg F) : Prg F :=
  .op (.enqueueDma (xS (fetOff n c) (fetOff_inb n c)) (.here (stS s)) (.dma (xSem n)) (View.wordExact_bits rfl)
    ((View.wordExact_bits rfl).reshape _ _) ⟨Or.inl rfl, trivial⟩) fun _ => k

def waitX (n : Fin 4) (s : Fin 2) (c : Dev nD) (k : Prg F) : Prg F :=
  .op (.waitDma2 (xSem n) (xS (fetOff n c) (fetOff_inb n c)) (stS s) (View.wordExact_bits rfl)
    ((View.wordExact_bits rfl).reshape _ _)) fun _ => k

def signal (dst : Dev nD) (sm : Sem sig) (k : Prg F) : Prg F :=
  .op (.semSignal (dst, .tc) sm (1#32).toInt) fun _ => k

def await (sm : Sem sig) (n : BitVec 32) (k : Prg F) : Prg F :=
  .op (.semWait sm n.toInt) fun _ => k

/-- Round half `d` of the weight. -/
def castWS (d : Fin 2) (k : Prg F) : Prg F :=
  .op (.load wM (wR d).toLoadRect (View.loadsAt_vmem h_S1024x1024)) fun v =>
  .op (.load wbM (wR d).toLoadRect (View.loadsAt_vmem h_S1024x1024)) fun _ =>
  .op (.store wbM (wR d) (castW v) Finset.univ (View.stores_vmem h_S1024x1024
    ((Memref.isWhole_whole cc0_scratch3).storeExact_slice rfl _ (w_packed d)) (fun _ => rfl)) (.inl rfl)) fun _ => k

/-- Round a block of rows of the `n`-th chunk, staged in half `s`. -/
def castXS (n : Fin 4) (s : Fin 2) (q : Fin 4) (c : Dev nD) (k : Prg F) : Prg F :=
  .op (.load stM (stR s q).toLoadRect (View.loadsAt_vmem h_S1x256x1024)) fun v =>
  .op (.load xbM (xbR (castOff n q c) (castOff_inb n q c)).toLoadRect (View.loadsAt_vmem h_S256x1024)) fun _ =>
  .op (.store xbM (xbR (castOff n q c) (castOff_inb n q c)) (castP v) Finset.univ (View.stores_vmem h_S256x1024
    ((Memref.isWhole_whole cc0_scratch2).storeExact_slice rfl _ (castOff_packed n q c)) (fun _ => rfl)) (.inl rfl))
    fun _ => k

/-- The `n`-th product of stream `(d, q)`, into slot `s` of the send buffer. -/
def dotS (n : Fin 4) (s : Fin 2) (d : Fin 2) (q : Fin 4) (c : Dev nD) (k : Prg F) : Prg F :=
  .op (.load xbM (xbR (dotOff n d q c) (dotOff_inb n d q c)).toLoadRect (View.loadsAt_vmem h_S256x1024)) fun v =>
  .op (.load wbM (wR d).toLoadRect (View.loadsAt_vmem h_S1024x1024)) fun w =>
  .op (.load sndM (slotR d s q).toLoadRect (View.loadsAt_vmem h_S1x1x1x256x1024)) fun _ =>
  .op (.store sndM (slotR d s q) (ofMat (dotP v w)) Finset.univ (View.stores_vmem h_S1x1x1x256x1024
    ((Memref.isWhole_whole cc0_scratch0).storeExact_slice rfl _ (slot_packed d s q)) (fun _ => rfl)) (.inl rfl))
    fun _ => k

/-- Accumulate slot `r` of the receive buffer into slot `s` of the send buffer. -/
def accS (relu : Bool) (s r : Fin 2) (d : Fin 2) (q : Fin 4) (k : Prg F) : Prg F :=
  .op (.load sndM (slotR d s q).toLoadRect (View.loadsAt_vmem h_S1x1x1x256x1024)) fun u =>
  .op (.load rcvM (slotR d r q).toLoadRect (View.loadsAt_vmem h_S1x1x1x256x1024)) fun v =>
  .op (.load sndM (slotR d s q).toLoadRect (View.loadsAt_vmem h_S1x1x1x256x1024)) fun _ =>
  .op (.store sndM (slotR d s q) (ofMat (addP relu (toMat u) (toMat v))) Finset.univ (View.stores_vmem h_S1x1x1x256x1024
    ((Memref.isWhole_whole cc0_scratch0).storeExact_slice rfl _ (slot_packed d s q)) (fun _ => rfl)) (.inl rfl))
    fun _ => k

/-- Send along hop `h` of stream `(d, q)`. -/
def sendS {sp sp' : Space} (h : Fin 6) (d : Fin 2) (q : Fin 4) (c : Dev nD)
    (src : Memref sig .tc sp S256x1024 .bf16) (dst : Memref sig .tc sp' S256x1024 .bf16)
    (hs : src.view.WordExact) (hd : dst.view.WordExact)
    (ha : (DmaTarget.remote (nD := nD) (τ := τ) (p := .tc) (Dev.tc (sndTo d c)) dst (.dma (sSem d h q))).Typed sp
      (.dma (rSem d h q)))
    (k : Prg F) : Prg F :=
  .op (.enqueueDma src (.remote (Dev.tc (sndTo d c)) dst (.dma (sSem d h q))) (.dma (rSem d h q)) hs hd ha) fun _ => k

/-- Copy a slot into the result. -/
def outC (j : Fin 3) (d : Fin 2) (q : Fin 4) (c : Dev nD) (src : Memref sig .tc .vmem S256x1024 .bf16)
    (hs : src.view.WordExact) (k : Prg F) : Prg F :=
  .op (.enqueueDma src (.here (outS j d q c)) (.dma (oSem d j q)) hs (outS_words j d q c) ⟨Or.inl rfl, trivial⟩)
    fun _ => k

/-- Wait for a transfer whose destination (of the same extents) is `dst`. -/
def waitD {sp : Space} (sm : DmaSem sig) (dst : Memref sig .tc sp S256x1024 .bf16) (hd : dst.view.WordExact)
    (k : Prg F) : Prg F :=
  .op (.waitDma2 sm dst dst hd hd) fun _ => k

/-! ## Blocks -/

/-- The first product of stream `(d, q)` and its departure. -/
def initS (d : Fin 2) (q : Fin 4) (c : Dev nD) (k : Prg F) : Prg F :=
  dotS 0 0 d q c <|
  sendS 0 d q c (sndS d 0 q) (rcvS d 0 q) (sndS_words d 0 q) (rcvS_words d 0 q) ⟨⟨rfl, Or.inl rfl⟩, trivial⟩ k

/-- The first hop's round: the transfers of hop `h` ended at both streams of `q`. -/
def waitsVV (h : Fin 6) (q : Fin 4) (src dst : Fin 2 → Memref sig .tc .vmem S256x1024 .bf16)
    (hs : ∀ d, (src d).view.WordExact) (hd : ∀ d, (dst d).view.WordExact) (k : Prg F) : Prg F :=
  waitD (sSem 0 h q) (src 0) (hs 0) <| waitD (rSem 0 h q) (dst 0) (hd 0) <|
  waitD (sSem 1 h q) (src 1) (hs 1) <| waitD (rSem 1 h q) (dst 1) (hd 1) k

/-- Accumulate slot `r` into slot `s` and free slot `r`. -/
def accC (relu : Bool) (s r d : Fin 2) (q : Fin 4) (c : Dev nD) (k : Prg F) : Prg F :=
  accS relu s r d q <| signal (rcvFrom d c) (cSem d q) k

def dots (n : Fin 4) (s : Fin 2) (q : Fin 4) (c : Dev nD) (k : Prg F) : Prg F :=
  dotS n s 0 q c <| dotS n s 1 q c k

/-- Send slot `s` of the send buffer to the neighbour's receive slot `s`. -/
def sendSnd (h : Fin 6) (s d : Fin 2) (q : Fin 4) (c : Dev nD) (k : Prg F) : Prg F :=
  sendS h d q c (sndS d s q) (rcvS d s q) (sndS_words d s q) (rcvS_words d s q) ⟨⟨rfl, Or.inl rfl⟩, trivial⟩ k

def hop0 (q : Fin 4) (c : Dev nD) (k : Prg F) : Prg F :=
  dots 1 1 q c <|
  waitsVV 0 q (fun d => sndS d 0 q) (fun d => rcvS d 0 q) (fun d => sndS_words d 0 q) (fun d => rcvS_words d 0 q) <|
  accC false 1 0 0 q c <| accC false 1 0 1 q c <|
  sendSnd 1 1 0 q c <| sendSnd 1 1 1 q c k

def hop1 (q : Fin 4) (c : Dev nD) (k : Prg F) : Prg F :=
  castXS 3 1 q c <|
  dots 2 0 q c <|
  waitsVV 1 q (fun d => sndS d 1 q) (fun d => rcvS d 1 q) (fun d => sndS_words d 1 q) (fun d => rcvS_words d 1 q) <|
  accC false 0 1 0 q c <| accC false 0 1 1 q c <|
  await (cSem 0 q) 1#32 <| sendSnd 2 0 0 q c <|
  await (cSem 1 q) 1#32 <| sendSnd 2 0 1 q c k

def hop2 (q : Fin 4) (c : Dev nD) (k : Prg F) : Prg F :=
  dots 3 1 q c <|
  waitsVV 2 q (fun d => sndS d 0 q) (fun d => rcvS d 0 q) (fun d => sndS_words d 0 q) (fun d => rcvS_words d 0 q) <|
  accC true 1 0 0 q c <| accC true 1 0 1 q c <|
  outC 0 0 q c (sndS 0 1 q) (sndS_words 0 1 q) <| outC 0 1 q c (sndS 1 1 q) (sndS_words 1 1 q) <|
  await (cSem 0 q) 1#32 <| sendSnd 3 1 0 q c <|
  await (cSem 1 q) 1#32 <| sendSnd 3 1 1 q c k

/-- Pass on slot 1 of the receive buffer. -/
def sendRcv (d : Fin 2) (q : Fin 4) (c : Dev nD) (k : Prg F) : Prg F :=
  sendS 4 d q c (rcvS d 1 q) (rcvS d 0 q) (rcvS_words d 1 q) (rcvS_words d 0 q) ⟨⟨rfl, Or.inl rfl⟩, trivial⟩ k

/-- Pass on slot 0 of the receive buffer, into the neighbour's result. -/
def sendOut (d : Fin 2) (q : Fin 4) (c : Dev nD) (k : Prg F) : Prg F :=
  sendS 5 d q c (rcvS d 0 q) (outS 2 d q c) (rcvS_words d 0 q) (outS_words 2 d q c) ⟨⟨rfl, Or.inl rfl⟩, trivial⟩ k

def hop3 (q : Fin 4) (c : Dev nD) (k : Prg F) : Prg F :=
  waitsVV 3 q (fun d => sndS d 1 q) (fun d => rcvS d 1 q) (fun d => sndS_words d 1 q) (fun d => rcvS_words d 1 q) <|
  outC 1 0 q c (rcvS 0 1 q) (rcvS_words 0 1 q) <| outC 1 1 q c (rcvS 1 1 q) (rcvS_words 1 1 q) <|
  await (cSem 0 q) 1#32 <| sendRcv 0 q c <|
  await (cSem 1 q) 1#32 <| sendRcv 1 q c k

def hop4 (q : Fin 4) (c : Dev nD) (k : Prg F) : Prg F :=
  waitsVV 4 q (fun d => rcvS d 1 q) (fun d => rcvS d 0 q) (fun d => rcvS_words d 1 q) (fun d => rcvS_words d 0 q) <|
  outC 2 0 q c (rcvS 0 0 q) (rcvS_words 0 0 q) <| outC 2 1 q c (rcvS 1 0 q) (rcvS_words 1 0 q) <|
  sendOut 0 q c <| sendOut 1 q c k

def hop5 (q : Fin 4) (c : Dev nD) (k : Prg F) : Prg F :=
  waitD (sSem 0 5 q) (rcvS 0 0 q) (rcvS_words 0 0 q) <| waitD (rSem 0 5 q) (outS 2 0 q c) (outS_words 2 0 q c) <|
  waitD (sSem 1 5 q) (rcvS 1 0 q) (rcvS_words 1 0 q) <| waitD (rSem 1 5 q) (outS 2 1 q c) (outS_words 2 1 q c) k

/-- The copies of `q` into the result ended. -/
def drain (q : Fin 4) (c : Dev nD) (k : Prg F) : Prg F :=
  waitD (oSem 0 0 q) (outS 0 0 q c) (outS_words 0 0 q c) <| waitD (oSem 1 0 q) (outS 0 1 q c) (outS_words 0 1 q c) <|
  waitD (oSem 0 1 q) (outS 1 0 q c) (outS_words 1 0 q c) <| waitD (oSem 1 1 q) (outS 1 1 q c) (outS_words 1 1 q c) <|
  waitD (oSem 0 2 q) (outS 2 0 q c) (outS_words 2 0 q c) <| waitD (oSem 1 2 q) (outS 2 1 q c) (outS_words 2 1 q c) k

/-- What follows the reading of the device's index. -/
def progC (c : Dev nD) : Prg F :=
  fetchX 0 0 c <| fetchX 1 1 c <|
  signal (lft c) bSem <| signal (rgt c) bSem <| await bSem 2#32 <|
  castWS 0 <| waitX 0 0 c <| castXS 0 0 0 c <| initS 0 0 c <| castWS 1 <| initS 1 0 c <|
  castXS 0 0 1 c <| initS 0 1 c <| initS 1 1 c <|
  castXS 0 0 2 c <| initS 0 2 c <| initS 1 2 c <|
  castXS 0 0 3 c <| initS 0 3 c <| initS 1 3 c <|
  fetchX 2 0 c <| waitX 1 1 c <| waitX 2 0 c <|
  castXS 1 1 0 c <| castXS 2 0 0 c <| hop0 0 c <|
  castXS 1 1 1 c <| castXS 2 0 1 c <| hop0 1 c <|
  castXS 1 1 2 c <| castXS 2 0 2 c <| hop0 2 c <|
  castXS 1 1 3 c <| castXS 2 0 3 c <| fetchX 3 1 c <| hop0 3 c <|
  waitX 3 1 c <| hop1 0 c <| hop1 1 c <| hop1 2 c <| hop1 3 c <|
  hop2 0 c <| hop2 1 c <| hop2 2 c <| hop2 3 c <|
  hop3 0 c <| hop3 1 c <| hop3 2 c <| hop3 3 c <|
  hop4 0 c <| hop4 1 c <| hop4 2 c <| hop4 3 c <|
  hop5 0 c <| hop5 1 c <| hop5 2 c <| hop5 3 c <|
  drain 0 c <| drain 1 c <| drain 2 c <| drain 3 c <|
  .ret ⟨⟩

/-- The body. -/
def prog : Prg F := .op .deviceId progC

end Cert.KernelIdeal.Hand
-- ==== Proof.Schedule.lean ====
module

public import proofs.«01_k».proof.Proof.Program
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.MemrefSat
public import Idealize.ShloMosaic.Lib.Tactic

/-! The protocol: the cells, what each hands over, the levels, and what a device owes. -/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

/-! ## The resource algebra -/

/-- A slot of a device that is freed by a credit: the device, the stream, which credit. -/
abbrev Key : Type := Dev nD × Fin 2 × Fin 4 × Fin 3
abbrev UB : Type := URounds (GSem nD τ sig) (Fin 3)
abbrev UU : Type := UR sig nD τ × (UB × USlots Key)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × USlots Key)).trans embR
abbrev ES : Emb (USlots Key) (MT nD τ sig ℕ (Elt F) ℕ UU ℕ) := (Emb.inr : Emb (USlots Key) (UB × USlots Key)).trans embR

/-! ## The cells -/

/-- Send, receive, credit, result, operand, barrier. -/
abbrev CK : Type := (Fin 2 × Fin 6 × Fin 4) ⊕ (Fin 2 × Fin 6 × Fin 4) ⊕ (Fin 2 × Fin 4) ⊕ (Fin 2 × Fin 3 × Fin 4) ⊕ Fin 4 ⊕ Unit

abbrev kS (d : Fin 2) (h : Fin 6) (q : Fin 4) : CK := .inl (d, h, q)
abbrev kR (d : Fin 2) (h : Fin 6) (q : Fin 4) : CK := .inr (.inl (d, h, q))
abbrev kC (d : Fin 2) (q : Fin 4) : CK := .inr (.inr (.inl (d, q)))
abbrev kO (d : Fin 2) (j : Fin 3) (q : Fin 4) : CK := .inr (.inr (.inr (.inl (d, j, q))))
abbrev kX (j : Fin 4) : CK := .inr (.inr (.inr (.inr (.inl j))))
abbrev kB : CK := .inr (.inr (.inr (.inr (.inr ()))))

abbrev csem : CK → SemLoc sig
  | .inl (d, h, q) => .dma (sSem d h q)
  | .inr (.inl (d, h, q)) => .dma (rSem d h q)
  | .inr (.inr (.inl (d, q))) => .reg (cSem d q)
  | .inr (.inr (.inr (.inl (d, j, q)))) => .dma (oSem d j q)
  | .inr (.inr (.inr (.inr (.inl j)))) => .dma (xSem j)
  | .inr (.inr (.inr (.inr (.inr _)))) => .reg bSem

set_option synthInstance.maxSize 2000 in
set_option synthInstance.maxHeartbeats 200000 in
instance : DecidableEq CK := inferInstance

theorem csem_injective : Function.Injective csem := by
  have h : ∀ a b : CK, csem a = csem b → a = b := by decide +kernel
  exact fun a b => h a b

abbrev cell (c : Dev nD) (k : CK) : GSem nD τ sig := ((c : Thread nD τ), csem k)

/-- Which cell of a device a semaphore is. -/
def kindOf (s : SemLoc sig) : Option CK := Function.partialInv csem s

theorem kindOf_csem (k : CK) : kindOf (csem k) = some k := Function.partialInv_left csem_injective k

/-! ## Places -/

/-- The chunk of the `n`-th product of direction `d`. -/
abbrev dk (n : Fin 4) (d : Fin 2) (c : Dev nD) : Fin 4 := ![c - n, c + n] d
/-- The `n`-th fetched chunk. -/
abbrev fk (n : Fin 4) (c : Dev nD) : Fin 4 := ![c, c - 1, c + 1, c + 2] n
/-- The rows the `j`-th copy into the result writes. -/
abbrev ok (j : Fin 3) (d : Fin 2) (c : Dev nD) : Fin 4 :=
  ![![c + 1, c - 1], ![c, c], ![c - 1, c + 1]] j d

abbrev xbOff (k q : Fin 4) : Fin 2 → Nat := ![1024 * k.val + 256 * q.val, 0]

theorem xb_inb (k q : Fin 4) : ∀ a, xbOff k q a + S256x1024.size a ≤ S4096x1024.size a := by revert k q; decide
theorem dotOff_eq : ∀ n d q c, dotOff n d q c = xbOff (dk n d c) q := by decide +kernel
theorem castOff_eq : ∀ n q c, castOff n q c = xbOff (fk n c) q := by decide +kernel
theorem fetOff_eq : ∀ n c, fetOff n c = ![1024 * (fk n c).val, 0] := by decide +kernel

theorem outOff_eq : ∀ j d q c, outOff j d q c = ![1024 * (ok j d c).val + 256 * q.val, 1024 * d.val] := by
  decide +kernel

/-- A block of rows of the rounded operand. -/
abbrev xbS (k q : Fin 4) : Memref sig .tc .vmem S256x1024 .bf16 :=
  xbM.slice (xbR (xbOff k q) (xb_inb k q)) (fun _ => rfl)
/-- Half of the rounded weight. -/
abbrev wbS (d : Fin 2) : Memref sig .tc .vmem S1024x1024 .bf16 := wbM.slice (wR d) (fun _ => rfl)

/-! ## Values -/

section Values

variable (X : Dev nD → (main_arg0 : Ref sig .tc).ty.Contents (Elt F))
  (Wt : Dev nD → (cc0_stg0_0 : Ref sig .tc).ty.Contents (Elt F))

/-- Rows `1024 k + 256 q …` of device `c`'s operand. -/
def xrow (c : Dev nD) (k q : Fin 4) : Vec F S256x1024 .f32 :=
  (xM.slice (xbR (xbOff k q) (xb_inb k q)) (fun _ => rfl)).view.read (Elt F) (X c)

/-- The same rounded. -/
def xb (c : Dev nD) (k q : Fin 4) : FVec F S256x1024 .bf16 :=
  castP (shapeCast S1x256x1024 (xrow X c k q) (by decide))

/-- Half of device `c`'s weight, rounded. -/
def wb (c : Dev nD) (d : Fin 2) : FVec F S1024x1024 .bf16 :=
  castW ((wM.slice (wR d) (fun _ => rfl)).view.read (Elt F) (Wt c))

/-- Device `c`'s part of chunk `k`, block `q`, half `d` of the product. -/
def part (c : Dev nD) (k : Fin 4) (d : Fin 2) (q : Fin 4) : FVec F S256x1024 .bf16 :=
  dotP (xb X c k q) (wb Wt c d)

/-- What stream `(d, q)` has accumulated at device `c` at hop `h`. -/
def acc (d : Fin 2) (q : Fin 4) : ℕ → Dev nD → FVec F S256x1024 .bf16
  | 0, c => part X Wt c (dk 0 d c) d q
  | 1, c => addP false (part X Wt c (dk 1 d c) d q) (acc d q 0 (rcvFrom d c))
  | 2, c => addP false (part X Wt c (dk 2 d c) d q) (acc d q 1 (rcvFrom d c))
  | _ + 3, c => addP true (part X Wt c (dk 3 d c) d q) (acc d q 2 (rcvFrom d c))

/-- What device `c` sends along hop `h`. -/
def sval (d : Fin 2) (q : Fin 4) (h : Fin 6) (c : Dev nD) : FVec F S256x1024 .bf16 :=
  ![acc X Wt d q 0 c, acc X Wt d q 1 c, acc X Wt d q 2 c, acc X Wt d q 3 c,
    acc X Wt d q 3 (rcvFrom d c), acc X Wt d q 3 (rcvFrom d (rcvFrom d c))] h

/-- What the `j`-th copy into the result carries. -/
def oval (d : Fin 2) (q : Fin 4) (j : Fin 3) (c : Dev nD) : FVec F S256x1024 .bf16 :=
  ![acc X Wt d q 3 c, acc X Wt d q 3 (rcvFrom d c), acc X Wt d q 3 (rcvFrom d (rcvFrom d c))] j

/-- A chunk of device `c`'s operand. -/
def chunk (c : Dev nD) (j : Fin 4) : Vec F S1024x1024 .f32 :=
  (xS (fetOff j c) (fetOff_inb j c)).view.read (Elt F) (X c)

/-! ## What a cell hands over -/

/-- A memref owned at some contents. -/
abbrev held (c : Dev nD) {sp : Space} {s : Shape} {e : EltTy} (m : Memref sig .tc sp s e) (p : PosShare TreeShare) : sProp 𝕄 :=
  iprop(∃ Y : s.Idx → Elt F e, ownsTc c m p Y)

def sendPay (c : Dev nD) (d : Fin 2) (h : Fin 6) (q : Fin 4) : sProp 𝕄 :=
  ![held (F := F) c (sndS d 0 q) fullShare, held (F := F) c (sndS d 1 q) fullShare, held (F := F) c (sndS d 0 q) fullShare,
    held (F := F) c (sndS d 1 q) fullShare.left, held (F := F) c (rcvS d 1 q) fullShare.left,
    held (F := F) c (rcvS d 0 q) fullShare.left] h

def recvPay (c : Dev nD) (d : Fin 2) (h : Fin 6) (q : Fin 4) : sProp 𝕄 :=
  ![ownsTc c (rcvS d 0 q) fullShare (sval X Wt d q h (rcvFrom d c)),
    ownsTc c (rcvS d 1 q) fullShare (sval X Wt d q h (rcvFrom d c)),
    ownsTc c (rcvS d 0 q) fullShare (sval X Wt d q h (rcvFrom d c)),
    ownsTc c (rcvS d 1 q) fullShare (sval X Wt d q h (rcvFrom d c)),
    ownsTc c (rcvS d 0 q) fullShare (sval X Wt d q h (rcvFrom d c)),
    ownsTc c (outS 2 d q (rcvFrom d c)) fullShare (sval X Wt d q h (rcvFrom d c))] h

def outPay (c : Dev nD) (d : Fin 2) (j : Fin 3) (q : Fin 4) : sProp 𝕄 :=
  iprop(ownsTc c (outS j d q c) fullShare (oval X Wt d q j c)
    ∗ ![held (F := F) c (sndS d 1 q) fullShare.right, held (F := F) c (rcvS d 1 q) fullShare.right,
        held (F := F) c (rcvS d 0 q) fullShare.right] j)

/-- Which half of the staging buffer the `j`-th fetch fills. -/
abbrev sx (j : Fin 4) : Fin 2 := ![0, 1, 0, 1] j

def xPay (c : Dev nD) (j : Fin 4) : sProp 𝕄 :=
  iprop(ownsTc c (stS (sx j)) fullShare (chunk X c j)
    ∗ ownsTc c (xS (fetOff j c) (fetOff_inb j c)) fullShare (chunk X c j))

/-- A slot at some contents, as the release library holds it. -/
abbrev slotP (k : Key) : sProp 𝕄 := held (F := F) k.1 (rcvS k.2.1 (![0, 1, 0] k.2.2.2) k.2.2.1) fullShare

/-- The credits up to `k` of device `n`'s stream `(d, q)`. -/
def rel (n : Dev nD) (d : Fin 2) (q : Fin 4) (k : Fin 3) : sProp 𝕄 :=
  ![iprop(released (ES (F := F)) (n, d, q, 0) 1),
    iprop(released (ES (F := F)) (n, d, q, 0) 1 ∗ released (ES (F := F)) (n, d, q, 1) 1),
    iprop(released (ES (F := F)) (n, d, q, 0) 1 ∗ released (ES (F := F)) (n, d, q, 1) 1 ∗ released (ES (F := F)) (n, d, q, 2) 1)] k

/-- What neighbour `n` lends stream `(d, q)` at the start: its two slots and its rows of the last hop. -/
abbrev lend1 (n : Dev nD) (d : Fin 2) (q : Fin 4) : sProp 𝕄 :=
  iprop(held (F := F) n (rcvS d 0 q) fullShare ∗ held (F := F) n (rcvS d 1 q) fullShare
    ∗ held (F := F) n (outS 2 d q (rcvFrom d n)) fullShare)
def lend (n : Dev nD) (d : Fin 2) : sProp 𝕄 :=
  iprop(lend1 (F := F) n d 0 ∗ lend1 (F := F) n d 1 ∗ lend1 (F := F) n d 2 ∗ lend1 (F := F) n d 3)

def barPay (c : Dev nD) (i : Fin 3) : sProp 𝕄 :=
  ![lend (F := F) (sndTo 0 c) 0, lend (F := F) (sndTo 1 c) 1, iprop(emp)] i

def payK (c : Dev nD) : CK → Fin 3 → sProp 𝕄
  | .inl (d, h, q), _ => sendPay (F := F) c d h q
  | .inr (.inl (d, h, q)), _ => recvPay X Wt c d h q
  | .inr (.inr (.inl (d, q))), i => rel (F := F) (sndTo d c) d q i
  | .inr (.inr (.inr (.inl (d, j, q)))), _ => outPay X Wt c d j q
  | .inr (.inr (.inr (.inr (.inl j)))), _ => xPay X c j
  | .inr (.inr (.inr (.inr (.inr _)))), i => barPay (F := F) c i

/-- The units of a transfer of one slot, of one chunk. -/
@[irreducible] def NV : ℕ := (rcvS 0 0 0).view.dmaCredit
@[irreducible] def NX : ℕ := (stS 0).view.dmaCredit
theorem NV_pos : 0 < NV := by unfold NV; exact View.dmaCredit_pos _ (by decide)
theorem NX_pos : 0 < NX := by unfold NX; exact View.dmaCredit_pos _ (by decide)

def amtK : CK → ℕ
  | .inl _ => NV
  | .inr (.inl _) => NV
  | .inr (.inr (.inl _)) => 1
  | .inr (.inr (.inr (.inl _))) => NV
  | .inr (.inr (.inr (.inr (.inl _)))) => NX
  | .inr (.inr (.inr (.inr (.inr _)))) => 1

theorem amtK_pos (k : CK) : 0 < amtK k := by
  unfold amtK
  split <;> first | exact NV_pos | exact NX_pos | exact Nat.one_pos

def dutK : CK → Finset (Fin 3)
  | .inr (.inr (.inl _)) => {0, 1, 2}
  | .inr (.inr (.inr (.inr (.inr _)))) => {0, 1}
  | _ => {0}

/-- The schedule: one round a cell. -/
def Sched : Rounds.Schedule (GSem nD τ sig) (Fin 3) 𝕄 where
  duties g r := if r = 0 then (kindOf g.2).elim ∅ dutK else ∅
  unitless _ := False
  amount g _ _ := (kindOf g.2).elim 1 amtK
  payload g _ i := (kindOf g.2).elim iprop(emp) fun k => payK X Wt g.1.1 k i
  amount_pos g _ _ _ := by
    cases kindOf g.2 with
    | none => exact Nat.one_pos
    | some k => exact amtK_pos k

instance payK_storable (c : Dev nD) (k : CK) (i : Fin 3) : BI.Storable (upEmb : UEmb _ 𝕄) (payK X Wt c k i) := by
  rcases k with ⟨d, h, q⟩ | ⟨d, h, q⟩ | ⟨d, q⟩ | ⟨d, j, q⟩ | j | _
  · show BI.Storable upEmb (sendPay c d h q)
    unfold sendPay; fin_cases h <;> (dsimp; infer_instance)
  · show BI.Storable upEmb (recvPay X Wt c d h q)
    unfold recvPay; fin_cases h <;> (dsimp; infer_instance)
  · show BI.Storable upEmb (rel (sndTo d c) d q i)
    unfold rel; fin_cases i <;> (dsimp; infer_instance)
  · show BI.Storable upEmb (outPay X Wt c d j q)
    unfold outPay; fin_cases j <;> (dsimp; infer_instance)
  · show BI.Storable upEmb (xPay X c j)
    unfold xPay; infer_instance
  · show BI.Storable upEmb (barPay c i)
    unfold barPay lend; fin_cases i <;> (dsimp; infer_instance)

instance Sched_storable (g : GSem nD τ sig) (r : ℕ) (i : Fin 3) :
    BI.Storable (upEmb : UEmb _ 𝕄) ((Sched X Wt).payload g r i) := by
  show BI.Storable upEmb ((kindOf g.2).elim iprop(emp) fun k => payK X Wt g.1.1 k i)
  cases kindOf g.2 with
  | none => exact (inferInstance : BI.Storable (upEmb : UEmb _ 𝕄) iprop(emp))
  | some k => exact payK_storable X Wt _ k i

theorem duties_cell (c : Dev nD) (k : CK) : (Sched X Wt).duties (cell c k) 0 = dutK k := by
  show (if (0 : ℕ) = 0 then (kindOf (csem k)).elim ∅ dutK else ∅) = _
  rw [if_pos rfl, kindOf_csem]; rfl
theorem duties_later (g : GSem nD τ sig) : ∀ r, 1 ≤ r → (Sched X Wt).duties g r = ∅ :=
  fun r hr => if_neg (by omega)
theorem amount_cell (c : Dev nD) (k : CK) (r : ℕ) (i : Fin 3) : (Sched X Wt).amount (cell c k) r i = amtK k := by
  show (kindOf (csem k)).elim 1 amtK = _
  rw [kindOf_csem]; rfl
theorem payload_cell (c : Dev nD) (k : CK) (r : ℕ) (i : Fin 3) : (Sched X Wt).payload (cell c k) r i = payK X Wt c k i := by
  show ((kindOf (csem k)).elim iprop(emp) fun k => payK X Wt c k i) = _
  rw [kindOf_csem]; rfl
theorem expect_cell (c : Dev nD) (k : CK) : (Sched X Wt).expect (cell c k) 0 = (dutK k).card * amtK k := by
  unfold Schedule.expect Schedule.amountOf
  rw [duties_cell, Finset.sum_congr rfl fun i _ => amount_cell X Wt c k 0 i, Finset.sum_const, smul_eq_mul]

end Values

end Cert.KernelIdeal.Hand
-- ==== Proof.Owed.lean ====
module

public import proofs.«01_k».proof.Proof.Schedule

/-! What a device owes, item by item in program order, and the levels of the cells. -/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

/-! ## Neighbours -/

theorem rcvFrom_sndTo : ∀ d c, rcvFrom d (sndTo d c) = c := by decide
theorem sndTo_rcvFrom : ∀ d c, sndTo d (rcvFrom d c) = c := by decide

/-! ## Items -/

/-- A barrier unit, a credit, a transfer. -/
abbrev Itm : Type := Fin 2 ⊕ (Fin 2 × Fin 3 × Fin 4) ⊕ (Fin 2 × Fin 6 × Fin 4)

abbrev iB (d : Fin 2) : Itm := .inl d
abbrev iC (d : Fin 2) (k : Fin 3) (q : Fin 4) : Itm := .inr (.inl (d, k, q))
abbrev iS (d : Fin 2) (h : Fin 6) (q : Fin 4) : Itm := .inr (.inr (d, h, q))

/-- Whom it is owed to, and at which cell of theirs. -/
def iDev (c : Dev nD) : Itm → Dev nD
  | .inl d => rcvFrom d c
  | .inr (.inl (d, _, _)) => rcvFrom d c
  | .inr (.inr (d, _, _)) => sndTo d c
def iKind : Itm → CK
  | .inl _ => kB
  | .inr (.inl (d, _, q)) => kC d q
  | .inr (.inr (d, h, q)) => kR d h q
def iIdx : Itm → ℕ
  | .inr (.inl (_, k, _)) => k.val
  | _ => 0
def iAmt : Itm → ℕ
  | .inr (.inr _) => NV
  | _ => 1
def iLev : Itm → ℕ
  | .inl _ => 1
  | .inr (.inl (_, k, _)) => 2 * k.val + 3
  | .inr (.inr (_, h, _)) => 2 * h.val + 2

def iTally (c : Dev nD) (i : Itm) : CellTallies nD τ sig ℕ := tallyAt (cell (iDev c i) (iKind i)) (iIdx i) (iAmt i)

/-- What is owed for a list of items, the first one on top. -/
def ow (c : Dev nD) : List Itm → CellTallies nD τ sig ℕ
  | [] => 0
  | i :: l => ow c l + iTally c i

def Ow (c : Dev nD) (l : List Itm) : sProp 𝕄 := iprop(∃ W, owes (c : Thread nD τ) (ow c l) W)

/-! ## Levels -/

def L (g : GSem nD τ sig) : Finset ℕ := if g.1.2 = .tc then {0, 1, 2} else ∅
def lvK (ι : ℕ) : CK → ℕ
  | .inr (.inl (_, h, _)) => 2 * h.val + 2
  | .inr (.inr (.inl _)) => 2 * ι + 3
  | .inr (.inr (.inr (.inr (.inr _)))) => 1
  | _ => 0
def lv (g : GSem nD τ sig) (ι : ℕ) : ℕ := (kindOf g.2).elim 0 (lvK ι)

theorem L_of_ne (g : GSem nD τ sig) (h : g.1.2 ≠ .tc) : L g = ∅ := if_neg h
theorem L_tc (c : Dev nD) (sm : SemLoc sig) : L ((c : Thread nD τ), sm) = {0, 1, 2} := if_pos rfl
theorem lv_cell (c : Dev nD) (k : CK) (ι : ℕ) : lv (cell c k) ι = lvK ι k := by
  show (kindOf (csem k)).elim 0 (lvK ι) = _
  rw [kindOf_csem]; rfl

theorem iLev_eq (i : Itm) : lvK (iIdx i) (iKind i) = iLev i := by
  rcases i with d | ⟨d, k, q⟩ | ⟨d, h, q⟩ <;> rfl
theorem iIdx_lt (i : Itm) : iIdx i ∈ ({0, 1, 2} : Finset ℕ) := by
  rcases i with d | ⟨d, k, q⟩ | ⟨d, h, q⟩
  · exact Finset.mem_insert_self _ _
  · show k.val ∈ ({0, 1, 2} : Finset ℕ)
    revert k; decide
  · exact Finset.mem_insert_self _ _

/-- What is owed at a cell is owed for an item. -/
theorem ow_pos (c : Dev nD) {g : GSem nD τ sig} {ι : ℕ} : ∀ l : List Itm, 0 < ow c l g ι →
    ∃ i ∈ l, g = cell (iDev c i) (iKind i) ∧ ι = iIdx i
  | [], h => absurd h (Nat.lt_irrefl 0)
  | i :: l, h => by
    unfold ow at h
    rw [Pi.add_apply, Finsupp.add_apply] at h
    rcases Nat.eq_zero_or_pos (ow c l g ι) with h0 | h0
    · unfold iTally at h
      rw [h0, Nat.zero_add, tallyAt_apply] at h
      by_cases hc : g = cell (iDev c i) (iKind i) ∧ ι = iIdx i
      · exact ⟨i, List.mem_cons_self, hc⟩
      · rw [if_neg hc] at h; exact absurd h (Nat.lt_irrefl 0)
    · obtain ⟨j, hj, hg⟩ := ow_pos c l h0
      exact ⟨j, List.mem_cons_of_mem _ hj, hg⟩

/-- A wait below everything still owed. -/
theorem mayWait_of (c : Dev nD) (sm : SemLoc sig) (ι b : ℕ) (l : List Itm) (hι : ι ∈ ({0, 1, 2} : Finset ℕ))
    (hb : lv ((c : Thread nD τ), sm) ι ≤ b) (hl : ∀ i ∈ l, b < iLev i) :
    (levAts L lv : sProp 𝕄) ⊢ MayWait (c : Thread nD τ) sm ι (ow c l) :=
  MayOwe.of_cut (L := L) (lev := lv) b
    (fun p hp => by rw [Finset.mem_singleton.mp hp, L_tc]; exact hι)
    (fun g u hg => by
      obtain ⟨i, -, rfl, rfl⟩ := ow_pos c l hg
      rw [L_tc]; exact iIdx_lt i)
    (fun p hp => by rw [Finset.mem_singleton.mp hp]; exact hb)
    (fun g u hg => by
      obtain ⟨i, hi, rfl, rfl⟩ := ow_pos c l hg
      rw [lv_cell, iLev_eq]; exact hl i hi)

theorem mayWait_cell (c : Dev nD) (k : CK) (ι : ℕ) (l : List Itm) (hι : ι ∈ ({0, 1, 2} : Finset ℕ))
    (hl : ∀ i ∈ l, lvK ι k < iLev i) :
    (levAts L lv : sProp 𝕄) ⊢ MayWait (c : Thread nD τ) (csem k) ι (ow c l) :=
  mayWait_of c (csem k) ι (lvK ι k) l hι (le_of_eq (lv_cell c k ι)) hl

/-! ## What every device knows -/

section Ctx

variable (X : Dev nD → (main_arg0 : Ref sig .tc).ty.Contents (Elt F))
  (Wt : Dev nD → (cc0_stg0_0 : Ref sig .tc).ty.Contents (Elt F))
  (K : Dev nD × CK → ℕ) (Ks : Key → ℕ)

def Ctx : sProp 𝕄 :=
  iprop((bigSep Finset.univ fun x : Dev nD × CK => cellInv ER (Sched X Wt) (K x) (cell x.1 x.2))
    ∗ (bigSep Finset.univ fun x : Dev nD × CK => reached ER (cell x.1 x.2) 0)
    ∗ (bigSep Finset.univ fun k : Key => slotInv (ES (F := F)) (Ks k) k (slotP k))
    ∗ levAts L lv)

instance Ctx_persistent : BI.Persistent (Ctx X Wt K Ks) := by unfold Ctx; infer_instance

theorem Ctx_inv (c : Dev nD) (k : CK) : Ctx X Wt K Ks ⊢ cellInv ER (Sched X Wt) (K (c, k)) (cell c k) := by
  unfold Ctx
  exact sep_elim_left.trans (bigSep_elim (Φ := fun x : Dev nD × CK => cellInv ER (Sched X Wt) (K x) (cell x.1 x.2)) (Finset.mem_univ (c, k)))
theorem Ctx_reached (c : Dev nD) (k : CK) : Ctx X Wt K Ks ⊢ reached ER (cell c k) 0 := by
  unfold Ctx
  exact sep_elim_right.trans (sep_elim_left.trans (bigSep_elim (Φ := fun x : Dev nD × CK => reached ER (cell x.1 x.2) 0) (Finset.mem_univ (c, k))))
theorem Ctx_slot (k : Key) : Ctx X Wt K Ks ⊢ slotInv (ES (F := F)) (Ks k) k (slotP k) := by
  unfold Ctx
  exact sep_elim_right.trans (sep_elim_right.trans (sep_elim_left.trans (bigSep_elim (Φ := fun k : Key => slotInv (ES (F := F)) (Ks k) k (slotP k)) (Finset.mem_univ k))))
theorem Ctx_lev : Ctx X Wt K Ks ⊢ levAts L lv := by
  unfold Ctx
  exact sep_elim_right.trans (sep_elim_right.trans sep_elim_right)

end Ctx

end Cert.KernelIdeal.Hand
-- ==== Proof.Memory.lean ====
module

public import proofs.«01_k».proof.Proof.Owed

/-! Loads, stores and the memory steps of the body, on memrefs owned at named contents. -/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

/-- A device's program to its end. -/
abbrev Wp (c : Dev nD) (P : Prg F) (Q : PUnit.{1} → sProp 𝕄) : sProp 𝕄 :=
  wp frame (wpE (defs₀ (F := F)) Variants.none (c : Thread nD τ) none) Set.univ P Q

/-! ## Views -/

/-- A memref at other extents holds the same elements in row order. -/
theorem owns_squeeze (c : Dev nD) {sp : Space} {s : Shape} {e : EltTy} (m : Memref sig .tc sp s e) (s' : Shape)
    (h : s.Squeezes s') (h' : s'.numel = s.numel) (q : PosShare TreeShare) (v : s.Idx → Elt F e) :
    (ownsTc c (m.squeeze s' h) q (fun i => v (Shape.reshapeEquiv h' i)) : sProp 𝕄) = ownsTc c m q v := by
  have hset : (m.squeeze s' h).view.set = m.view.set := View.set_reshape _ _
  have hread : ∀ f, ((m.squeeze s' h).view.read (Elt F) f = fun i => v (Shape.reshapeEquiv h' i)) ↔ m.view.read (Elt F) f = v := by
    intro f
    have hr : (m.squeeze s' h).view.read (Elt F) f = fun i => m.view.read (Elt F) f (Shape.reshapeEquiv h' i) := rfl
    rw [hr]
    constructor
    · intro hv
      funext j
      have := congrFun hv ((Shape.reshapeEquiv h').symm j)
      simpa using this
    · rintro rfl; rfl
  show owns _ _ _ _ = owns _ _ _ _
  unfold owns
  refine congrArg _ (funext fun f => ?_)
  rw [hset]
  exact congrArg (fun p : Prop => iprop(⌜p⌝ ∗ _)) (propext (hread f))

/-! ## Loads and stores -/

section Rules

variable (c : Dev nD) {cs : CoreSpace} {s : Shape} {e : EltTy} (m : Memref sig .tc cs s e) (r : Rect s)
  (hr : ∀ a, r.stride a = 1)

theorem load_own {Q : PUnit.{1} → sProp 𝕄} {hl : m.view.LoadsAt r} {p : PosShare TreeShare} {v : r.shape.Idx → Elt F e} {k : (r.shape.Idx → Elt F e) → Prg F} :
    ownsTc c (m.slice r hr) p v
      ⊢ iprop((ownsTc c (m.slice r hr) p v -∗ Wp c (k v) Q) -∗ Wp c (.op (.load m r.toLoadRect hl) k) Q) := by
  show owns _ _ _ _ ⊢ iprop((owns _ _ _ _ -∗ _) -∗ _)
  unfold owns
  iintro ⟨%f, %hf, H⟩ Hk
  iapply (wp_load_rect Variants.none (c : Thread nD τ) none Set.univ (m := m) (r := r) (S := (m.slice r hr).view.set)
    (f := f) (fun _ h => h)) $$ H
  iintro H
  rw [show (m.access r).read (Elt F) f = v from hf]
  iapply Hk
  iexists f
  isplitr
  · ipureintro; exact hf
  · iexact H

theorem load_sub {Q : PUnit.{1} → sProp 𝕄} {hl : m.view.LoadsAt r} {p : PosShare TreeShare} {v : s.Idx → Elt F e} {k : (r.shape.Idx → Elt F e) → Prg F} :
    ownsTc c m p v
      ⊢ iprop((ownsTc c m p v -∗ Wp c (k (fun j => v (r.emb j))) Q) -∗ Wp c (.op (.load m r.toLoadRect hl) k) Q) := by
  show owns _ _ _ _ ⊢ iprop((owns _ _ _ _ -∗ _) -∗ _)
  unfold owns
  iintro ⟨%f, %hf, H⟩ Hk
  subst hf
  iapply (wp_load_rect Variants.none (c : Thread nD τ) none Set.univ (m := m) (r := r) (S := m.view.set)
    (f := f) (View.set_slice_subset _ _)) $$ H
  iintro H
  iapply Hk
  iexists f
  isplitr
  · ipureintro; rfl
  · iexact H

theorem store_own {Q : PUnit.{1} → sProp 𝕄} {hx hm} {v w : r.shape.Idx → Elt F e} {k : Prg F} :
    ownsTc c (m.slice r hr) fullShare v
      ⊢ iprop((ownsTc c (m.slice r hr) fullShare w -∗ Wp c k Q)
        -∗ Wp c (.op (.store m r w Finset.univ hx hm) fun _ => k) Q) := by
  show owns _ _ _ _ ⊢ iprop((owns _ _ _ _ -∗ _) -∗ _)
  unfold owns
  iintro ⟨%f, %hf, H⟩ Hk
  iapply (wp_store Variants.none (c : Thread nD τ) none Set.univ (m := m) (r := r) (Mk := Finset.univ) (S := (m.slice r hr).view.set)
    (f := f) (fun _ h => h)) $$ H
  iintro H
  iapply Hk
  iexists ((m.access r).write (Elt F) f w Finset.univ)
  isplitr
  · ipureintro; exact View.read_write_univ _ _
  · iexact H

end Rules

end Cert.KernelIdeal.Hand
-- ==== Proof.MemSteps.lean ====
module

public import proofs.«01_k».proof.Proof.Memory

/-! The body's steps that touch this device's memory only. -/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

/-! ## Slots read as matrices -/

theorem toMat_ofMat (w : FVec F S256x1024 .bf16) : toMat (ofMat w) = w := by
  funext i
  show w (Shape.reshapeEquiv _ (Shape.reshapeEquiv _ i)) = w i
  rw [Shape.reshapeEquiv_reshapeEquiv, Shape.reshapeEquiv_self]

theorem snd_slot (c : Dev nD) (d s : Fin 2) (q : Fin 4) (p : PosShare TreeShare) (w : FVec F S256x1024 .bf16) :
    (ownsTc c (sndS d s q) p w : sProp 𝕄) = ownsTc c (sndM.slice (slotR d s q) (fun _ => rfl)) p (ofMat w) := by
  exact (congrArg (fun v : FVec F S256x1024 .bf16 => (ownsTc c (sndS d s q) p v : sProp 𝕄)) (toMat_ofMat w).symm).trans
    (owns_squeeze c (sndM.slice (slotR d s q) (fun _ => rfl)) S256x1024 squeezes_S1x1x1x256x1024_S256x1024
      shapeCasts_S1x1x1x256x1024_S256x1024 p (ofMat w))

theorem rcv_slot (c : Dev nD) (d s : Fin 2) (q : Fin 4) (p : PosShare TreeShare) (w : FVec F S256x1024 .bf16) :
    (ownsTc c (rcvS d s q) p w : sProp 𝕄) = ownsTc c (rcvM.slice (slotR d s q) (fun _ => rfl)) p (ofMat w) := by
  exact (congrArg (fun v : FVec F S256x1024 .bf16 => (ownsTc c (rcvS d s q) p v : sProp 𝕄)) (toMat_ofMat w).symm).trans
    (owns_squeeze c (rcvM.slice (slotR d s q) (fun _ => rfl)) S256x1024 squeezes_S1x1x1x256x1024_S256x1024
      shapeCasts_S1x1x1x256x1024_S256x1024 p (ofMat w))

section Steps

variable (X : Dev nD → (main_arg0 : Ref sig .tc).ty.Contents (Elt F))
  (Wt : Dev nD → (cc0_stg0_0 : Ref sig .tc).ty.Contents (Elt F))

theorem step_castW (c : Dev nD) (d : Fin 2) (k : Prg F) (Q : PUnit.{1} → sProp 𝕄) :
    iprop(ownsTc c wM fullShare (Wt c) ∗ held (F := F) c (wbS d) fullShare)
      ⊢ iprop((ownsTc c wM fullShare (Wt c) ∗ ownsTc c (wbS d) fullShare (wb Wt c d) -∗ Wp c k Q) -∗ Wp c (castWS d k) Q) := by
  unfold castWS
  iintro ⟨Hw, ⟨%y, Hb⟩⟩ Hk
  iapply (load_sub c wM (wR d)) $$ Hw
  iintro Hw
  iapply (load_own c wbM (wR d) (fun _ => rfl)) $$ Hb
  iintro Hb
  iapply (store_own c wbM (wR d) (fun _ => rfl) (w := wb Wt c d)) $$ Hb
  iintro Hb
  iapply Hk
  isplitl [Hw] <;> iassumption

/-- Rows of a staged chunk, as the chunk's own rows. -/
theorem stage_emb (s : Fin 2) (q : Fin 4) (j : (stR s q).shape.Idx) :
    ∃ i : S1024x1024.Idx, (stR s q).emb j = (Rect.unit (s := S2x1024x1024) ![s.val, 0, 0] S1x1024x1024.size (st_inb s)).emb
        (Shape.reshapeEquiv (s := S1x1024x1024) (s' := S1024x1024) (by decide) i)
      ∧ (i 0).val = 256 * q.val + (j 1).val ∧ (i 1).val = (j 2).val := by
  have h1 : (j 1).val < 256 := (j 1).isLt
  have h2 : (j 2).val < 1024 := (j 2).isLt
  have h0 : (j 0).val < 1 := (j 0).isLt
  have hq := q.isLt
  let i : S1024x1024.Idx := Fin.cons (⟨256 * q.val + (j 1).val, by show _ < 1024; omega⟩) (Fin.cons ⟨(j 2).val, h2⟩ finZeroElim)
  refine ⟨i, ?_, rfl, rfl⟩
  have hrs : Shape.reshapeEquiv (s := S1x1024x1024) (s' := S1024x1024) (by decide) i = Fin.cons ⟨0, Nat.one_pos⟩ i :=
    Shape.reshapeEquiv_cons_one (d := S1024x1024.size) _ i
  rw [hrs]
  funext a
  apply Fin.ext
  simp only [Rect.emb_apply]
  fin_cases a
  · show s.val + 1 * (j 0).val = s.val + 1 * 0; omega
  · show 256 * q.val + 1 * (j 1).val = 0 + 1 * (256 * q.val + (j 1).val); omega
  · show 0 + 1 * (j 2).val = 0 + 1 * (j 2).val; omega

theorem stage_access (s : Fin 2) (q : Fin 4) (j : (stR s q).shape.Idx) :
    ∃ i : S1024x1024.Idx, (stM.access (stR s q)).emb j = (stS s).view.emb i
      ∧ (i 0).val = 256 * q.val + (j 1).val ∧ (i 1).val = (j 2).val := by
  obtain ⟨i, hi, h0, h1⟩ := stage_emb s q j
  exact ⟨i, hi, h0, h1⟩

theorem stage_set (s : Fin 2) (q : Fin 4) : (stM.access (stR s q)).set ⊆ (stS s).view.set := by
  intro x hx
  obtain ⟨j, -, rfl⟩ := Finset.mem_map.mp hx
  obtain ⟨i, hi, -⟩ := stage_access s q j
  rw [hi]
  exact Finset.mem_map_of_mem _ (Finset.mem_univ _)

/-- What the load of staged rows reads. -/
theorem stage_read (c : Dev nD) (n : Fin 4) (s : Fin 2) (q : Fin 4) (f : (stS s).view.ty.Contents (Elt F))
    (hf : (stS s).view.read (Elt F) f = chunk X c n) :
    (stM.access (stR s q)).read (Elt F) f = shapeCast S1x256x1024 (xrow X c (fk n c) q) (by decide) := by
  funext j
  obtain ⟨i, hi, h0, h1⟩ := stage_access s q j
  have hl : (stM.access (stR s q)).read (Elt F) f j = (stS s).view.read (Elt F) f i := congrArg f hi
  rw [hl, hf]
  have h1l : (j 1).val < 256 := (j 1).isLt
  have h2l : (j 2).val < 1024 := (j 2).isLt
  have h0l : (j 0).val < 1 := (j 0).isLt
  let y : S256x1024.Idx := Fin.cons ⟨(j 1).val, h1l⟩ (Fin.cons ⟨(j 2).val, h2l⟩ finZeroElim)
  have hy : Shape.reshapeEquiv (s := S256x1024) (s' := S1x256x1024) (by decide) j = y := by
    have h : j = Shape.reshapeEquiv (s := S1x256x1024) (s' := S256x1024) (by decide) y := by
      rw [Shape.reshapeEquiv_cons_one (d := S256x1024.size) _ y]
      funext a
      apply Fin.ext
      fin_cases a
      · show (j 0).val = 0; omega
      · rfl
      · rfl
    conv_lhs => rw [h]
    rw [Shape.reshapeEquiv_reshapeEquiv, Shape.reshapeEquiv_self]
  show chunk X c n i = xrow X c (fk n c) q (Shape.reshapeEquiv (s := S256x1024) (s' := S1x256x1024) (by decide) j)
  rw [hy]
  show X c ((Rect.unit (s := S4096x1024) (fetOff n c) S1024x1024.size (fetOff_inb n c)).emb i)
    = X c ((xbR (xbOff (fk n c) q) (xb_inb (fk n c) q)).emb y)
  refine congrArg _ (funext fun a => Fin.ext ?_)
  simp only [Rect.emb_apply]
  show fetOff n c a + 1 * (i a).val = xbOff (fk n c) q a + 1 * (y a).val
  rw [fetOff_eq]
  fin_cases a
  · show 1024 * (fk n c).val + 1 * (i 0).val = 1024 * (fk n c).val + 256 * q.val + 1 * (j 1).val; omega
  · show 0 + 1 * (i 1).val = 0 + 1 * (j 2).val; omega

theorem load_stage (c : Dev nD) (n : Fin 4) (s : Fin 2) (q : Fin 4) {Q : PUnit.{1} → sProp 𝕄} {hl}
    {k : Vec F S1x256x1024 .f32 → Prg F} :
    ownsTc c (stS s) fullShare (chunk X c n)
      ⊢ iprop((ownsTc c (stS s) fullShare (chunk X c n) -∗ Wp c (k (shapeCast S1x256x1024 (xrow X c (fk n c) q) (by decide))) Q)
        -∗ Wp c (.op (.load stM (stR s q).toLoadRect hl) k) Q) := by
  show owns _ _ _ _ ⊢ iprop((owns _ _ _ _ -∗ _) -∗ _)
  unfold owns
  iintro ⟨%f, %hf, Hs⟩ Hk
  iapply (wp_load_rect Variants.none (c : Thread nD τ) none Set.univ (m := stM) (r := stR s q) (S := (stS s).view.set)
    (f := f) (stage_set s q)) $$ Hs
  iintro Hs
  rw [stage_read X c n s q f hf]
  iapply Hk
  iexists f
  isplitr
  · ipureintro; exact hf
  · iexact Hs

theorem step_castX_at (c : Dev nD) (n : Fin 4) (s : Fin 2) (q : Fin 4) (off : Fin 2 → ℕ)
    (hoff : off = xbOff (fk n c) q) (hin hl hx) (k : Prg F) (Q : PUnit.{1} → sProp 𝕄) :
    iprop(ownsTc c (stS s) fullShare (chunk X c n) ∗ held (F := F) c (xbS (fk n c) q) fullShare)
      ⊢ iprop((ownsTc c (stS s) fullShare (chunk X c n) ∗ ownsTc c (xbS (fk n c) q) fullShare (xb X c (fk n c) q) -∗ Wp c k Q)
        -∗ Wp c (.op (.load stM (stR s q).toLoadRect (View.loadsAt_vmem h_S1x256x1024)) fun v =>
          .op (.load xbM (xbR off hin).toLoadRect hl) fun _ =>
          .op (.store xbM (xbR off hin) (castP v) Finset.univ hx (.inl rfl)) fun _ => k) Q) := by
  subst hoff
  iintro ⟨Hs, ⟨%y, Hb⟩⟩ Hk
  iapply (load_stage X c n s q) $$ Hs
  iintro Hs
  iapply (load_own c xbM (xbR (xbOff (fk n c) q) hin) (fun _ => rfl)) $$ Hb
  iintro Hb
  iapply (store_own c xbM (xbR (xbOff (fk n c) q) hin) (fun _ => rfl) (w := xb X c (fk n c) q)) $$ Hb
  iintro Hb
  iapply Hk
  isplitl [Hs] <;> iassumption

theorem step_castX (c : Dev nD) (n : Fin 4) (s : Fin 2) (q : Fin 4) (k : Prg F) (Q : PUnit.{1} → sProp 𝕄) :
    iprop(ownsTc c (stS s) fullShare (chunk X c n) ∗ held (F := F) c (xbS (fk n c) q) fullShare)
      ⊢ iprop((ownsTc c (stS s) fullShare (chunk X c n) ∗ ownsTc c (xbS (fk n c) q) fullShare (xb X c (fk n c) q) -∗ Wp c k Q)
        -∗ Wp c (castXS n s q c k) Q) :=
  step_castX_at X c n s q _ (castOff_eq n q c) _ _ _ k Q

theorem step_dot_at (c : Dev nD) (n s d q) (off : Fin 2 → ℕ) (hoff : off = xbOff (dk n d c) q) (hin hl hl' hl'' hx)
    (k : Prg F) (Q : PUnit.{1} → sProp 𝕄) :
    iprop(ownsTc c (xbS (dk n d c) q) fullShare (xb X c (dk n d c) q) ∗ ownsTc c (wbS d) fullShare (wb Wt c d)
        ∗ held (F := F) c (sndS d s q) fullShare)
      ⊢ iprop((ownsTc c (xbS (dk n d c) q) fullShare (xb X c (dk n d c) q) ∗ ownsTc c (wbS d) fullShare (wb Wt c d)
          ∗ ownsTc c (sndS d s q) fullShare (part X Wt c (dk n d c) d q) -∗ Wp c k Q)
        -∗ Wp c (.op (.load xbM (xbR off hin).toLoadRect hl) fun v =>
          .op (.load wbM (wR d).toLoadRect hl') fun w =>
          .op (.load sndM (slotR d s q).toLoadRect hl'') fun _ =>
          .op (.store sndM (slotR d s q) (ofMat (dotP v w)) Finset.univ hx (.inl rfl)) fun _ => k) Q) := by
  subst hoff
  iintro ⟨Hx, Hw, ⟨%y, Hs⟩⟩ Hk
  iapply (load_own c xbM (xbR (xbOff (dk n d c) q) hin) (fun _ => rfl)) $$ Hx
  iintro Hx
  iapply (load_own c wbM (wR d) (fun _ => rfl)) $$ Hw
  iintro Hw
  ihave Hs := (Entails.of_eq (snd_slot c d s q fullShare y)) $$ Hs
  iapply (load_own c sndM (slotR d s q) (fun _ => rfl)) $$ Hs
  iintro Hs
  iapply (store_own c sndM (slotR d s q) (fun _ => rfl) (w := ofMat (part X Wt c (dk n d c) d q))) $$ Hs
  iintro Hs
  ihave Hs := (Entails.of_eq (snd_slot c d s q fullShare _).symm) $$ Hs
  iapply Hk
  isplitl [Hx]; · iexact Hx
  isplitl [Hw] <;> iassumption

theorem step_dot (c : Dev nD) (n : Fin 4) (s d : Fin 2) (q : Fin 4) (k : Prg F) (Q : PUnit.{1} → sProp 𝕄) :
    iprop(ownsTc c (xbS (dk n d c) q) fullShare (xb X c (dk n d c) q) ∗ ownsTc c (wbS d) fullShare (wb Wt c d)
        ∗ held (F := F) c (sndS d s q) fullShare)
      ⊢ iprop((ownsTc c (xbS (dk n d c) q) fullShare (xb X c (dk n d c) q) ∗ ownsTc c (wbS d) fullShare (wb Wt c d)
          ∗ ownsTc c (sndS d s q) fullShare (part X Wt c (dk n d c) d q) -∗ Wp c k Q)
        -∗ Wp c (dotS n s d q c k) Q) :=
  step_dot_at X Wt c n s d q _ (dotOff_eq n d q c) _ _ _ _ _ k Q

theorem step_acc (c : Dev nD) (relu : Bool) (s r d : Fin 2) (q : Fin 4) (u v : FVec F S256x1024 .bf16) (k : Prg F)
    (Q : PUnit.{1} → sProp 𝕄) :
    iprop(ownsTc c (sndS d s q) fullShare u ∗ ownsTc c (rcvS d r q) fullShare v)
      ⊢ iprop((ownsTc c (sndS d s q) fullShare (addP relu u v) ∗ ownsTc c (rcvS d r q) fullShare v -∗ Wp c k Q)
        -∗ Wp c (accS relu s r d q k) Q) := by
  unfold accS
  iintro ⟨Hs, Hr⟩ Hk
  ihave Hs := (Entails.of_eq (snd_slot c d s q fullShare u)) $$ Hs
  ihave Hr := (Entails.of_eq (rcv_slot c d r q fullShare v)) $$ Hr
  iapply (load_own c sndM (slotR d s q) (fun _ => rfl)) $$ Hs
  iintro Hs
  iapply (load_own c rcvM (slotR d r q) (fun _ => rfl)) $$ Hr
  iintro Hr
  iapply (load_own c sndM (slotR d s q) (fun _ => rfl)) $$ Hs
  iintro Hs
  rw [toMat_ofMat, toMat_ofMat]
  iapply (store_own c sndM (slotR d s q) (fun _ => rfl) (w := ofMat (addP relu u v))) $$ Hs
  iintro Hs
  ihave Hs := (Entails.of_eq (snd_slot c d s q fullShare _).symm) $$ Hs
  ihave Hr := (Entails.of_eq (rcv_slot c d r q fullShare _).symm) $$ Hr
  iapply Hk
  isplitl [Hs] <;> iassumption

end Steps

end Cert.KernelIdeal.Hand
-- ==== Proof.Comm.lean ====
module

public import proofs.«01_k».proof.Proof.MemSteps

/-! The body's steps that signal, wait and transfer, against what every device knows. -/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

theorem nv_snd (d s : Fin 2) (q : Fin 4) : (sndS d s q).view.dmaCredit = NV := by
  unfold NV; rfl
theorem nv_rcv (d s : Fin 2) (q : Fin 4) : (rcvS d s q).view.dmaCredit = NV := by
  unfold NV; rfl
theorem nv_out (j : Fin 3) (d : Fin 2) (q : Fin 4) (c : Dev nD) : (outS j d q c).view.dmaCredit = NV := by
  unfold NV; rfl
theorem nx_st (s : Fin 2) : (stS s).view.dmaCredit = NX := by
  unfold NX; rfl

/-! ## The states of a cell -/

/-- A cell of one's own whose transfer has not started. -/
def idle (c : Dev nD) (k : CK) : sProp 𝕄 := iprop(atPos ER (cell c k) 0 ∅ 0 ∗ dutyTok ER (cell c k) 0 (0 : Fin 3))
/-- A cell to be waited for. -/
def pend (c : Dev nD) (k : CK) : sProp 𝕄 := iprop(atPos ER (cell c k) 0 ∅ 0 ∗ cred (tallyAt (cell c k) 0 (amtK k)))
/-- The right to pay a duty. -/
def tok (c : Dev nD) (k : CK) (i : Fin 3) : sProp 𝕄 := dutyTok ER (cell c k) 0 i
/-- A cell that is closed. -/
def fin (c : Dev nD) (k : CK) : sProp 𝕄 := semVal (cell c k) 0

/-- The credits before and after the `k`-th. -/
def relB (c : Dev nD) (d : Fin 2) (q : Fin 4) (k : Fin 3) : sProp 𝕄 :=
  ![iprop(emp), rel c d q 0, rel c d q 1] k

instance rel_persistent (c : Dev nD) (d : Fin 2) (q : Fin 4) (k : Fin 3) : BI.Persistent (rel (F := F) c d q k) := by
  unfold rel
  fin_cases k <;> (dsimp; infer_instance)
instance relB_persistent (c : Dev nD) (d : Fin 2) (q : Fin 4) (k : Fin 3) : BI.Persistent (relB (F := F) c d q k) := by
  unfold relB
  fin_cases k <;> (dsimp; infer_instance)

theorem rel_intro (c : Dev nD) (d : Fin 2) (q : Fin 4) (k : Fin 3) :
    iprop(relB (F := F) c d q k ∗ released (ES (F := F)) (c, d, q, k) 1) ⊢ rel c d q k := by
  unfold relB rel
  fin_cases k
  · dsimp; iintro ⟨-, H⟩; iexact H
  · dsimp; iintro ⟨H0, H1⟩; isplitl [H0] <;> iassumption
  · dsimp; iintro ⟨⟨H0, H1⟩, H2⟩
    isplitl [H0]; · iexact H0
    isplitl [H1] <;> iassumption

theorem rel_elim (c : Dev nD) (d : Fin 2) (q : Fin 4) (k i : Fin 3) (h : k ≤ i) :
    rel (F := F) c d q i ⊢ released (ES (F := F)) (c, d, q, k) 1 := by
  revert h
  unfold rel
  fin_cases i <;> fin_cases k <;> intro h <;> first | exact absurd h (by decide) | skip
  · exact Entails.refl _
  · exact sep_elim_left
  · exact sep_elim_right
  · exact sep_elim_left
  · exact sep_elim_right.trans sep_elim_left
  · exact sep_elim_right.trans sep_elim_right

theorem held_excl (c : Dev nD) (d s : Fin 2) (q : Fin 4) :
    iprop(held (F := F) c (rcvS d s q) fullShare ∗ held (F := F) c (rcvS d s q) fullShare) ⊢ (False : sProp 𝕄) := by
  show iprop((∃ Y, owns _ _ _ Y) ∗ (∃ Y, owns _ _ _ Y)) ⊢ _
  unfold owns
  iintro ⟨⟨%Y, %f, -, H⟩, ⟨%Y', %f', -, H'⟩⟩
  have hi : (rcvS d s q).view.emb (fun a => ⟨0, by revert a; decide⟩) ∈ (rcvS d s q).view.set := Finset.mem_map_of_mem _ (Finset.mem_univ _)
  iapply (pointsTo_overlap_false (ℓ := (rcvS d s q).view.loc (c : Thread nD τ)) (I := (rcvS d s q).view.set) (J := (rcvS d s q).view.set) (q := fullShare) (f := f) (g := f') hi hi)
  isplitl [H] <;> iassumption

section Steps

variable (X : Dev nD → (main_arg0 : Ref sig .tc).ty.Contents (Elt F))
  (Wt : Dev nD → (cc0_stg0_0 : Ref sig .tc).ty.Contents (Elt F))
  (K : Dev nD × CK → ℕ) (Ks : Key → ℕ)

/-- A wait for a transfer's end closes its cell. -/
theorem step_wait (c : Dev nD) (k : CK) (hk : dutK k = {0}) {w : TpuEff nD τ sig (Elt F) Λ₀ .tc PUnit.{1}}
    (hw : ∀ R : PUnit.{1} → sProp 𝕄, wpE (defs₀ (F := F)) Variants.none (c : Thread nD τ) none Set.univ w R
      = waitSpec (c : Thread nD τ) Set.univ (csem k) (amtK k) R)
    (l : List Itm) (hl : ∀ i ∈ l, lvK 0 k < iLev i) (P : Prg F) (Q : PUnit.{1} → sProp 𝕄) :
    iprop(Ctx X Wt K Ks ∗ pend c k ∗ Ow c l)
      ⊢ iprop((Ow c l ∗ fin c k ∗ payK X Wt c k 0 -∗ Wp c P Q) -∗ Wp c (.op w fun _ => P) Q) := by
  unfold pend Ow fin
  iintro ⟨#HC, ⟨Hat, Hc⟩, ⟨%W, HO⟩⟩ Hk
  ihave #HI := (Ctx_inv X Wt K Ks c k) $$ HC
  iapply (Rounds.wp_wait_rest_token Variants.none ER (Sched X Wt) (c : Thread nD τ) none (κ := K (c, k))
      hw (Set.mem_univ _) 0 (O := ow c l) (W := W) (R := 0) (m := 0) (T := ∅)
      (by rw [Nat.zero_add]; exact ((expect_cell X Wt c k).trans (by rw [hk]; simp)).symm)) $$ [Hc HO Hat]
  · isplitr; · iexact HI
    isplitl [Hc]; · iexact Hc
    isplitl [HO]; · iexact HO
    isplitr
    · iapply (mayWait_cell (F := F) c k 0 l (by decide) hl)
      iapply (Ctx_lev X Wt K Ks); iexact HC
    iexact Hat
  iintro ⟨HO, Hat, -, Hpay⟩
  imod (Rounds.cell_close ER (Sched X Wt) (Set.mem_univ (K (c, k))) (fun h => h) (R := 0 + 1) (duties_later X Wt (cell c k))) $$ [Hat] with Hz
  · isplitr; · iexact HI
    iexact Hat
  iapply Hk
  isplitl [HO]; · iexists _; iexact HO
  isplitl [Hz]; · iexact Hz
  iapply (Entails.of_eq (show bigSep ((Sched X Wt).duties (cell c k) 0 \ ∅) (fun i => (Sched X Wt).payload (cell c k) 0 i)
    = payK X Wt c k 0 by rw [Finset.sdiff_empty, duties_cell, hk, bigSep_singleton, payload_cell]))
  iexact Hpay

/-- A local transfer started. -/
theorem step_copy (c : Dev nD) (k : CK) (hk : (0 : Fin 3) ∈ dutK k) {sp sp' : Space} {s : Shape} {e : EltTy}
    (src : Memref sig .tc sp s e) (dst : Memref sig .tc sp' s e) {hsrc : src.view.WordExact} {hdst : dst.view.WordExact}
    {hsem : DmaTarget.Typed (nD := nD) (τ := τ) (p := .tc) sp (csem k) (.here dst)}
    (hN : dst.view.amount (csem k) = amtK k) (p : PosShare TreeShare) (v : s.Idx → Elt F e)
    (hpay : iprop(ownsTc c dst fullShare v ∗ ownsTc c src p v) ⊢ payK X Wt c k 0)
    (P : Prg F) (Q : PUnit.{1} → sProp 𝕄) :
    iprop(Ctx X Wt K Ks ∗ idle c k ∗ ownsTc c src p v ∗ held (F := F) c dst fullShare)
      ⊢ iprop((pend c k -∗ Wp c P Q) -∗ Wp c (.op (.enqueueDma src (.here dst) (csem k) hsrc hdst hsem) fun _ => P) Q) := by
  show iprop(Ctx X Wt K Ks ∗ idle c k ∗ owns _ _ _ _ ∗ (∃ Y, owns _ _ _ Y)) ⊢ _
  have hpay' : iprop(owns (Ix := ℕ) (Name := ℕ) (U := UU) (Lvl := ℕ) (c : Thread nD τ) dst fullShare v ∗ owns (c : Thread nD τ) src p v) ⊢ payK X Wt c k 0 := hpay
  unfold idle pend
  unfold owns at hpay' ⊢
  iintro ⟨#HC, ⟨Hat, Ht⟩, ⟨%f, %hf, Hs⟩, ⟨%Y, %g, %hg, Hd⟩⟩ Hk
  ihave #HI := (Ctx_inv X Wt K Ks c k) $$ HC
  ihave #HR := (Ctx_reached X Wt K Ks c k) $$ HC
  subst hf
  iapply (Rounds.wp_copy_pointsTo Variants.none ER (Sched X Wt) (c : Thread nD τ) none (κ := K (c, k)) (r := 0) (d := (0 : Fin 3))
      (fs := f) (fd := g) (q := p)
      (by rw [duties_cell]; exact hk) 0 (amtK k) hN (amount_cell X Wt c k 0 0)
      (by
        rw [payload_cell]
        refine BIBase.Entails.trans ?_ hpay'
        iintro ⟨Hd, Hs⟩
        isplitl [Hd]
        · iexists (dst.view.write (Elt F) g (src.view.read (Elt F) f) Finset.univ); isplitr
          · ipureintro; exact View.read_write_univ _ _
          · iexact Hd
        · iexists f; isplitr
          · ipureintro; rfl
          · iexact Hs)) $$ [Hs Hd Ht]
  · isplitr; · iexact HI
    isplitl [Hs]; · iexact Hs
    isplitl [Hd]; · iexact Hd
    isplitl [Ht]; · iexact Ht
    iexact HR
  iintro Hc
  iapply Hk
  isplitl [Hat] <;> iassumption

/-- A transfer to the neighbour started. -/
theorem step_send (c : Dev nD) (d : Fin 2) (h : Fin 6) (q : Fin 4) {sp sp' : Space}
    (src : Memref sig .tc sp S256x1024 .bf16) (dst : Memref sig .tc sp' S256x1024 .bf16) (hs hd ha)
    (hN : dst.view.dmaCredit = NV) (p : PosShare TreeShare)
    (hpay₁ : ownsTc c src p (sval X Wt d q h c) ⊢ sendPay c d h q)
    (hpay₂ : ownsTc (sndTo d c) dst fullShare (sval X Wt d q h c) ⊢ recvPay X Wt (sndTo d c) d h q)
    (l : List Itm) (P : Prg F) (Q : PUnit.{1} → sProp 𝕄) :
    iprop(Ctx X Wt K Ks ∗ idle c (kS d h q) ∗ tok (sndTo d c) (kR d h q) 0 ∗ ownsTc c src p (sval X Wt d q h c)
        ∗ held (F := F) (sndTo d c) dst fullShare ∗ Ow c (iS d h q :: l))
      ⊢ iprop((pend c (kS d h q) ∗ Ow c l -∗ Wp c P Q) -∗ Wp c (sendS h d q c src dst hs hd ha P) Q) := by
  have hp₁ : owns (Ix := ℕ) (Name := ℕ) (U := UU) (Lvl := ℕ) (c : Thread nD τ) src p (sval X Wt d q h c) ⊢ sendPay c d h q := hpay₁
  have hp₂ : owns (Ix := ℕ) (Name := ℕ) (U := UU) (Lvl := ℕ) (sndTo d c : Thread nD τ) dst fullShare (sval X Wt d q h c) ⊢ recvPay X Wt (sndTo d c) d h q := hpay₂
  show iprop(Ctx X Wt K Ks ∗ idle c _ ∗ tok _ _ _ ∗ owns _ _ _ _ ∗ (∃ Y, owns _ _ _ Y) ∗ Ow _ _) ⊢ _
  unfold idle pend tok Ow sendS
  generalize sval X Wt d q h c = v at *
  rw [show amtK (kS d h q) = NV from rfl]
  unfold owns at hp₁ hp₂ ⊢
  iintro ⟨#HC, ⟨Hat, Ht⟩, Ht', ⟨%f, %hf, Hs⟩, ⟨%Y, %g, %hg, Hd⟩, ⟨%W, HO⟩⟩ Hk
  ihave #HI := (Ctx_inv X Wt K Ks c (kS d h q)) $$ HC
  ihave #HI' := (Ctx_inv X Wt K Ks (sndTo d c) (kR d h q)) $$ HC
  ihave #HR := (Ctx_reached X Wt K Ks c (kS d h q)) $$ HC
  ihave #HR' := (Ctx_reached X Wt K Ks (sndTo d c) (kR d h q)) $$ HC
  subst hf
  iapply (Rounds.wp_send_pointsTo Variants.none ER (Sched X Wt) (c : Thread nD τ) none (κ₁ := K (c, kS d h q)) (κ₂ := K (sndTo d c, kR d h q))
      (r₁ := 0) (r₂ := 0) (d₁ := (0 : Fin 3)) (d₂ := (0 : Fin 3)) (c' := (sndTo d c : Thread nD τ))
      (sS := .dma (sSem d h q)) (sem := .dma (rSem d h q))
      (fs := f) (fd := g) (q := p)
      (by rw [duties_cell X Wt c (kS d h q)]; exact Finset.mem_singleton_self _)
      (by rw [duties_cell X Wt (sndTo d c) (kR d h q)]; exact Finset.mem_singleton_self _)
      0 0 NV hN (amount_cell X Wt c (kS d h q) 0 0) (amount_cell X Wt (sndTo d c) (kR d h q) 0 0) (ow c l) rfl (W := W)
      (by
        rw [payload_cell X Wt c (kS d h q)]
        refine BIBase.Entails.trans ?_ hp₁
        iintro Hs
        iexists f; isplitr
        · ipureintro; rfl
        · iexact Hs)
      (by
        rw [payload_cell X Wt (sndTo d c) (kR d h q)]
        refine BIBase.Entails.trans ?_ hp₂
        iintro Hd
        iexists (dst.view.write (Elt F) g (src.view.read (Elt F) f) Finset.univ); isplitr
        · ipureintro; exact View.read_write_univ _ _
        · iexact Hd)) $$ [Hs Hd Ht Ht' HO]
  · isplitr; · iexact HI
    isplitr; · iexact HI'
    isplitl [Hs]; · iexact Hs
    isplitl [Hd]; · iexact Hd
    isplitl [HO]; · iexact HO
    isplitl [Ht]; · iexact Ht
    isplitr; · iexact HR
    isplitl [Ht']; · iexact Ht'
    iexact HR'
  iintro ⟨Hc, HO⟩
  iapply Hk
  isplitl [Hat Hc]
  · isplitl [Hat] <;> iassumption
  iexists W; iexact HO

end Steps

end Cert.KernelIdeal.Hand
-- ==== Proof.Credit.lean ====
module

public import proofs.«01_k».proof.Proof.Comm

/-! Signals, and the waits on the barrier and on credits. -/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

section Steps

theorem mem_three : ∀ k : Fin 3, k ∈ ({0, 1, 2} : Finset (Fin 3)) := by decide
theorem mem_three' : ∀ k : Fin 3, k.val ∈ ({0, 1, 2} : Finset ℕ) := by decide

variable (X : Dev nD → (main_arg0 : Ref sig .tc).ty.Contents (Elt F))
  (Wt : Dev nD → (cc0_stg0_0 : Ref sig .tc).ty.Contents (Elt F))
  (K : Dev nD × CK → ℕ) (Ks : Key → ℕ)

theorem barPay_eq (c : Dev nD) (d : Fin 2) : barPay (F := F) (rcvFrom d c) (![0, 1] d) = lend c d := by
  unfold barPay
  fin_cases d
  · exact congrArg (fun n => lend (F := F) n 0) (sndTo_rcvFrom 0 c)
  · exact congrArg (fun n => lend (F := F) n 1) (sndTo_rcvFrom 1 c)

/-- The barrier's unit to a neighbour, with what is lent. -/
theorem step_bar (c : Dev nD) (d : Fin 2) (l : List Itm) (P : Prg F) (Q : PUnit.{1} → sProp 𝕄) :
    iprop(Ctx X Wt K Ks ∗ Ow c (iB d :: l) ∗ tok (rcvFrom d c) kB (![0, 1] d) ∗ lend c d)
      ⊢ iprop((Ow c l -∗ Wp c P Q) -∗ Wp c (signal (rcvFrom d c) bSem P) Q) := by
  unfold Ow tok signal
  iintro ⟨#HC, ⟨%W, HO⟩, Ht, Hl⟩ Hk
  ihave #HI := (Ctx_inv X Wt K Ks (rcvFrom d c) kB) $$ HC
  ihave #HR := (Ctx_reached X Wt K Ks (rcvFrom d c) kB) $$ HC
  iapply (Rounds.wp_signal Variants.none ER (Sched X Wt) (c : Thread nD τ) none (dst := (rcvFrom d c : Thread nD τ)) (sem := bSem)
      (κ := K (rcvFrom d c, kB)) (r := 0) (d := ![0, 1] d) (k' := 1)
      (by rw [duties_cell X Wt (rcvFrom d c) kB]; revert d; decide)
      (amount_cell X Wt (rcvFrom d c) kB 0 _) 0 (ow c l) rfl (W := W)) $$ [HO Ht Hl]
  · isplitr; · iexact HI
    isplitl [HO]; · iexact HO
    isplitl [Ht]; · iexact Ht
    isplitl [Hl]
    · rw [payload_cell X Wt (rcvFrom d c) kB]
      iapply (Entails.of_eq (show lend (F := F) c d = payK X Wt (rcvFrom d c) kB (![0, 1] d) from (barPay_eq (F := F) c d).symm))
      iexact Hl
    iexact HR
  iintro HO
  iapply Hk
  iexists W; iexact HO

/-- Both neighbours' units. -/
theorem step_await_bar (c : Dev nD) (l : List Itm) (hl : ∀ i ∈ l, 1 < iLev i) (P : Prg F) (Q : PUnit.{1} → sProp 𝕄) :
    iprop(Ctx X Wt K Ks ∗ (atPos ER (cell c kB) 0 ∅ 0 ∗ cred (tallyAt (cell c kB) 0 2)) ∗ Ow c l)
      ⊢ iprop((Ow c l ∗ fin c kB ∗ lend (sndTo 0 c) 0 ∗ lend (sndTo 1 c) 1 -∗ Wp c P Q) -∗ Wp c (await bSem 2#32 P) Q) := by
  unfold Ow fin await
  iintro ⟨#HC, ⟨Hat, Hc⟩, ⟨%W, HO⟩⟩ Hk
  ihave #HI := (Ctx_inv X Wt K Ks c kB) $$ HC
  iapply (Rounds.wp_wait_rest_token Variants.none ER (Sched X Wt) (c : Thread nD τ) none (κ := K (c, kB)) (sm := .reg bSem) (k' := 2)
      (fun R => wpE_semWait_eq Variants.none (c : Thread nD τ) none Set.univ R) (Set.mem_univ _) 0 (O := ow c l) (W := W) (R := 0) (m := 0) (T := ∅)
      ((expect_cell X Wt c kB).trans (by decide)).symm) $$ [Hc HO Hat]
  · isplitr; · iexact HI
    isplitl [Hc]; · iexact Hc
    isplitl [HO]; · iexact HO
    isplitr
    · iapply (mayWait_cell (F := F) c kB 0 l (by decide) hl)
      iapply (Ctx_lev X Wt K Ks); iexact HC
    iexact Hat
  iintro ⟨HO, Hat, -, Hpay⟩
  imod (Rounds.cell_close ER (Sched X Wt) (Set.mem_univ (K (c, kB))) (fun h => h) (R := 0 + 1) (duties_later X Wt (cell c kB))) $$ [Hat] with Hz
  · isplitr; · iexact HI
    iexact Hat
  ihave Hp := (Entails.of_eq (show bigSep ((Sched X Wt).duties (cell c kB) 0 \ ∅) (fun i => (Sched X Wt).payload (cell c kB) 0 i)
    = iprop(lend (F := F) (sndTo 0 c) 0 ∗ lend (F := F) (sndTo 1 c) 1) by
      rw [Finset.sdiff_empty, duties_cell, show dutK kB = ({0, 1} : Finset (Fin 3)) from rfl,
        bigSep_insert (by decide), bigSep_singleton, payload_cell, payload_cell]; rfl)) $$ Hpay
  icases Hp with ⟨H0, H1⟩
  iapply Hk
  isplitl [HO]; · iexists _; iexact HO
  isplitl [Hz]; · iexact Hz
  isplitl [H0] <;> iassumption

theorem rel_credit (c : Dev nD) (d : Fin 2) (q : Fin 4) (k : Fin 3) :
    payK X Wt (rcvFrom d c) (kC d q) k = rel (F := F) c d q k := by
  show rel (F := F) (sndTo d (rcvFrom d c)) d q k = _
  rw [sndTo_rcvFrom]

/-- The credit by which a slot is freed. -/
theorem step_credit (c : Dev nD) (d : Fin 2) (q : Fin 4) (k : Fin 3) (l : List Itm) (P : Prg F) (Q : PUnit.{1} → sProp 𝕄) :
    iprop(Ctx X Wt K Ks ∗ Ow c (iC d k q :: l) ∗ tok (rcvFrom d c) (kC d q) k ∗ readerAt (ES (F := F)) (c, d, q, k) 0
        ∗ relB c d q k ∗ held (F := F) c (rcvS d (![0, 1, 0] k) q) fullShare)
      ⊢ iprop((Ow c l ∗ rel c d q k -∗ Wp c P Q) -∗ Wp c (signal (rcvFrom d c) (cSem d q) P) Q) := by
  unfold Ow tok signal
  iintro ⟨#HC, ⟨%W, HO⟩, Ht, Hr, #HB, Hs⟩ Hk
  ihave #HI := (Ctx_inv X Wt K Ks (rcvFrom d c) (kC d q)) $$ HC
  ihave #HR := (Ctx_reached X Wt K Ks (rcvFrom d c) (kC d q)) $$ HC
  ihave #HS := (Ctx_slot X Wt K Ks (c, d, q, k)) $$ HC
  imod (slot_release (ES (F := F)) (Set.mem_univ (Ks (c, d, q, k))) (held_excl c d (![0, 1, 0] k) q) 0) $$ [Hr Hs] with ⟨-, #Hrel⟩
  · isplitr; · iexact HS
    isplitl [Hr] <;> iassumption
  ihave #Hrl := (rel_intro (F := F) c d q k) $$ [HB Hrel]
  · isplitr <;> iassumption
  iapply (Rounds.wp_signal Variants.none ER (Sched X Wt) (c : Thread nD τ) none (dst := (rcvFrom d c : Thread nD τ)) (sem := cSem d q)
      (κ := K (rcvFrom d c, kC d q)) (r := 0) (d := k) (k' := 1)
      (by rw [duties_cell X Wt (rcvFrom d c) (kC d q)]; exact mem_three k)
      (amount_cell X Wt (rcvFrom d c) (kC d q) 0 _) k.val (ow c l) rfl (W := W)) $$ [HO Ht]
  · isplitr; · iexact HI
    isplitl [HO]; · iexact HO
    isplitl [Ht]; · iexact Ht
    isplitr
    · rw [payload_cell X Wt (rcvFrom d c) (kC d q)]
      iapply (Entails.of_eq (rel_credit X Wt c d q k).symm)
      iexact Hrl
    iexact HR
  iintro HO
  iapply Hk
  isplitl [HO]; · iexists W; iexact HO
  iexact Hrl

/-- The credit cell of a stream after `n` units of it were consumed. -/
def crAt (c : Dev nD) (d : Fin 2) (q : Fin 4) (n : ℕ) : sProp 𝕄 :=
  iprop(∃ T : Finset (Fin 3), atPos ER (cell c (kC d q)) 0 T n ∗ bigSep T (fun i => rel (F := F) (sndTo d c) d q i))

theorem card_mem : ∀ S : Finset (Fin 3), ∀ n : Fin 3, n.val + 1 ≤ S.card → ∃ i ∈ S, n ≤ i := by decide

theorem payload_credit (c : Dev nD) (d : Fin 2) (q : Fin 4) :
    (fun i => (Sched X Wt).payload (cell c (kC d q)) 0 i) = fun i => rel (F := F) (sndTo d c) d q i :=
  funext fun i => payload_cell X Wt c (kC d q) 0 i

/-- The slot that a credit frees, taken. -/
theorem take_slot (c : Dev nD) (d : Fin 2) (q : Fin 4) (n : Fin 3) (S : Finset (Fin 3)) (hS : n.val + 1 ≤ S.card) :
    iprop(Ctx X Wt K Ks ∗ bigSep S (fun i => rel (F := F) (sndTo d c) d q i) ∗ writeTok (ES (F := F)) (sndTo d c, d, q, n) 1)
      ⊢ (|={Set.univ}=> held (F := F) (sndTo d c) (rcvS d (![0, 1, 0] n) q) fullShare : sProp 𝕄) := by
  obtain ⟨i, hi, hle⟩ := card_mem S n hS
  iintro ⟨#HC, HS, Ht⟩
  ihave Hr := (show bigSep S (fun i => rel (F := F) (sndTo d c) d q i) ⊢ released (ES (F := F)) (sndTo d c, d, q, n) 1 from
    (bigSep_elim (Φ := fun i => rel (F := F) (sndTo d c) d q i) hi).trans (rel_elim (F := F) (sndTo d c) d q n i hle)) $$ HS
  ihave #HI := (Ctx_slot X Wt K Ks (sndTo d c, d, q, n)) $$ HC
  iapply (slot_take (ES (F := F)) (Set.mem_univ (Ks (sndTo d c, d, q, n))) 1)
  isplitr; · iexact HI
  isplitl [Hr] <;> iassumption

/-- A unit of credit consumed: a slot of the neighbour is free. -/
theorem step_await (c : Dev nD) (d : Fin 2) (q : Fin 4) (n : Fin 3) (hn : n.val < 2) (l : List Itm)
    (hl : ∀ i ∈ l, 2 * n.val + 3 < iLev i) (P : Prg F) (Q : PUnit.{1} → sProp 𝕄) :
    iprop(Ctx X Wt K Ks ∗ Ow c l ∗ crAt c d q n.val ∗ cred (tallyAt (cell c (kC d q)) n.val 1)
        ∗ writeTok (ES (F := F)) (sndTo d c, d, q, n) 1)
      ⊢ iprop((Ow c l ∗ crAt c d q (n.val + 1) ∗ held (F := F) (sndTo d c) (rcvS d (![0, 1, 0] n) q) fullShare -∗ Wp c P Q)
        -∗ Wp c (await (cSem d q) 1#32 P) Q) := by
  unfold Ow crAt await
  iintro ⟨#HC, ⟨%W, HO⟩, ⟨%T, Hat, #HT⟩, Hc, Ht⟩ Hk
  ihave #HI := (Ctx_inv X Wt K Ks c (kC d q)) $$ HC
  iapply (Rounds.wp_wait Variants.none ER (Sched X Wt) (c : Thread nD τ) none (κ := K (c, kC d q)) (sm := .reg (cSem d q)) (k' := 1)
      (fun R => wpE_semWait_eq Variants.none (c : Thread nD τ) none Set.univ R) (Set.mem_univ _)
      (cr := Finsupp.single n.val 1) (O := ow c l) (W := W) {(SemLoc.reg (cSem d q), n.val)} (R := 0) (m := n.val) (T := T)
      (by rw [Util.total_single]) (image_single_subset _ _ _)) $$ [Hc HO Hat]
  · isplitr; · iexact HI
    isplitl [Hc]; · iexact Hc
    isplitl [HO]; · iexact HO
    isplitr
    · iapply (mayWait_cell (F := F) c (kC d q) n.val l (mem_three' n) hl)
      iapply (Ctx_lev X Wt K Ks); iexact HC
    iexact Hat
  iintro %S ⟨%hS, HO, Hat, Hpay⟩
  obtain ⟨hTS, hSd, hle⟩ := hS
  have hcard : n.val + 1 ≤ S.card := by
    have he := (expect_cell X Wt c (kC d q)).trans (show (dutK (kC d q)).card * amtK (kC d q) = 3 from rfl)
    have hd := duties_cell X Wt c (kC d q)
    have h1 := Finset.card_sdiff_add_card_eq_card hSd
    rw [show (Sched X Wt).expect ((c : Thread nD τ), SemLoc.reg (cSem d q)) 0 = 3 from he] at hle
    have h2 : ((Sched X Wt).duties ((c : Thread nD τ), SemLoc.reg (cSem d q)) 0).card = 3 :=
      (congrArg Finset.card hd).trans rfl
    rw [h2] at h1
    omega
  ihave #Hpay := (Entails.of_eq (congrArg (bigSep (S \ T)) (payload_credit X Wt c d q))) $$ Hpay
  ihave #HS := (show iprop(bigSep T (fun i => rel (F := F) (sndTo d c) d q i) ∗ bigSep (S \ T) (fun i => rel (F := F) (sndTo d c) d q i))
      ⊢ bigSep S (fun i => rel (F := F) (sndTo d c) d q i) from Entails.of_eq (by
        conv_rhs => rw [← Finset.union_sdiff_of_subset hTS]
        exact (bigSep_union Finset.disjoint_sdiff).symm)) $$ [HT Hpay]
  · isplitr <;> iassumption
  imod (take_slot X Wt K Ks c d q n S hcard) $$ [Ht] with Hs
  · isplitr; · iexact HC
    isplitr; · iexact HS
    iexact Ht
  iapply Hk
  isplitl [HO]; · iexists _; iexact HO
  isplitl [Hat]
  · iexists S
    isplitl [Hat]; · iexact Hat
    iexact HS
  iexact Hs

/-- The last unit of credit consumed: its cell closes. -/
theorem step_await_last (c : Dev nD) (d : Fin 2) (q : Fin 4) (l : List Itm)
    (hl : ∀ i ∈ l, 7 < iLev i) (P : Prg F) (Q : PUnit.{1} → sProp 𝕄) :
    iprop(Ctx X Wt K Ks ∗ Ow c l ∗ crAt c d q 2 ∗ cred (tallyAt (cell c (kC d q)) 2 1)
        ∗ writeTok (ES (F := F)) (sndTo d c, d, q, 2) 1)
      ⊢ iprop((Ow c l ∗ fin c (kC d q) ∗ held (F := F) (sndTo d c) (rcvS d 0 q) fullShare -∗ Wp c P Q)
        -∗ Wp c (await (cSem d q) 1#32 P) Q) := by
  unfold Ow crAt await fin
  iintro ⟨#HC, ⟨%W, HO⟩, ⟨%T, Hat, #HT⟩, Hc, Ht⟩ Hk
  ihave #HI := (Ctx_inv X Wt K Ks c (kC d q)) $$ HC
  iapply (Rounds.wp_wait_rest_token Variants.none ER (Sched X Wt) (c : Thread nD τ) none (κ := K (c, kC d q)) (sm := .reg (cSem d q)) (k' := 1)
      (fun R => wpE_semWait_eq Variants.none (c : Thread nD τ) none Set.univ R) (Set.mem_univ _)
      2 (O := ow c l) (W := W) (R := 0) (m := 2) (T := T)
      ((expect_cell X Wt c (kC d q)).trans (show (dutK (kC d q)).card * amtK (kC d q) = 3 from rfl)).symm) $$ [Hc HO Hat]
  · isplitr; · iexact HI
    isplitl [Hc]; · iexact Hc
    isplitl [HO]; · iexact HO
    isplitr
    · iapply (mayWait_cell (F := F) c (kC d q) 2 l (by decide) hl)
      iapply (Ctx_lev X Wt K Ks); iexact HC
    iexact Hat
  iintro ⟨HO, Hat, -, Hpay⟩
  imod (Rounds.cell_close ER (Sched X Wt) (Set.mem_univ (K (c, kC d q))) (fun h => h) (R := 0 + 1) (duties_later X Wt (cell c (kC d q)))) $$ [Hat] with Hz
  · isplitr; · iexact HI
    iexact Hat
  ihave #Hpay := (Entails.of_eq ((congrArg (bigSep _) (payload_credit X Wt c d q)).trans
    (congrArg (fun D => bigSep (D \ T) (fun i => rel (F := F) (sndTo d c) d q i)) (duties_cell X Wt c (kC d q))))) $$ Hpay
  ihave #HS := (show iprop(bigSep T (fun i => rel (F := F) (sndTo d c) d q i) ∗ bigSep (dutK (kC d q) \ T) (fun i => rel (F := F) (sndTo d c) d q i))
      ⊢ bigSep (T ∪ dutK (kC d q) \ T) (fun i => rel (F := F) (sndTo d c) d q i) from Entails.of_eq (bigSep_union Finset.disjoint_sdiff).symm) $$ [HT Hpay]
  · isplitr <;> iassumption
  imod (take_slot X Wt K Ks c d q 2 (T ∪ dutK (kC d q) \ T) (by
      rw [Finset.union_sdiff_self_eq_union]
      exact (show 3 ≤ (dutK (kC d q)).card from le_of_eq rfl).trans (Finset.card_le_card Finset.subset_union_right))) $$ [Ht] with Hs
  · isplitr; · iexact HC
    isplitr; · iexact HS
    iexact Ht
  iapply Hk
  isplitl [HO]; · iexists _; iexact HO
  isplitl [Hz]; · iexact Hz
  iexact Hs

end Steps

end Cert.KernelIdeal.Hand
-- ==== Proof.Stream.lean ====
module

public import proofs.«01_k».proof.Proof.Credit

/-! The pieces of a hop for one stream. -/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

theorem lev_pos (i : Itm) : 0 < iLev i := by
  rcases i with d | ⟨d, k, q⟩ | ⟨d, h, q⟩
  · exact Nat.one_pos
  · show 0 < 2 * k.val + 3; omega
  · show 0 < 2 * h.val + 2; omega

theorem lt_iS {b : ℕ} {d : Fin 2} {h : Fin 6} {q : Fin 4} (hb : b < 2 * h.val + 2) : b < iLev (iS d h q) := hb
theorem lt_iC {b : ℕ} {d : Fin 2} {k : Fin 3} {q : Fin 4} (hb : b < 2 * k.val + 3) : b < iLev (iC d k q) := hb

/-- Which fetched chunk the `n`-th product of direction `d` reads. -/
abbrev mOf (n : Fin 4) (d : Fin 2) : Fin 4 := ![![0, 0], ![1, 2], ![3, 3], ![2, 1]] n d

theorem dk_fk : ∀ n d c, dk n d c = fk (mOf n d) c := by decide

section Steps

variable (X : Dev nD → (main_arg0 : Ref sig .tc).ty.Contents (Elt F))
  (Wt : Dev nD → (cc0_stg0_0 : Ref sig .tc).ty.Contents (Elt F))
  (K : Dev nD × CK → ℕ) (Ks : Key → ℕ)

/-! ## What is sent, hop by hop -/

theorem sval_0 (d : Fin 2) (q : Fin 4) (c : Dev nD) : part X Wt c (dk 0 d c) d q = sval X Wt d q 0 c := by
  show _ = acc X Wt d q 0 c
  rw [acc]
theorem sval_1 (d : Fin 2) (q : Fin 4) (c : Dev nD) :
    addP false (part X Wt c (dk 1 d c) d q) (sval X Wt d q 0 (rcvFrom d c)) = sval X Wt d q 1 c := by
  show addP false _ (acc X Wt d q 0 _) = acc X Wt d q 1 c
  rw [acc.eq_2]
theorem sval_2 (d : Fin 2) (q : Fin 4) (c : Dev nD) :
    addP false (part X Wt c (dk 2 d c) d q) (sval X Wt d q 1 (rcvFrom d c)) = sval X Wt d q 2 c := by
  show addP false _ (acc X Wt d q 1 _) = acc X Wt d q 2 c
  rw [acc.eq_3]
theorem sval_3 (d : Fin 2) (q : Fin 4) (c : Dev nD) :
    addP true (part X Wt c (dk 3 d c) d q) (sval X Wt d q 2 (rcvFrom d c)) = sval X Wt d q 3 c := by
  show addP true _ (acc X Wt d q 2 _) = acc X Wt d q 3 c
  rw [acc.eq_4]

/-! ## Named resources -/

/-- A block of rows of the rounded operand, filled; the same at any contents. -/
def xO (c : Dev nD) (n q : Fin 4) : sProp 𝕄 := ownsTc c (xbS (fk n c) q) fullShare (xb X c (fk n c) q)
def xH (c : Dev nD) (n q : Fin 4) : sProp 𝕄 := held (F := F) c (xbS (fk n c) q) fullShare
/-- Half of the rounded weight. -/
def wO (c : Dev nD) (d : Fin 2) : sProp 𝕄 := ownsTc c (wbS d) fullShare (wb Wt c d)

def SR (c : Dev nD) (d : Fin 2) (q : Fin 4) (h : Fin 6) : sProp 𝕄 :=
  iprop(idle c (kS d h q) ∗ pend c (kR d h q) ∗ tok (sndTo d c) (kR d h q) 0)
def FL (c : Dev nD) (d : Fin 2) (q : Fin 4) (h : Fin 6) : sProp 𝕄 := iprop(pend c (kS d h q) ∗ pend c (kR d h q))
def FN (c : Dev nD) (d : Fin 2) (q : Fin 4) (h : Fin 6) : sProp 𝕄 := iprop(fin c (kS d h q) ∗ fin c (kR d h q))
def CL (c : Dev nD) (d : Fin 2) (q : Fin 4) : ℕ → sProp 𝕄
  | 0 => iprop(emp)
  | h + 1 => iprop(FN c d q (Fin.ofNat 6 h) ∗ CL c d q h)
/-- What a credit given needs, and what a credit taken needs. -/
def gv (c : Dev nD) (d : Fin 2) (q : Fin 4) (k : Fin 3) : sProp 𝕄 :=
  iprop(tok (rcvFrom d c) (kC d q) k ∗ readerAt (ES (F := F)) (c, d, q, k) 0)
def tk (c : Dev nD) (d : Fin 2) (q : Fin 4) (k : Fin 3) : sProp 𝕄 :=
  iprop(cred (tallyAt (cell c (kC d q)) k.val 1) ∗ writeTok (ES (F := F)) (sndTo d c, d, q, k) 1)

/-! ## Pieces -/

theorem piece_dot (c : Dev nD) (n : Fin 4) (s d : Fin 2) (q : Fin 4) (P : Prg F) (Q : PUnit.{1} → sProp 𝕄) :
    iprop(xO X c (mOf n d) q ∗ wO Wt c d ∗ held (F := F) c (sndS d s q) fullShare)
      ⊢ iprop((xO X c (mOf n d) q ∗ wO Wt c d ∗ ownsTc c (sndS d s q) fullShare (part X Wt c (dk n d c) d q) -∗ Wp c P Q)
        -∗ Wp c (dotS n s d q c P) Q) := by
  unfold xO wO
  have h := step_dot X Wt c n s d q P Q
  rw [dk_fk n d c] at h ⊢
  exact h

theorem piece_waits (c : Dev nD) (d : Fin 2) (h : Fin 6) (q : Fin 4) {sp sp' : Space}
    (src : Memref sig .tc sp S256x1024 .bf16) (hs : src.view.WordExact) (dst : Memref sig .tc sp' S256x1024 .bf16) (hd : dst.view.WordExact)
    (hN : src.view.dmaCredit = NV) (hN' : dst.view.dmaCredit = NV) (A B : sProp 𝕄) (hA : sendPay (F := F) c d h q ⊢ A)
    (hB : recvPay X Wt c d h q ⊢ B)
    (l : List Itm) (hl : ∀ i ∈ l, 2 * h.val + 2 < iLev i) (P : Prg F) (Q : PUnit.{1} → sProp 𝕄) :
    iprop(Ctx X Wt K Ks ∗ FL c d q h ∗ Ow c l)
      ⊢ iprop((Ow c l ∗ FN c d q h ∗ A ∗ B -∗ Wp c P Q)
        -∗ Wp c (waitD (sSem d h q) src hs (waitD (rSem d h q) dst hd P)) Q) := by
  unfold FL FN
  iintro ⟨#HC, ⟨HS, HR⟩, HO⟩ Hk
  unfold waitD
  iapply (step_wait X Wt K Ks c (kS d h q) rfl (w := .waitDma2 (sSem d h q) src src hs hs)
    (fun R => by rw [show amtK (kS d h q) = NV from rfl, ← hN]; rfl) l (fun i _ => lev_pos i) _ Q) $$ [HS HO]
  · isplitr; · iexact HC
    isplitl [HS] <;> iassumption
  iintro ⟨HO, HfS, HpS⟩
  iapply (step_wait X Wt K Ks c (kR d h q) rfl (w := .waitDma2 (rSem d h q) dst dst hd hd)
    (fun R => by rw [show amtK (kR d h q) = NV from rfl, ← hN']; rfl) l hl _ Q) $$ [HR HO]
  · isplitr; · iexact HC
    isplitl [HR] <;> iassumption
  iintro ⟨HO, HfR, HpR⟩
  iapply Hk
  isplitl [HO]; · iexact HO
  isplitl [HfS HfR]; · isplitl [HfS] <;> iassumption
  isplitl [HpS]
  · iapply (show payK X Wt c (kS d h q) 0 ⊢ A from hA); iexact HpS
  · iapply (show payK X Wt c (kR d h q) 0 ⊢ B from hB); iexact HpR

theorem piece_acc (c : Dev nD) (relu : Bool) (s r d : Fin 2) (q : Fin 4) (k : Fin 3) (hr : r = ![0, 1, 0] k)
    (u v : FVec F S256x1024 .bf16) (l : List Itm) (P : Prg F) (Q : PUnit.{1} → sProp 𝕄) :
    iprop(Ctx X Wt K Ks ∗ Ow c (iC d k q :: l) ∗ gv c d q k ∗ relB c d q k ∗ ownsTc c (sndS d s q) fullShare u
        ∗ ownsTc c (rcvS d r q) fullShare v)
      ⊢ iprop((Ow c l ∗ rel c d q k ∗ ownsTc c (sndS d s q) fullShare (addP relu u v) -∗ Wp c P Q)
        -∗ Wp c (accC relu s r d q c P) Q) := by
  subst hr
  unfold gv accC
  iintro ⟨#HC, HO, ⟨Ht, Hr⟩, HB, Hu, Hv⟩ Hk
  iapply (step_acc c relu s (![0, 1, 0] k) d q u v _ Q) $$ [Hu Hv]
  · isplitl [Hu] <;> iassumption
  iintro ⟨Hu, Hv⟩
  iapply (step_credit X Wt K Ks c d q k l P Q) $$ [HO Ht Hr HB Hv]
  · isplitr; · iexact HC
    isplitl [HO]; · iexact HO
    isplitl [Ht]; · iexact Ht
    isplitl [Hr]; · iexact Hr
    isplitl [HB]; · iexact HB
    iexists v; iexact Hv
  iintro ⟨HO, Hrel⟩
  iapply Hk
  isplitl [HO]; · iexact HO
  isplitl [Hrel] <;> iassumption

/-- The accumulation that follows hop `h`. -/
theorem piece_hop (c : Dev nD) (relu : Bool) (s r d : Fin 2) (q : Fin 4) (k : Fin 3) (hr : r = ![0, 1, 0] k) (n : Fin 4) (h h' : Fin 6)
    (hw : addP relu (part X Wt c (dk n d c) d q) (sval X Wt d q h (rcvFrom d c)) = sval X Wt d q h' c)
    (l : List Itm) (P : Prg F) (Q : PUnit.{1} → sProp 𝕄) :
    iprop(Ctx X Wt K Ks ∗ Ow c (iC d k q :: l) ∗ gv c d q k ∗ relB c d q k
        ∗ ownsTc c (sndS d s q) fullShare (part X Wt c (dk n d c) d q)
        ∗ ownsTc c (rcvS d r q) fullShare (sval X Wt d q h (rcvFrom d c)))
      ⊢ iprop((Ow c l ∗ rel c d q k ∗ ownsTc c (sndS d s q) fullShare (sval X Wt d q h' c) -∗ Wp c P Q)
        -∗ Wp c (accC relu s r d q c P) Q) := by
  rw [← hw]
  exact piece_acc X Wt K Ks c relu s r d q k hr _ _ l P Q

/-- A transfer to the neighbour, out of a memref held at a share. -/
theorem piece_send (c : Dev nD) (d : Fin 2) (h : Fin 6) (q : Fin 4) {sp sp' : Space}
    (src : Memref sig .tc sp S256x1024 .bf16) (dst : Memref sig .tc sp' S256x1024 .bf16) (hs hd ha)
    (hN : dst.view.dmaCredit = NV) (p : PosShare TreeShare)
    (hpay₁ : held c src p ⊢ sendPay (F := F) c d h q)
    (hpay₂ : ownsTc (sndTo d c) dst fullShare (sval X Wt d q h c)
      ⊢ ((recvPay X Wt (sndTo d c) d h q : sProp 𝕄)))
    (l : List Itm) (P : Prg F) (Q : PUnit.{1} → sProp 𝕄) :
    iprop(Ctx X Wt K Ks ∗ SR c d q h ∗ ownsTc c src p (sval X Wt d q h c)
        ∗ held (F := F) (sndTo d c) dst fullShare ∗ Ow c (iS d h q :: l))
      ⊢ iprop((FL c d q h ∗ Ow c l -∗ Wp c P Q) -∗ Wp c (sendS h d q c src dst hs hd ha P) Q) := by
  unfold SR FL
  iintro ⟨#HC, ⟨HS, HR, Ht⟩, Hs, Hd, HO⟩ Hk
  iapply (step_send X Wt K Ks c d h q src dst hs hd ha hN p
    ((show ownsTc c src p (sval X Wt d q h c) ⊢ held c src p from by iintro H; iexists _; iexact H).trans hpay₁) hpay₂ l P Q) $$ [HS Ht Hs Hd HO]
  · isplitr; · iexact HC
    isplitl [HS]; · iexact HS
    isplitl [Ht]; · iexact Ht
    isplitl [Hs]; · iexact Hs
    isplitl [Hd] <;> iassumption
  iintro ⟨HS, HO⟩
  iapply Hk
  isplitl [HS HR]; · isplitl [HS] <;> iassumption
  iexact HO

/-- A copy into the result. -/
theorem piece_out (c : Dev nD) (j : Fin 3) (d : Fin 2) (q : Fin 4) (src : Memref sig .tc .vmem S256x1024 .bf16) (hs)
    (hpay : iprop(ownsTc c (outS j d q c) fullShare (oval X Wt d q j c) ∗ held (F := F) c src fullShare.right) ⊢ outPay X Wt c d j q)
    (P : Prg F) (Q : PUnit.{1} → sProp 𝕄) :
    iprop(Ctx X Wt K Ks ∗ idle c (kO d j q) ∗ ownsTc c src fullShare.right (oval X Wt d q j c) ∗ held (F := F) c (outS j d q c) fullShare)
      ⊢ iprop((pend c (kO d j q) -∗ Wp c P Q) -∗ Wp c (outC j d q c src hs P) Q) := by
  refine step_copy X Wt K Ks c (kO d j q) (Finset.mem_singleton_self _) src (outS j d q c) (nv_out j d q c) fullShare.right _ ?_ P Q
  refine BIBase.Entails.trans ?_ hpay
  iintro ⟨H, H'⟩
  isplitl [H]; · iexact H
  iexists _; iexact H'

/-! ## A stream between hops -/

def A1 (c : Dev nD) (d : Fin 2) (q : Fin 4) : sProp 𝕄 :=
  iprop(SR c d q 1 ∗ gv c d q 0 ∗ held (F := F) (sndTo d c) (rcvS d 1 q) fullShare)
def A2 (c : Dev nD) (d : Fin 2) (q : Fin 4) : sProp 𝕄 := iprop(SR c d q 2 ∗ gv c d q 1 ∗ tk c d q 0 ∗ crAt c d q 0)
def A3 (c : Dev nD) (d : Fin 2) (q : Fin 4) : sProp 𝕄 :=
  iprop(SR c d q 3 ∗ gv c d q 2 ∗ tk c d q 1 ∗ idle c (kO d 0 q) ∗ held (F := F) c (outS 0 d q c) fullShare)
def A4 (c : Dev nD) (d : Fin 2) (q : Fin 4) : sProp 𝕄 :=
  iprop(SR c d q 4 ∗ tk c d q 2 ∗ idle c (kO d 1 q) ∗ held (F := F) c (outS 1 d q c) fullShare)
def A5 (c : Dev nD) (d : Fin 2) (q : Fin 4) : sProp 𝕄 :=
  iprop(SR c d q 5 ∗ idle c (kO d 2 q) ∗ held (F := F) c (outS 2 d q c) fullShare
    ∗ held (F := F) (sndTo d c) (outS 2 d q c) fullShare)

/-- Before the first product. -/
def T0 (c : Dev nD) (d : Fin 2) (q : Fin 4) : sProp 𝕄 :=
  iprop(SR c d q 0 ∗ held (F := F) c (sndS d 0 q) fullShare ∗ held (F := F) (sndTo d c) (rcvS d 0 q) fullShare
    ∗ held (F := F) c (sndS d 1 q) fullShare ∗ A1 c d q ∗ A2 c d q ∗ A3 c d q ∗ A4 c d q ∗ A5 c d q)
/-- With the transfers of hops 0 to 5 under way. -/
def T1 (c : Dev nD) (d : Fin 2) (q : Fin 4) : sProp 𝕄 :=
  iprop(FL c d q 0 ∗ held (F := F) c (sndS d 1 q) fullShare ∗ A1 c d q ∗ A2 c d q ∗ A3 c d q ∗ A4 c d q ∗ A5 c d q)
def T2 (c : Dev nD) (d : Fin 2) (q : Fin 4) : sProp 𝕄 :=
  iprop(FL c d q 1 ∗ held (F := F) c (sndS d 0 q) fullShare ∗ rel c d q 0 ∗ CL c d q 1 ∗ A2 c d q ∗ A3 c d q ∗ A4 c d q ∗ A5 c d q)
def T3 (c : Dev nD) (d : Fin 2) (q : Fin 4) : sProp 𝕄 :=
  iprop(FL c d q 2 ∗ held (F := F) c (sndS d 1 q) fullShare ∗ rel c d q 1 ∗ crAt c d q 1 ∗ CL c d q 2 ∗ A3 c d q ∗ A4 c d q ∗ A5 c d q)
def T4 (c : Dev nD) (d : Fin 2) (q : Fin 4) : sProp 𝕄 :=
  iprop(FL c d q 3 ∗ held (F := F) c (sndS d 0 q) fullShare ∗ crAt c d q 2 ∗ pend c (kO d 0 q) ∗ CL c d q 3 ∗ A4 c d q ∗ A5 c d q)
def T5 (c : Dev nD) (d : Fin 2) (q : Fin 4) : sProp 𝕄 :=
  iprop(FL c d q 4 ∗ held (F := F) c (sndS d 0 q) fullShare ∗ held (F := F) c (sndS d 1 q) fullShare.left ∗ fin c (kC d q)
    ∗ pend c (kO d 0 q) ∗ pend c (kO d 1 q) ∗ CL c d q 4 ∗ A5 c d q)
def T6 (c : Dev nD) (d : Fin 2) (q : Fin 4) : sProp 𝕄 :=
  iprop(FL c d q 5 ∗ held (F := F) c (sndS d 0 q) fullShare ∗ held (F := F) c (sndS d 1 q) fullShare.left
    ∗ held (F := F) c (rcvS d 1 q) fullShare.left ∗ fin c (kC d q)
    ∗ pend c (kO d 0 q) ∗ pend c (kO d 1 q) ∗ pend c (kO d 2 q) ∗ CL c d q 5)
/-- The rows of the last hop. -/
def lastOut (c : Dev nD) (d : Fin 2) (q : Fin 4) : sProp 𝕄 :=
  ownsTc c (outS 2 d q (rcvFrom d c)) fullShare (sval X Wt d q 5 (rcvFrom d c))
def T7 (c : Dev nD) (d : Fin 2) (q : Fin 4) : sProp 𝕄 :=
  iprop(lastOut X Wt c d q ∗ held (F := F) c (sndS d 0 q) fullShare ∗ held (F := F) c (sndS d 1 q) fullShare.left
    ∗ held (F := F) c (rcvS d 1 q) fullShare.left ∗ held (F := F) c (rcvS d 0 q) fullShare.left ∗ fin c (kC d q)
    ∗ pend c (kO d 0 q) ∗ pend c (kO d 1 q) ∗ pend c (kO d 2 q) ∗ CL c d q 6)
/-- One of the rows copied into the result. -/
def outO (c : Dev nD) (d : Fin 2) (q : Fin 4) (j : Fin 3) : sProp 𝕄 :=
  ownsTc c (outS j d q c) fullShare (oval X Wt d q j c)
/-- Everything of the stream ended. -/
def T8 (c : Dev nD) (d : Fin 2) (q : Fin 4) : sProp 𝕄 :=
  iprop(held (F := F) c (sndS d 0 q) fullShare ∗ held (F := F) c (sndS d 1 q) fullShare
    ∗ held (F := F) c (rcvS d 0 q) fullShare ∗ held (F := F) c (rcvS d 1 q) fullShare
    ∗ outO X Wt c d q 0 ∗ outO X Wt c d q 1 ∗ outO X Wt c d q 2 ∗ lastOut X Wt c d q
    ∗ fin c (kC d q) ∗ fin c (kO d 0 q) ∗ fin c (kO d 1 q) ∗ fin c (kO d 2 q) ∗ CL c d q 6)

end Steps

end Cert.KernelIdeal.Hand
-- ==== Proof.Hops.lean ====
module

public import proofs.«01_k».proof.Proof.Stream

/-! The hops, for both streams of a block. -/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

section Steps

variable (X : Dev nD → (main_arg0 : Ref sig .tc).ty.Contents (Elt F))
  (Wt : Dev nD → (cc0_stg0_0 : Ref sig .tc).ty.Contents (Elt F))
  (K : Dev nD × CK → ℕ) (Ks : Key → ℕ)

/-- The first product and its departure. -/
theorem run_init (c : Dev nD) (d : Fin 2) (q : Fin 4) (l : List Itm) (P : Prg F) (Q : PUnit.{1} → sProp 𝕄) :
    iprop(Ctx X Wt K Ks ∗ Ow c (iS d 0 q :: l) ∗ xO X c 0 q ∗ wO Wt c d ∗ T0 c d q)
      ⊢ iprop((Ow c l ∗ xO X c 0 q ∗ wO Wt c d ∗ T1 c d q -∗ Wp c P Q) -∗ Wp c (initS d q c P) Q) := by
  unfold T0 T1 initS
  iintro ⟨#HC, HO, Hx, Hw, HR, Hs0, Hr0, Hs1, HA⟩ Hk
  have hm : mOf 0 d = 0 := by revert d; decide
  have hd := piece_dot X Wt c 0 0 d q
    (sendS 0 d q c (sndS d 0 q) (rcvS d 0 q) (sndS_words d 0 q) (rcvS_words d 0 q) ⟨⟨rfl, Or.inl rfl⟩, trivial⟩ P) Q
  rw [hm] at hd
  iapply hd $$ [Hx Hw Hs0]
  · isplitl [Hx]; · iexact Hx
    isplitl [Hw] <;> iassumption
  iintro ⟨Hx, Hw, Hs0⟩
  have hB : recvPay X Wt (sndTo d c) d 0 q
      = ownsTc (sndTo d c) (rcvS d 0 q) fullShare (sval X Wt d q 0 (rcvFrom d (sndTo d c))) := rfl
  rw [rcvFrom_sndTo] at hB
  ihave Hs0 := (Entails.of_eq (congrArg (ownsTc c (sndS d 0 q) fullShare) (sval_0 X Wt d q c))) $$ Hs0
  iapply (piece_send X Wt K Ks c d 0 q (sndS d 0 q) (rcvS d 0 q) _ _ _ (nv_rcv d 0 q) fullShare (Entails.of_eq rfl)
    (Entails.of_eq hB.symm) l P Q) $$ [HR Hs0 Hr0 HO]
  · isplitr; · iexact HC
    isplitl [HR]; · iexact HR
    isplitl [Hs0]; · iexact Hs0
    isplitl [Hr0] <;> iassumption
  iintro ⟨HF, HO⟩
  iapply Hk
  isplitl [HO]; · iexact HO
  isplitl [Hx]; · iexact Hx
  isplitl [Hw]; · iexact Hw
  isplitl [HF]; · iexact HF
  isplitl [Hs1] <;> iassumption

/-- A slot of the send buffer sent on. -/
theorem run_sendSnd (c : Dev nD) (h : Fin 6) (s d : Fin 2) (q : Fin 4) (p : PosShare TreeShare)
    (hA : held (F := F) c (sndS d s q) p ⊢ sendPay (F := F) c d h q)
    (hB : recvPay X Wt (sndTo d c) d h q
      = ownsTc (sndTo d c) (rcvS d s q) fullShare (sval X Wt d q h (rcvFrom d (sndTo d c))))
    (l : List Itm) (P : Prg F) (Q : PUnit.{1} → sProp 𝕄) :
    iprop(Ctx X Wt K Ks ∗ SR c d q h ∗ ownsTc c (sndS d s q) p (sval X Wt d q h c) ∗ held (F := F) (sndTo d c) (rcvS d s q) fullShare ∗ Ow c (iS d h q :: l))
      ⊢ iprop((FL c d q h ∗ Ow c l -∗ Wp c P Q) -∗ Wp c (sendSnd h s d q c P) Q) := by
  rw [rcvFrom_sndTo] at hB
  exact piece_send X Wt K Ks c d h q (sndS d s q) (rcvS d s q) _ _ _ (nv_rcv d s q) p hA (Entails.of_eq hB.symm) l P Q

theorem run_hop0 (c : Dev nD) (q : Fin 4) (l : List Itm) (hl : ∀ i ∈ l, 2 < iLev i) (P : Prg F) (Q : PUnit.{1} → sProp 𝕄) :
    iprop(Ctx X Wt K Ks ∗ Ow c (iC 0 0 q :: iC 1 0 q :: iS 0 1 q :: iS 1 1 q :: l) ∗ xO X c 1 q ∗ xO X c 2 q ∗ wO Wt c 0 ∗ wO Wt c 1
        ∗ T1 c 0 q ∗ T1 c 1 q)
      ⊢ iprop((Ow c l ∗ xO X c 1 q ∗ xO X c 2 q ∗ wO Wt c 0 ∗ wO Wt c 1 ∗ T2 c 0 q ∗ T2 c 1 q -∗ Wp c P Q) -∗ Wp c (hop0 q c P) Q) := by
  unfold T1 T2 A1 hop0 dots waitsVV
  iintro ⟨#HC, HO, Hx1, Hx2, Hw0, Hw1, ⟨HF0, Hs0, ⟨HR0, Hg0, Hp0⟩, HA0⟩, ⟨HF1, Hs1, ⟨HR1, Hg1, Hp1⟩, HA1⟩⟩ Hk
  have hl' : ∀ i ∈ iC 0 0 q :: iC 1 0 q :: iS 0 1 q :: iS 1 1 q :: l, 2 < iLev i := by
    simp only [List.forall_mem_cons]
    exact ⟨lt_iC (by decide), lt_iC (by decide), lt_iS (by decide), lt_iS (by decide), hl⟩
  iapply (piece_dot X Wt c 1 1 0 q _ Q) $$ [Hx1 Hw0 Hs0]
  · isplitl [Hx1]; · iexact Hx1
    isplitl [Hw0] <;> iassumption
  iintro ⟨Hx1, Hw0, Hs0⟩
  iapply (piece_dot X Wt c 1 1 1 q _ Q) $$ [Hx2 Hw1 Hs1]
  · isplitl [Hx2]; · iexact Hx2
    isplitl [Hw1] <;> iassumption
  iintro ⟨Hx2, Hw1, Hs1⟩
  iapply (piece_waits X Wt K Ks c 0 0 q _ _ _ _ (nv_snd 0 0 q) (nv_rcv 0 0 q)
    (held (F := F) c (sndS 0 0 q) fullShare) (ownsTc c (rcvS 0 0 q) fullShare (sval X Wt 0 q 0 (rcvFrom 0 c))) (Entails.of_eq rfl) (Entails.of_eq rfl) _ hl' _ Q) $$ [HF0 HO]
  · isplitr; · iexact HC
    isplitl [HF0] <;> iassumption
  iintro ⟨HO, HN0, Hz0, Hv0⟩
  iapply (piece_waits X Wt K Ks c 1 0 q _ _ _ _ (nv_snd 1 0 q) (nv_rcv 1 0 q)
    (held (F := F) c (sndS 1 0 q) fullShare) (ownsTc c (rcvS 1 0 q) fullShare (sval X Wt 1 q 0 (rcvFrom 1 c))) (Entails.of_eq rfl) (Entails.of_eq rfl) _ hl' _ Q) $$ [HF1 HO]
  · isplitr; · iexact HC
    isplitl [HF1] <;> iassumption
  iintro ⟨HO, HN1, Hz1, Hv1⟩
  iapply (piece_hop X Wt K Ks c false 1 0 0 q 0 rfl 1 0 1 (sval_1 X Wt _ q c) _ _ Q) $$ [HO Hg0 Hs0 Hv0]
  · isplitr; · iexact HC
    isplitl [HO]; · iexact HO
    isplitl [Hg0]; · iexact Hg0
    isplitr; · iempintro
    isplitl [Hs0] <;> iassumption
  iintro ⟨HO, Hl0, Hs0⟩
  iapply (piece_hop X Wt K Ks c false 1 0 1 q 0 rfl 1 0 1 (sval_1 X Wt _ q c) _ _ Q) $$ [HO Hg1 Hs1 Hv1]
  · isplitr; · iexact HC
    isplitl [HO]; · iexact HO
    isplitl [Hg1]; · iexact Hg1
    isplitr; · iempintro
    isplitl [Hs1] <;> iassumption
  iintro ⟨HO, Hl1, Hs1⟩
  iapply (run_sendSnd X Wt K Ks c 1 1 0 q fullShare (Entails.of_eq rfl) rfl _ _ Q) $$ [HR0 Hs0 Hp0 HO]
  · isplitr; · iexact HC
    isplitl [HR0]; · iexact HR0
    isplitl [Hs0]; · iexact Hs0
    isplitl [Hp0] <;> iassumption
  iintro ⟨HF0, HO⟩
  iapply (run_sendSnd X Wt K Ks c 1 1 1 q fullShare (Entails.of_eq rfl) rfl _ _ Q) $$ [HR1 Hs1 Hp1 HO]
  · isplitr; · iexact HC
    isplitl [HR1]; · iexact HR1
    isplitl [Hs1]; · iexact Hs1
    isplitl [Hp1] <;> iassumption
  iintro ⟨HF1, HO⟩
  iapply Hk
  isplitl [HO]; · iexact HO
  isplitl [Hx1]; · iexact Hx1
  isplitl [Hx2]; · iexact Hx2
  isplitl [Hw0]; · iexact Hw0
  isplitl [Hw1]; · iexact Hw1
  isplitl [HF0 Hz0 Hl0 HN0 HA0]
  · isplitl [HF0]; · iexact HF0
    isplitl [Hz0]; · iexact Hz0
    isplitl [Hl0]; · iexact Hl0
    isplitl [HN0]
    · unfold CL CL; isplitl [HN0]; · iexact HN0
      iempintro
    iexact HA0
  · isplitl [HF1]; · iexact HF1
    isplitl [Hz1]; · iexact Hz1
    isplitl [Hl1]; · iexact Hl1
    isplitl [HN1]
    · unfold CL CL; isplitl [HN1]; · iexact HN1
      iempintro
    iexact HA1

end Steps

end Cert.KernelIdeal.Hand
-- ==== Proof.Hops1.lean ====
module

public import proofs.«01_k».proof.Proof.Hops

/-! The hops with both a fetch and credits. -/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

section Steps

variable (X : Dev nD → (main_arg0 : Ref sig .tc).ty.Contents (Elt F))
  (Wt : Dev nD → (cc0_stg0_0 : Ref sig .tc).ty.Contents (Elt F))
  (K : Dev nD × CK → ℕ) (Ks : Key → ℕ)

/-- A staged chunk. -/
def stO (c : Dev nD) (s : Fin 2) (n : Fin 4) : sProp 𝕄 := ownsTc c (stS s) fullShare (chunk X c n)

theorem piece_cast (c : Dev nD) (n : Fin 4) (s : Fin 2) (q : Fin 4) (P : Prg F) (Q : PUnit.{1} → sProp 𝕄) :
    iprop(stO X c s n ∗ xH (F := F) c n q) ⊢ iprop((stO X c s n ∗ xO X c n q -∗ Wp c P Q) -∗ Wp c (castXS n s q c P) Q) :=
  step_castX X c n s q P Q

/-- A credit consumed and the slot it frees sent to. -/
theorem run_awaitSnd (c : Dev nD) (h : Fin 6) (n : Fin 3) (hn : n.val < 2) (s d : Fin 2) (q : Fin 4) (hs : s = ![0, 1, 0] n) (p : PosShare TreeShare)
    (hA : held (F := F) c (sndS d s q) p ⊢ sendPay (F := F) c d h q)
    (hB : recvPay X Wt (sndTo d c) d h q
      = ownsTc (sndTo d c) (rcvS d s q) fullShare (sval X Wt d q h (rcvFrom d (sndTo d c))))
    (l : List Itm) (hl : ∀ i ∈ iS d h q :: l, 2 * n.val + 3 < iLev i) (P : Prg F) (Q : PUnit.{1} → sProp 𝕄) :
    iprop(Ctx X Wt K Ks ∗ SR c d q h ∗ ownsTc c (sndS d s q) p (sval X Wt d q h c) ∗ crAt c d q n.val ∗ tk c d q n ∗ Ow c (iS d h q :: l))
      ⊢ iprop((FL c d q h ∗ crAt c d q (n.val + 1) ∗ Ow c l -∗ Wp c P Q) -∗ Wp c (await (cSem d q) 1#32 (sendSnd h s d q c P)) Q) := by
  subst hs
  unfold tk
  iintro ⟨#HC, HR, Hs, Hc, ⟨Ht, Hw⟩, HO⟩ Hk
  iapply (step_await X Wt K Ks c d q n hn (iS d h q :: l) hl _ Q) $$ [HO Hc Ht Hw]
  · isplitr; · iexact HC
    isplitl [HO]; · iexact HO
    isplitl [Hc]; · iexact Hc
    isplitl [Ht] <;> iassumption
  iintro ⟨HO, Hc, Hp⟩
  iapply (run_sendSnd X Wt K Ks c h (![0, 1, 0] n) d q p hA hB l P Q) $$ [HR Hs Hp HO]
  · isplitr; · iexact HC
    isplitl [HR]; · iexact HR
    isplitl [Hs]; · iexact Hs
    isplitl [Hp] <;> iassumption
  iintro ⟨HF, HO⟩
  iapply Hk
  isplitl [HF]; · iexact HF
  isplitl [Hc] <;> iassumption

theorem run_hop1 (c : Dev nD) (q : Fin 4) (l : List Itm) (hl : ∀ i ∈ l, 4 < iLev i) (P : Prg F) (Q : PUnit.{1} → sProp 𝕄) :
    iprop(Ctx X Wt K Ks ∗ Ow c (iC 0 1 q :: iC 1 1 q :: iS 0 2 q :: iS 1 2 q :: l) ∗ stO X c 1 3 ∗ xH (F := F) c 3 q ∗ wO Wt c 0 ∗ wO Wt c 1
        ∗ T2 c 0 q ∗ T2 c 1 q)
      ⊢ iprop((Ow c l ∗ stO X c 1 3 ∗ xO X c 3 q ∗ wO Wt c 0 ∗ wO Wt c 1 ∗ T3 c 0 q ∗ T3 c 1 q -∗ Wp c P Q) -∗ Wp c (hop1 q c P) Q) := by
  unfold T2 T3 A2 hop1 dots waitsVV
  iintro ⟨#HC, HO, Hst, Hx, Hw0, Hw1, ⟨HF0, Hs0, #Hl0, HN0, ⟨HR0, Hg0, Ht0, Hc0⟩, HA0⟩, ⟨HF1, Hs1, #Hl1, HN1, ⟨HR1, Hg1, Ht1, Hc1⟩, HA1⟩⟩ Hk
  have h2 : ∀ i ∈ iS 0 2 q :: iS 1 2 q :: l, 2 * (0 : Fin 3).val + 3 < iLev i := by
    simp only [List.forall_mem_cons]
    exact ⟨lt_iS (by decide), lt_iS (by decide), fun i hi => lt_of_le_of_lt (by decide) (hl i hi)⟩
  have h1 : ∀ i ∈ iS 1 2 q :: l, 2 * (0 : Fin 3).val + 3 < iLev i := fun i hi => h2 i (List.mem_cons_of_mem _ hi)
  have hl' : ∀ i ∈ iC 0 1 q :: iC 1 1 q :: iS 0 2 q :: iS 1 2 q :: l, 4 < iLev i := by
    simp only [List.forall_mem_cons]
    exact ⟨lt_iC (by decide), lt_iC (by decide), lt_iS (by decide), lt_iS (by decide), hl⟩
  iapply (piece_cast X c 3 1 q _ Q) $$ [Hst Hx]
  · isplitl [Hst] <;> iassumption
  iintro ⟨Hst, Hx⟩
  iapply (piece_dot X Wt c 2 0 0 q _ Q) $$ [Hx Hw0 Hs0]
  · isplitl [Hx]; · iexact Hx
    isplitl [Hw0] <;> iassumption
  iintro ⟨Hx, Hw0, Hs0⟩
  iapply (piece_dot X Wt c 2 0 1 q _ Q) $$ [Hx Hw1 Hs1]
  · isplitl [Hx]; · iexact Hx
    isplitl [Hw1] <;> iassumption
  iintro ⟨Hx, Hw1, Hs1⟩
  iapply (piece_waits X Wt K Ks c 0 1 q _ _ _ _ (nv_snd 0 1 q) (nv_rcv 0 1 q)
    (held (F := F) c (sndS 0 1 q) fullShare) (ownsTc c (rcvS 0 1 q) fullShare (sval X Wt 0 q 1 (rcvFrom 0 c))) (Entails.of_eq rfl) (Entails.of_eq rfl) _ hl' _ Q) $$ [HF0 HO]
  · isplitr; · iexact HC
    isplitl [HF0] <;> iassumption
  iintro ⟨HO, HM0, Hz0, Hv0⟩
  iapply (piece_waits X Wt K Ks c 1 1 q _ _ _ _ (nv_snd 1 1 q) (nv_rcv 1 1 q)
    (held (F := F) c (sndS 1 1 q) fullShare) (ownsTc c (rcvS 1 1 q) fullShare (sval X Wt 1 q 1 (rcvFrom 1 c))) (Entails.of_eq rfl) (Entails.of_eq rfl) _ hl' _ Q) $$ [HF1 HO]
  · isplitr; · iexact HC
    isplitl [HF1] <;> iassumption
  iintro ⟨HO, HM1, Hz1, Hv1⟩
  iapply (piece_hop X Wt K Ks c false 0 1 0 q 1 rfl 2 1 2 (sval_2 X Wt _ q c) _ _ Q) $$ [HO Hg0 Hs0 Hv0]
  · isplitr; · iexact HC
    isplitl [HO]; · iexact HO
    isplitl [Hg0]; · iexact Hg0
    isplitr; · iapply (Entails.of_eq (show rel (F := F) c 0 q 0 = relB c 0 q 1 from rfl)); iexact Hl0
    isplitl [Hs0] <;> iassumption
  iintro ⟨HO, Hm0, Hs0⟩
  iapply (piece_hop X Wt K Ks c false 0 1 1 q 1 rfl 2 1 2 (sval_2 X Wt _ q c) _ _ Q) $$ [HO Hg1 Hs1 Hv1]
  · isplitr; · iexact HC
    isplitl [HO]; · iexact HO
    isplitl [Hg1]; · iexact Hg1
    isplitr; · iapply (Entails.of_eq (show rel (F := F) c 1 q 0 = relB c 1 q 1 from rfl)); iexact Hl1
    isplitl [Hs1] <;> iassumption
  iintro ⟨HO, Hm1, Hs1⟩
  iapply (run_awaitSnd X Wt K Ks c 2 0 (by decide) 0 0 q rfl fullShare (Entails.of_eq rfl) rfl _ h2 _ Q) $$ [HR0 Hs0 Hc0 Ht0 HO]
  · isplitr; · iexact HC
    isplitl [HR0]; · iexact HR0
    isplitl [Hs0]; · iexact Hs0
    isplitl [Hc0]; · iexact Hc0
    isplitl [Ht0] <;> iassumption
  iintro ⟨HF0, Hc0, HO⟩
  iapply (run_awaitSnd X Wt K Ks c 2 0 (by decide) 0 1 q rfl fullShare (Entails.of_eq rfl) rfl _ h1 _ Q) $$ [HR1 Hs1 Hc1 Ht1 HO]
  · isplitr; · iexact HC
    isplitl [HR1]; · iexact HR1
    isplitl [Hs1]; · iexact Hs1
    isplitl [Hc1]; · iexact Hc1
    isplitl [Ht1] <;> iassumption
  iintro ⟨HF1, Hc1, HO⟩
  iapply Hk
  isplitl [HO]; · iexact HO
  isplitl [Hst]; · iexact Hst
  isplitl [Hx]; · iexact Hx
  isplitl [Hw0]; · iexact Hw0
  isplitl [Hw1]; · iexact Hw1
  isplitl [HF0 Hz0 Hm0 Hc0 HN0 HM0 HA0]
  · isplitl [HF0]; · iexact HF0
    isplitl [Hz0]; · iexact Hz0
    isplitl [Hm0]; · iexact Hm0
    isplitl [Hc0]; · iexact Hc0
    isplitl [HN0 HM0]
    · iapply (Entails.of_eq (show iprop(FN (F := F) c 0 q 1 ∗ CL c 0 q 1) = CL c 0 q 2 from rfl))
      isplitl [HM0] <;> iassumption
    iexact HA0
  · isplitl [HF1]; · iexact HF1
    isplitl [Hz1]; · iexact Hz1
    isplitl [Hm1]; · iexact Hm1
    isplitl [Hc1]; · iexact Hc1
    isplitl [HN1 HM1]
    · iapply (Entails.of_eq (show iprop(FN (F := F) c 1 q 1 ∗ CL c 1 q 1) = CL c 1 q 2 from rfl))
      isplitl [HM1] <;> iassumption
    iexact HA1

theorem halves (c : Dev nD) {sp : Space} {s : Shape} {e : EltTy} (m : Memref sig .tc sp s e) (v : s.Idx → Elt F e) :
    (ownsTc c m fullShare v : sProp 𝕄) ⊢ iprop(ownsTc c m fullShare.left v ∗ ownsTc c m fullShare.right v) :=
  (owns_halves (c : Thread nD τ) m fullShare v).1

theorem rejoin (c : Dev nD) {sp : Space} {s : Shape} {e : EltTy} (m : Memref sig .tc sp s e) :
    iprop(held (F := F) c m fullShare.left ∗ held (F := F) c m fullShare.right) ⊢ (held c m fullShare : sProp 𝕄) := by
  iintro ⟨⟨%v, Hl⟩, ⟨%w, Hr⟩⟩
  iexists v
  iapply (owns_rejoin (Φ := fun _ => True) (c : Thread nD τ) m fullShare v)
  isplitl [Hl]; · iexact Hl
  iapply (show ownsTc c m fullShare.right w ⊢ ownsSat (c : Thread nD τ) m fullShare.right (fun _ => True) from by
    show owns _ _ _ _ ⊢ _
    unfold owns ownsSat
    iintro ⟨%f, -, H⟩
    iexists f
    isplitr; · ipureintro; trivial
    iexact H)
  iexact Hr

theorem run_hop2 (c : Dev nD) (q : Fin 4) (l : List Itm) (hl : ∀ i ∈ l, 6 < iLev i) (P : Prg F) (Q : PUnit.{1} → sProp 𝕄) :
    iprop(Ctx X Wt K Ks ∗ Ow c (iC 0 2 q :: iC 1 2 q :: iS 0 3 q :: iS 1 3 q :: l) ∗ xO X c 1 q ∗ xO X c 2 q ∗ wO Wt c 0 ∗ wO Wt c 1
        ∗ T3 c 0 q ∗ T3 c 1 q)
      ⊢ iprop((Ow c l ∗ xO X c 1 q ∗ xO X c 2 q ∗ wO Wt c 0 ∗ wO Wt c 1 ∗ T4 c 0 q ∗ T4 c 1 q -∗ Wp c P Q) -∗ Wp c (hop2 q c P) Q) := by
  unfold T3 T4 A3 hop2 dots waitsVV
  iintro ⟨#HC, HO, Hx1, Hx2, Hw0, Hw1, ⟨HF0, Hs0, #Hl0, Hc0, HN0, ⟨HR0, Hg0, Ht0, Hi0, Ho0⟩, HA0⟩, ⟨HF1, Hs1, #Hl1, Hc1, HN1, ⟨HR1, Hg1, Ht1, Hi1, Ho1⟩, HA1⟩⟩ Hk
  have h2 : ∀ i ∈ iS 0 3 q :: iS 1 3 q :: l, 2 * (1 : Fin 3).val + 3 < iLev i := by
    simp only [List.forall_mem_cons]
    exact ⟨lt_iS (by decide), lt_iS (by decide), fun i hi => lt_of_le_of_lt (by decide) (hl i hi)⟩
  have h1 : ∀ i ∈ iS 1 3 q :: l, 2 * (1 : Fin 3).val + 3 < iLev i := fun i hi => h2 i (List.mem_cons_of_mem _ hi)
  have hl' : ∀ i ∈ iC 0 2 q :: iC 1 2 q :: iS 0 3 q :: iS 1 3 q :: l, 6 < iLev i := by
    simp only [List.forall_mem_cons]
    exact ⟨lt_iC (by decide), lt_iC (by decide), lt_iS (by decide), lt_iS (by decide), hl⟩
  iapply (piece_dot X Wt c 3 1 0 q _ Q) $$ [Hx2 Hw0 Hs0]
  · isplitl [Hx2]; · iexact Hx2
    isplitl [Hw0] <;> iassumption
  iintro ⟨Hx2, Hw0, Hs0⟩
  iapply (piece_dot X Wt c 3 1 1 q _ Q) $$ [Hx1 Hw1 Hs1]
  · isplitl [Hx1]; · iexact Hx1
    isplitl [Hw1] <;> iassumption
  iintro ⟨Hx1, Hw1, Hs1⟩
  iapply (piece_waits X Wt K Ks c 0 2 q _ _ _ _ (nv_snd 0 0 q) (nv_rcv 0 0 q)
    (held (F := F) c (sndS 0 0 q) fullShare) (ownsTc c (rcvS 0 0 q) fullShare (sval X Wt 0 q 2 (rcvFrom 0 c))) (Entails.of_eq rfl) (Entails.of_eq rfl) _ hl' _ Q) $$ [HF0 HO]
  · isplitr; · iexact HC
    isplitl [HF0] <;> iassumption
  iintro ⟨HO, HM0, Hz0, Hv0⟩
  iapply (piece_waits X Wt K Ks c 1 2 q _ _ _ _ (nv_snd 1 0 q) (nv_rcv 1 0 q)
    (held (F := F) c (sndS 1 0 q) fullShare) (ownsTc c (rcvS 1 0 q) fullShare (sval X Wt 1 q 2 (rcvFrom 1 c))) (Entails.of_eq rfl) (Entails.of_eq rfl) _ hl' _ Q) $$ [HF1 HO]
  · isplitr; · iexact HC
    isplitl [HF1] <;> iassumption
  iintro ⟨HO, HM1, Hz1, Hv1⟩
  iapply (piece_hop X Wt K Ks c true 1 0 0 q 2 rfl 3 2 3 (sval_3 X Wt _ q c) _ _ Q) $$ [HO Hg0 Hs0 Hv0]
  · isplitr; · iexact HC
    isplitl [HO]; · iexact HO
    isplitl [Hg0]; · iexact Hg0
    isplitr; · iapply (Entails.of_eq (show rel (F := F) c 0 q 1 = relB c 0 q 2 from rfl)); iexact Hl0
    isplitl [Hs0] <;> iassumption
  iintro ⟨HO, -, Hs0⟩
  iapply (piece_hop X Wt K Ks c true 1 0 1 q 2 rfl 3 2 3 (sval_3 X Wt _ q c) _ _ Q) $$ [HO Hg1 Hs1 Hv1]
  · isplitr; · iexact HC
    isplitl [HO]; · iexact HO
    isplitl [Hg1]; · iexact Hg1
    isplitr; · iapply (Entails.of_eq (show rel (F := F) c 1 q 1 = relB c 1 q 2 from rfl)); iexact Hl1
    isplitl [Hs1] <;> iassumption
  iintro ⟨HO, -, Hs1⟩
  ihave Hs0 := (halves c (sndS 0 1 q) (sval X Wt 0 q 3 c)) $$ Hs0
  icases Hs0 with ⟨Hs0, Hu0⟩
  ihave Hs1 := (halves c (sndS 1 1 q) (sval X Wt 1 q 3 c)) $$ Hs1
  icases Hs1 with ⟨Hs1, Hu1⟩
  ihave Hu0 := (Entails.of_eq (show ownsTc c (sndS 0 1 q) fullShare.right (sval X Wt 0 q 3 c)
    = ownsTc c (sndS 0 1 q) fullShare.right (oval X Wt 0 q 0 c) from rfl)) $$ Hu0
  ihave Hu1 := (Entails.of_eq (show ownsTc c (sndS 1 1 q) fullShare.right (sval X Wt 1 q 3 c)
    = ownsTc c (sndS 1 1 q) fullShare.right (oval X Wt 1 q 0 c) from rfl)) $$ Hu1
  iapply (piece_out X Wt K Ks c 0 0 q (sndS 0 1 q) _ (Entails.of_eq rfl) _ Q) $$ [Hi0 Hu0 Ho0]
  · isplitr; · iexact HC
    isplitl [Hi0]; · iexact Hi0
    isplitl [Hu0] <;> iassumption
  iintro Hi0
  iapply (piece_out X Wt K Ks c 0 1 q (sndS 1 1 q) _ (Entails.of_eq rfl) _ Q) $$ [Hi1 Hu1 Ho1]
  · isplitr; · iexact HC
    isplitl [Hi1]; · iexact Hi1
    isplitl [Hu1] <;> iassumption
  iintro Hi1
  iapply (run_awaitSnd X Wt K Ks c 3 1 (by decide) 1 0 q rfl fullShare.left (Entails.of_eq rfl) rfl _ h2 _ Q) $$ [HR0 Hs0 Hc0 Ht0 HO]
  · isplitr; · iexact HC
    isplitl [HR0]; · iexact HR0
    isplitl [Hs0]; · iexact Hs0
    isplitl [Hc0]; · iexact Hc0
    isplitl [Ht0] <;> iassumption
  iintro ⟨HF0, Hc0, HO⟩
  iapply (run_awaitSnd X Wt K Ks c 3 1 (by decide) 1 1 q rfl fullShare.left (Entails.of_eq rfl) rfl _ h1 _ Q) $$ [HR1 Hs1 Hc1 Ht1 HO]
  · isplitr; · iexact HC
    isplitl [HR1]; · iexact HR1
    isplitl [Hs1]; · iexact Hs1
    isplitl [Hc1]; · iexact Hc1
    isplitl [Ht1] <;> iassumption
  iintro ⟨HF1, Hc1, HO⟩
  iapply Hk
  isplitl [HO]; · iexact HO
  isplitl [Hx1]; · iexact Hx1
  isplitl [Hx2]; · iexact Hx2
  isplitl [Hw0]; · iexact Hw0
  isplitl [Hw1]; · iexact Hw1
  isplitl [HF0 Hz0 Hi0 Hc0 HN0 HM0 HA0]
  · isplitl [HF0]; · iexact HF0
    isplitl [Hz0]; · iexact Hz0
    isplitl [Hc0]; · iexact Hc0
    isplitl [Hi0]; · iexact Hi0
    isplitl [HN0 HM0]
    · iapply (Entails.of_eq (show iprop(FN (F := F) c 0 q 2 ∗ CL c 0 q 2) = CL c 0 q 3 from rfl))
      isplitl [HM0] <;> iassumption
    iexact HA0
  · isplitl [HF1]; · iexact HF1
    isplitl [Hz1]; · iexact Hz1
    isplitl [Hc1]; · iexact Hc1
    isplitl [Hi1]; · iexact Hi1
    isplitl [HN1 HM1]
    · iapply (Entails.of_eq (show iprop(FN (F := F) c 1 q 2 ∗ CL c 1 q 2) = CL c 1 q 3 from rfl))
      isplitl [HM1] <;> iassumption
    iexact HA1

end Steps

end Cert.KernelIdeal.Hand
-- ==== Proof.Hops2.lean ====
module

public import proofs.«01_k».proof.Proof.Hops1

/-! The hops that pass on what is finished, and the last waits. -/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

section Steps

variable (X : Dev nD → (main_arg0 : Ref sig .tc).ty.Contents (Elt F))
  (Wt : Dev nD → (cc0_stg0_0 : Ref sig .tc).ty.Contents (Elt F))
  (K : Dev nD × CK → ℕ) (Ks : Key → ℕ)

/-- The last credit consumed, and a slot of the receive buffer passed on. -/
theorem run_awaitRcv (c : Dev nD) (d : Fin 2) (q : Fin 4)
    (l : List Itm) (hl : ∀ i ∈ iS d 4 q :: l, 7 < iLev i) (P : Prg F) (Q : PUnit.{1} → sProp 𝕄) :
    iprop(Ctx X Wt K Ks ∗ SR c d q 4 ∗ ownsTc c (rcvS d 1 q) fullShare.left (sval X Wt d q 4 c) ∗ crAt c d q 2 ∗ tk c d q 2 ∗ Ow c (iS d 4 q :: l))
      ⊢ iprop((FL c d q 4 ∗ fin c (kC d q) ∗ Ow c l -∗ Wp c P Q) -∗ Wp c (await (cSem d q) 1#32 (sendRcv d q c P)) Q) := by
  have hB : recvPay X Wt (sndTo d c) d 4 q
      = ownsTc (sndTo d c) (rcvS d 0 q) fullShare (sval X Wt d q 4 (rcvFrom d (sndTo d c))) := rfl
  rw [rcvFrom_sndTo] at hB
  have ht : tk (F := F) c d q 2 = iprop(cred (tallyAt (cell c (kC d q)) 2 1) ∗ writeTok (ES (F := F)) (sndTo d c, d, q, 2) 1) := rfl
  rw [ht]
  unfold sendRcv
  iintro ⟨#HC, HR, Hs, Hc, ⟨Ht, Hw⟩, HO⟩ Hk
  iapply (step_await_last X Wt K Ks c d q (iS d 4 q :: l) hl _ Q) $$ [HO Hc Ht Hw]
  · isplitr; · iexact HC
    isplitl [HO]; · iexact HO
    isplitl [Hc]; · iexact Hc
    isplitl [Ht] <;> iassumption
  iintro ⟨HO, Hc, Hp⟩
  iapply (piece_send X Wt K Ks c d 4 q (rcvS d 1 q) (rcvS d 0 q) _ _ _ (nv_rcv d 0 q) fullShare.left (Entails.of_eq rfl)
    (Entails.of_eq hB.symm) l P Q) $$ [HR Hs Hp HO]
  · isplitr; · iexact HC
    isplitl [HR]; · iexact HR
    isplitl [Hs]; · iexact Hs
    isplitl [Hp]; · iexact Hp
    iexact HO
  iintro ⟨HF, HO⟩
  iapply Hk
  isplitl [HF]; · iexact HF
  isplitl [Hc] <;> iassumption

/-- A slot of the receive buffer passed on into the neighbour's result. -/
theorem run_sendOut (c : Dev nD) (d : Fin 2) (q : Fin 4)
    (l : List Itm) (P : Prg F) (Q : PUnit.{1} → sProp 𝕄) :
    iprop(Ctx X Wt K Ks ∗ SR c d q 5 ∗ ownsTc c (rcvS d 0 q) fullShare.left (sval X Wt d q 5 c)
        ∗ held (F := F) (sndTo d c) (outS 2 d q c) fullShare ∗ Ow c (iS d 5 q :: l))
      ⊢ iprop((FL c d q 5 ∗ Ow c l -∗ Wp c P Q) -∗ Wp c (sendOut d q c P) Q) := by
  have hB : recvPay X Wt (sndTo d c) d 5 q
      = ownsTc (sndTo d c) (outS 2 d q (rcvFrom d (sndTo d c))) fullShare (sval X Wt d q 5 (rcvFrom d (sndTo d c))) := rfl
  rw [rcvFrom_sndTo] at hB
  exact piece_send X Wt K Ks c d 5 q (rcvS d 0 q) (outS 2 d q c) _ _ _ (nv_out 2 d q c) fullShare.left (Entails.of_eq rfl)
    (Entails.of_eq hB.symm) l P Q

theorem cl_succ (c : Dev nD) (d : Fin 2) (q : Fin 4) (h : Fin 6) (n : ℕ) (hn : h = Fin.ofNat 6 n) :
    iprop(FN (F := F) c d q h ∗ CL c d q n) ⊢ CL c d q (n + 1) := by
  subst hn; exact Entails.of_eq rfl

/-- A copy into the result out of half a slot of the receive buffer. -/
theorem run_out (c : Dev nD) (j : Fin 3) (h h' : Fin 6) (s d : Fin 2) (q : Fin 4)
    (hv : sval X Wt d q h c = oval X Wt d q j c)
    (hv' : sval X Wt d q h c = sval X Wt d q h' (rcvFrom d c))
    (hpay : iprop(ownsTc c (outS j d q c) fullShare (oval X Wt d q j c) ∗ held (F := F) c (rcvS d s q) fullShare.right) ⊢ outPay X Wt c d j q)
    (P : Prg F) (Q : PUnit.{1} → sProp 𝕄) :
    iprop(Ctx X Wt K Ks ∗ idle c (kO d j q) ∗ ownsTc c (rcvS d s q) fullShare (sval X Wt d q h' (rcvFrom d c))
        ∗ held (F := F) c (outS j d q c) fullShare)
      ⊢ iprop((pend c (kO d j q) ∗ ownsTc c (rcvS d s q) fullShare.left (sval X Wt d q h c) -∗ Wp c P Q)
        -∗ Wp c (outC j d q c (rcvS d s q) (rcvS_words d s q) P) Q) := by
  rw [← hv', hv]
  iintro ⟨#HC, Hi, Hv, Ho⟩ Hk
  ihave Hv := (halves c (rcvS d s q) (oval X Wt d q j c)) $$ Hv
  icases Hv with ⟨Hv, Hu⟩
  iapply (piece_out X Wt K Ks c j d q (rcvS d s q) _ hpay _ Q) $$ [Hi Hu Ho]
  · isplitr; · iexact HC
    isplitl [Hi]; · iexact Hi
    isplitl [Hu] <;> iassumption
  iintro Hi
  iapply Hk
  isplitl [Hi] <;> iassumption

theorem sval_5o (c : Dev nD) (d : Fin 2) (q : Fin 4) : sval X Wt d q 5 c = oval X Wt d q 2 c := rfl
theorem sval_5s (c : Dev nD) (d : Fin 2) (q : Fin 4) : sval X Wt d q 5 c = sval X Wt d q 4 (rcvFrom d c) := by
  have h4 : ∀ n, sval X Wt d q 4 n = acc X Wt d q 3 (rcvFrom d n) := fun _ => rfl
  have h5 : sval X Wt d q 5 c = acc X Wt d q 3 (rcvFrom d (rcvFrom d c)) := rfl
  rw [h4, h5]
theorem pay_2 (c : Dev nD) (d : Fin 2) (q : Fin 4) :
    iprop(ownsTc c (outS 2 d q c) fullShare (oval X Wt d q 2 c) ∗ held (F := F) c (rcvS d 0 q) fullShare.right) ⊢ outPay X Wt c d 2 q :=
  Entails.of_eq rfl

theorem run_hop3 (c : Dev nD) (q : Fin 4) (l : List Itm) (hl : ∀ i ∈ l, 8 < iLev i) (P : Prg F) (Q : PUnit.{1} → sProp 𝕄) :
    iprop(Ctx X Wt K Ks ∗ Ow c (iS 0 4 q :: iS 1 4 q :: l) ∗ T4 c 0 q ∗ T4 c 1 q)
      ⊢ iprop((Ow c l ∗ T5 c 0 q ∗ T5 c 1 q -∗ Wp c P Q) -∗ Wp c (hop3 q c P) Q) := by
  unfold T4 T5 A4 hop3 waitsVV
  iintro ⟨#HC, HO, ⟨HF0, Hs0, Hc0, Hj0, HN0, ⟨HR0, Ht0, Hi0, Ho0⟩, HA0⟩, ⟨HF1, Hs1, Hc1, Hj1, HN1, ⟨HR1, Ht1, Hi1, Ho1⟩, HA1⟩⟩ Hk
  have hl' : ∀ i ∈ iS 0 4 q :: iS 1 4 q :: l, 8 < iLev i := by
    simp only [List.forall_mem_cons]
    exact ⟨lt_iS (by decide), lt_iS (by decide), hl⟩
  have h2 : ∀ i ∈ iS 0 4 q :: iS 1 4 q :: l, 7 < iLev i := fun i hi => lt_of_le_of_lt (by decide) (hl' i hi)
  have h1 : ∀ i ∈ iS 1 4 q :: l, 7 < iLev i := fun i hi => h2 i (List.mem_cons_of_mem _ hi)
  iapply (piece_waits X Wt K Ks c 0 3 q _ _ _ _ (nv_snd 0 1 q) (nv_rcv 0 1 q)
    (held (F := F) c (sndS 0 1 q) fullShare.left) (ownsTc c (rcvS 0 1 q) fullShare (sval X Wt 0 q 3 (rcvFrom 0 c))) (Entails.of_eq rfl) (Entails.of_eq rfl) _ hl' _ Q) $$ [HF0 HO]
  · isplitr; · iexact HC
    isplitl [HF0] <;> iassumption
  iintro ⟨HO, HM0, Hz0, Hv0⟩
  iapply (piece_waits X Wt K Ks c 1 3 q _ _ _ _ (nv_snd 1 1 q) (nv_rcv 1 1 q)
    (held (F := F) c (sndS 1 1 q) fullShare.left) (ownsTc c (rcvS 1 1 q) fullShare (sval X Wt 1 q 3 (rcvFrom 1 c))) (Entails.of_eq rfl) (Entails.of_eq rfl) _ hl' _ Q) $$ [HF1 HO]
  · isplitr; · iexact HC
    isplitl [HF1] <;> iassumption
  iintro ⟨HO, HM1, Hz1, Hv1⟩
  iapply (run_out X Wt K Ks c 1 4 3 1 0 q rfl rfl (Entails.of_eq rfl) _ Q) $$ [Hi0 Hv0 Ho0]
  · isplitr; · iexact HC
    isplitl [Hi0]; · iexact Hi0
    isplitl [Hv0]; · iexact Hv0
    iexact Ho0
  iintro ⟨Hi0, Hv0⟩
  iapply (run_out X Wt K Ks c 1 4 3 1 1 q rfl rfl (Entails.of_eq rfl) _ Q) $$ [Hi1 Hv1 Ho1]
  · isplitr; · iexact HC
    isplitl [Hi1]; · iexact Hi1
    isplitl [Hv1]; · iexact Hv1
    iexact Ho1
  iintro ⟨Hi1, Hv1⟩
  iapply (run_awaitRcv X Wt K Ks c 0 q _ h2 _ Q) $$ [HR0 Hv0 Hc0 Ht0 HO]
  · isplitr; · iexact HC
    isplitl [HR0]; · iexact HR0
    isplitl [Hv0]; · iexact Hv0
    isplitl [Hc0]; · iexact Hc0
    isplitl [Ht0] <;> iassumption
  iintro ⟨HF0, Hc0, HO⟩
  iapply (run_awaitRcv X Wt K Ks c 1 q _ h1 _ Q) $$ [HR1 Hv1 Hc1 Ht1 HO]
  · isplitr; · iexact HC
    isplitl [HR1]; · iexact HR1
    isplitl [Hv1]; · iexact Hv1
    isplitl [Hc1]; · iexact Hc1
    isplitl [Ht1] <;> iassumption
  iintro ⟨HF1, Hc1, HO⟩
  iapply Hk
  isplitl [HO]; · iexact HO
  isplitl [HF0 Hs0 Hz0 Hi0 Hj0 Hc0 HN0 HM0 HA0]
  · isplitl [HF0]; · iexact HF0
    isplitl [Hs0]; · iexact Hs0
    isplitl [Hz0]; · iexact Hz0
    isplitl [Hc0]; · iexact Hc0
    isplitl [Hj0]; · iexact Hj0
    isplitl [Hi0]; · iexact Hi0
    isplitl [HN0 HM0]
    · iapply (cl_succ c 0 q 3 3 rfl); isplitl [HM0] <;> iassumption
    iexact HA0
  · isplitl [HF1]; · iexact HF1
    isplitl [Hs1]; · iexact Hs1
    isplitl [Hz1]; · iexact Hz1
    isplitl [Hc1]; · iexact Hc1
    isplitl [Hj1]; · iexact Hj1
    isplitl [Hi1]; · iexact Hi1
    isplitl [HN1 HM1]
    · iapply (cl_succ c 1 q 3 3 rfl); isplitl [HM1] <;> iassumption
    iexact HA1

theorem run_hop4 (c : Dev nD) (q : Fin 4) (l : List Itm) (hl : ∀ i ∈ l, 10 < iLev i) (P : Prg F) (Q : PUnit.{1} → sProp 𝕄) :
    iprop(Ctx X Wt K Ks ∗ Ow c (iS 0 5 q :: iS 1 5 q :: l) ∗ T5 c 0 q ∗ T5 c 1 q)
      ⊢ iprop((Ow c l ∗ T6 c 0 q ∗ T6 c 1 q -∗ Wp c P Q) -∗ Wp c (hop4 q c P) Q) := by
  unfold T5 T6 A5 hop4 waitsVV
  iintro ⟨#HC, HO, ⟨HF0, Hs0, Hu0, Hc0, Hj0, Hk0, HN0, HR0, Hi0, Ho0, Hp0⟩, ⟨HF1, Hs1, Hu1, Hc1, Hj1, Hk1, HN1, HR1, Hi1, Ho1, Hp1⟩⟩ Hk
  have hl' : ∀ i ∈ iS 0 5 q :: iS 1 5 q :: l, 10 < iLev i := by
    simp only [List.forall_mem_cons]
    exact ⟨lt_iS (by decide), lt_iS (by decide), hl⟩
  iapply (piece_waits X Wt K Ks c 0 4 q _ _ _ _ (nv_rcv 0 1 q) (nv_rcv 0 0 q)
    (held (F := F) c (rcvS 0 1 q) fullShare.left) (ownsTc c (rcvS 0 0 q) fullShare (sval X Wt 0 q 4 (rcvFrom 0 c))) (Entails.of_eq rfl) (Entails.of_eq rfl) _ hl' _ Q) $$ [HF0 HO]
  · isplitr; · iexact HC
    isplitl [HF0] <;> iassumption
  iintro ⟨HO, HM0, Hz0, Hv0⟩
  iapply (piece_waits X Wt K Ks c 1 4 q _ _ _ _ (nv_rcv 1 1 q) (nv_rcv 1 0 q)
    (held (F := F) c (rcvS 1 1 q) fullShare.left) (ownsTc c (rcvS 1 0 q) fullShare (sval X Wt 1 q 4 (rcvFrom 1 c))) (Entails.of_eq rfl) (Entails.of_eq rfl) _ hl' _ Q) $$ [HF1 HO]
  · isplitr; · iexact HC
    isplitl [HF1] <;> iassumption
  iintro ⟨HO, HM1, Hz1, Hv1⟩
  iapply (run_out X Wt K Ks c 2 5 4 0 0 q (sval_5o X Wt c 0 q) (sval_5s X Wt c 0 q) (pay_2 X Wt c 0 q) _ Q) $$ [Hi0 Hv0 Ho0]
  · isplitr; · iexact HC
    isplitl [Hi0]; · iexact Hi0
    isplitl [Hv0]; · iexact Hv0
    iexact Ho0
  iintro ⟨Hi0, Hv0⟩
  iapply (run_out X Wt K Ks c 2 5 4 0 1 q (sval_5o X Wt c 1 q) (sval_5s X Wt c 1 q) (pay_2 X Wt c 1 q) _ Q) $$ [Hi1 Hv1 Ho1]
  · isplitr; · iexact HC
    isplitl [Hi1]; · iexact Hi1
    isplitl [Hv1]; · iexact Hv1
    iexact Ho1
  iintro ⟨Hi1, Hv1⟩
  iapply (run_sendOut X Wt K Ks c 0 q _ _ Q) $$ [HR0 Hv0 Hp0 HO]
  · isplitr; · iexact HC
    isplitl [HR0]; · iexact HR0
    isplitl [Hv0]; · iexact Hv0
    isplitl [Hp0]; · iexact Hp0
    iexact HO
  iintro ⟨HF0, HO⟩
  iapply (run_sendOut X Wt K Ks c 1 q _ _ Q) $$ [HR1 Hv1 Hp1 HO]
  · isplitr; · iexact HC
    isplitl [HR1]; · iexact HR1
    isplitl [Hv1]; · iexact Hv1
    isplitl [Hp1]; · iexact Hp1
    iexact HO
  iintro ⟨HF1, HO⟩
  iapply Hk
  isplitl [HO]; · iexact HO
  isplitl [HF0 Hs0 Hu0 Hz0 Hi0 Hj0 Hk0 Hc0 HN0 HM0]
  · isplitl [HF0]; · iexact HF0
    isplitl [Hs0]; · iexact Hs0
    isplitl [Hu0]; · iexact Hu0
    isplitl [Hz0]; · iexact Hz0
    isplitl [Hc0]; · iexact Hc0
    isplitl [Hj0]; · iexact Hj0
    isplitl [Hk0]; · iexact Hk0
    isplitl [Hi0]; · iexact Hi0
    iapply (cl_succ c 0 q 4 4 rfl); isplitl [HM0] <;> iassumption
  · isplitl [HF1]; · iexact HF1
    isplitl [Hs1]; · iexact Hs1
    isplitl [Hu1]; · iexact Hu1
    isplitl [Hz1]; · iexact Hz1
    isplitl [Hc1]; · iexact Hc1
    isplitl [Hj1]; · iexact Hj1
    isplitl [Hk1]; · iexact Hk1
    isplitl [Hi1]; · iexact Hi1
    iapply (cl_succ c 1 q 4 4 rfl); isplitl [HM1] <;> iassumption

theorem run_hop5 (c : Dev nD) (q : Fin 4) (P : Prg F) (Q : PUnit.{1} → sProp 𝕄) :
    iprop(Ctx X Wt K Ks ∗ Ow c [] ∗ T6 c 0 q ∗ T6 c 1 q)
      ⊢ iprop((Ow c [] ∗ T7 X Wt c 0 q ∗ T7 X Wt c 1 q -∗ Wp c P Q) -∗ Wp c (hop5 q c P) Q) := by
  unfold T6 T7 hop5
  iintro ⟨#HC, HO, ⟨HF0, Hs0, Hu0, Hr0, Hc0, Hi0, Hj0, Hk0, HN0⟩, ⟨HF1, Hs1, Hu1, Hr1, Hc1, Hi1, Hj1, Hk1, HN1⟩⟩ Hk
  iapply (piece_waits X Wt K Ks c 0 5 q _ _ _ _ (nv_rcv 0 0 q) (nv_out 2 0 q c)
    (held (F := F) c (rcvS 0 0 q) fullShare.left) (lastOut X Wt c 0 q) (Entails.of_eq rfl) (Entails.of_eq rfl) _ (fun i hi => absurd hi List.not_mem_nil) _ Q) $$ [HF0 HO]
  · isplitr; · iexact HC
    isplitl [HF0] <;> iassumption
  iintro ⟨HO, HM0, Hz0, Hv0⟩
  iapply (piece_waits X Wt K Ks c 1 5 q _ _ _ _ (nv_rcv 1 0 q) (nv_out 2 1 q c)
    (held (F := F) c (rcvS 1 0 q) fullShare.left) (lastOut X Wt c 1 q) (Entails.of_eq rfl) (Entails.of_eq rfl) _ (fun i hi => absurd hi List.not_mem_nil) _ Q) $$ [HF1 HO]
  · isplitr; · iexact HC
    isplitl [HF1] <;> iassumption
  iintro ⟨HO, HM1, Hz1, Hv1⟩
  iapply Hk
  isplitl [HO]; · iexact HO
  isplitl [Hs0 Hu0 Hr0 Hc0 Hi0 Hj0 Hk0 HN0 HM0 Hz0 Hv0]
  · isplitl [Hv0]; · iexact Hv0
    isplitl [Hs0]; · iexact Hs0
    isplitl [Hu0]; · iexact Hu0
    isplitl [Hr0]; · iexact Hr0
    isplitl [Hz0]; · iexact Hz0
    isplitl [Hc0]; · iexact Hc0
    isplitl [Hi0]; · iexact Hi0
    isplitl [Hj0]; · iexact Hj0
    isplitl [Hk0]; · iexact Hk0
    iapply (cl_succ c 0 q 5 5 rfl); isplitl [HM0] <;> iassumption
  · isplitl [Hv1]; · iexact Hv1
    isplitl [Hs1]; · iexact Hs1
    isplitl [Hu1]; · iexact Hu1
    isplitl [Hr1]; · iexact Hr1
    isplitl [Hz1]; · iexact Hz1
    isplitl [Hc1]; · iexact Hc1
    isplitl [Hi1]; · iexact Hi1
    isplitl [Hj1]; · iexact Hj1
    isplitl [Hk1]; · iexact Hk1
    iapply (cl_succ c 1 q 5 5 rfl); isplitl [HM1] <;> iassumption

/-- A copy into the result ended. -/
theorem wait_out (c : Dev nD) (j : Fin 3) (d : Fin 2) (q : Fin 4) (B : sProp 𝕄)
    (hB : outPay X Wt c d j q = iprop(outO X Wt c d q j ∗ B)) (P : Prg F) (Q : PUnit.{1} → sProp 𝕄) :
    iprop(Ctx X Wt K Ks ∗ pend c (kO d j q) ∗ Ow c [])
      ⊢ iprop((Ow c [] ∗ fin c (kO d j q) ∗ outO X Wt c d q j ∗ B -∗ Wp c P Q)
        -∗ Wp c (waitD (oSem d j q) (outS j d q c) (outS_words j d q c) P) Q) := by
  have h := step_wait X Wt K Ks c (kO d j q) rfl (w := .waitDma2 (oSem d j q) (outS j d q c) (outS j d q c) (outS_words j d q c) (outS_words j d q c))
    (fun R => by rw [show amtK (kO d j q) = NV from rfl, ← nv_out j d q c]; rfl) [] (fun i hi => absurd hi List.not_mem_nil) P Q
  rw [show payK X Wt c (kO d j q) 0 = outPay X Wt c d j q from rfl, hB] at h
  exact h

theorem run_drain (c : Dev nD) (q : Fin 4) (P : Prg F) (Q : PUnit.{1} → sProp 𝕄) :
    iprop(Ctx X Wt K Ks ∗ Ow c [] ∗ T7 X Wt c 0 q ∗ T7 X Wt c 1 q)
      ⊢ iprop((Ow c [] ∗ T8 X Wt c 0 q ∗ T8 X Wt c 1 q -∗ Wp c P Q) -∗ Wp c (drain q c P) Q) := by
  unfold T7 T8 drain
  iintro ⟨#HC, HO, ⟨Hv0, Hs0, Hu0, Hr0, Hz0, Hc0, Hi0, Hj0, Hk0, HN0⟩, ⟨Hv1, Hs1, Hu1, Hr1, Hz1, Hc1, Hi1, Hj1, Hk1, HN1⟩⟩ Hk
  iapply (wait_out X Wt K Ks c 0 0 q (held (F := F) c (sndS 0 1 q) fullShare.right) rfl _ Q) $$ [Hi0 HO]
  · isplitr; · iexact HC
    isplitl [Hi0] <;> iassumption
  iintro ⟨HO, Hi0, Ha0, Hx0⟩
  ihave Hu0 := (rejoin c (sndS 0 1 q)) $$ [Hu0 Hx0]
  · isplitl [Hu0] <;> iassumption
  iapply (wait_out X Wt K Ks c 0 1 q (held (F := F) c (sndS 1 1 q) fullShare.right) rfl _ Q) $$ [Hi1 HO]
  · isplitr; · iexact HC
    isplitl [Hi1] <;> iassumption
  iintro ⟨HO, Hi1, Ha1, Hx1⟩
  ihave Hu1 := (rejoin c (sndS 1 1 q)) $$ [Hu1 Hx1]
  · isplitl [Hu1] <;> iassumption
  iapply (wait_out X Wt K Ks c 1 0 q (held (F := F) c (rcvS 0 1 q) fullShare.right) rfl _ Q) $$ [Hj0 HO]
  · isplitr; · iexact HC
    isplitl [Hj0] <;> iassumption
  iintro ⟨HO, Hj0, Hb0, Hx0⟩
  ihave Hr0 := (rejoin c (rcvS 0 1 q)) $$ [Hr0 Hx0]
  · isplitl [Hr0] <;> iassumption
  iapply (wait_out X Wt K Ks c 1 1 q (held (F := F) c (rcvS 1 1 q) fullShare.right) rfl _ Q) $$ [Hj1 HO]
  · isplitr; · iexact HC
    isplitl [Hj1] <;> iassumption
  iintro ⟨HO, Hj1, Hb1, Hx1⟩
  ihave Hr1 := (rejoin c (rcvS 1 1 q)) $$ [Hr1 Hx1]
  · isplitl [Hr1] <;> iassumption
  iapply (wait_out X Wt K Ks c 2 0 q (held (F := F) c (rcvS 0 0 q) fullShare.right) rfl _ Q) $$ [Hk0 HO]
  · isplitr; · iexact HC
    isplitl [Hk0] <;> iassumption
  iintro ⟨HO, Hk0, Hd0, Hx0⟩
  ihave Hz0 := (rejoin c (rcvS 0 0 q)) $$ [Hz0 Hx0]
  · isplitl [Hz0] <;> iassumption
  iapply (wait_out X Wt K Ks c 2 1 q (held (F := F) c (rcvS 1 0 q) fullShare.right) rfl _ Q) $$ [Hk1 HO]
  · isplitr; · iexact HC
    isplitl [Hk1] <;> iassumption
  iintro ⟨HO, Hk1, Hd1, Hx1⟩
  ihave Hz1 := (rejoin c (rcvS 1 0 q)) $$ [Hz1 Hx1]
  · isplitl [Hz1] <;> iassumption
  iapply Hk
  isplitl [HO]; · iexact HO
  isplitl [Hs0 Hu0 Hr0 Hc0 Hi0 Hj0 Hk0 HN0 Hz0 Hv0 Ha0 Hb0 Hd0]
  · isplitl [Hs0]; · iexact Hs0
    isplitl [Hu0]; · iexact Hu0
    isplitl [Hz0]; · iexact Hz0
    isplitl [Hr0]; · iexact Hr0
    isplitl [Ha0]; · iexact Ha0
    isplitl [Hb0]; · iexact Hb0
    isplitl [Hd0]; · iexact Hd0
    isplitl [Hv0]; · iexact Hv0
    isplitl [Hc0]; · iexact Hc0
    isplitl [Hi0]; · iexact Hi0
    isplitl [Hj0]; · iexact Hj0
    isplitl [Hk0] <;> iassumption
  · isplitl [Hs1]; · iexact Hs1
    isplitl [Hu1]; · iexact Hu1
    isplitl [Hz1]; · iexact Hz1
    isplitl [Hr1]; · iexact Hr1
    isplitl [Ha1]; · iexact Ha1
    isplitl [Hb1]; · iexact Hb1
    isplitl [Hd1]; · iexact Hd1
    isplitl [Hv1]; · iexact Hv1
    isplitl [Hc1]; · iexact Hc1
    isplitl [Hi1]; · iexact Hi1
    isplitl [Hj1]; · iexact Hj1
    isplitl [Hk1] <;> iassumption

end Steps

end Cert.KernelIdeal.Hand
-- ==== Proof.Stages.lean ====
module

public import proofs.«01_k».proof.Proof.Hops2

/-! Each hop over all streams. -/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

/-! ## What is owed, by stages -/

def B5 : List Itm := []
def B4 : List Itm := iS 0 5 0 :: iS 1 5 0 :: iS 0 5 1 :: iS 1 5 1 :: iS 0 5 2 :: iS 1 5 2 :: iS 0 5 3 :: iS 1 5 3 :: B5
def B3 : List Itm := iS 0 4 0 :: iS 1 4 0 :: iS 0 4 1 :: iS 1 4 1 :: iS 0 4 2 :: iS 1 4 2 :: iS 0 4 3 :: iS 1 4 3 :: B4
/-- A block's accumulation and its departure, then the rest. -/
def hopI (k : Fin 3) (h : Fin 6) (l : List Itm) : List Itm :=
  iC 0 k 0 :: iC 1 k 0 :: iS 0 h 0 :: iS 1 h 0 :: iC 0 k 1 :: iC 1 k 1 :: iS 0 h 1 :: iS 1 h 1
    :: iC 0 k 2 :: iC 1 k 2 :: iS 0 h 2 :: iS 1 h 2 :: iC 0 k 3 :: iC 1 k 3 :: iS 0 h 3 :: iS 1 h 3 :: l
def B2 : List Itm := hopI 2 3 B3
def B1 : List Itm := hopI 1 2 B2
def B0 : List Itm := hopI 0 1 B1
def BS : List Itm := iS 0 0 0 :: iS 1 0 0 :: iS 0 0 1 :: iS 1 0 1 :: iS 0 0 2 :: iS 1 0 2 :: iS 0 0 3 :: iS 1 0 3 :: B0
/-- Everything a device owes, in program order. -/
def items : List Itm := iB 0 :: iB 1 :: BS

theorem tl {b : ℕ} {x : Itm} {l : List Itm} (h : ∀ i ∈ x :: l, b < iLev i) : ∀ i ∈ l, b < iLev i :=
  fun i hi => h i (List.mem_cons_of_mem _ hi)

/-- One for each stream; one for each block. -/
def all8 (f : Fin 2 → Fin 4 → sProp 𝕄) : sProp 𝕄 :=
  iprop((f 0 0 ∗ f 1 0) ∗ (f 0 1 ∗ f 1 1) ∗ (f 0 2 ∗ f 1 2) ∗ (f 0 3 ∗ f 1 3))
def all4 (f : Fin 4 → sProp 𝕄) : sProp 𝕄 := iprop(f 0 ∗ f 1 ∗ f 2 ∗ f 3)

section Steps

variable (X : Dev nD → (main_arg0 : Ref sig .tc).ty.Contents (Elt F))
  (Wt : Dev nD → (cc0_stg0_0 : Ref sig .tc).ty.Contents (Elt F))
  (K : Dev nD × CK → ℕ) (Ks : Key → ℕ)

theorem stage_drain (c : Dev nD) (P : Prg F) (Q : PUnit.{1} → sProp 𝕄) :
    iprop(Ctx X Wt K Ks ∗ Ow c [] ∗ all8 (T7 X Wt c))
      ⊢ iprop((Ow c [] ∗ all8 (T8 X Wt c) -∗ Wp c P Q) -∗ Wp c (drain 0 c <| drain 1 c <| drain 2 c <| drain 3 c P) Q) := by
  unfold all8
  iintro ⟨#HC, HO, H0, H1, H2, H3⟩ Hk
  iapply (run_drain X Wt K Ks c 0 _ Q) $$ [HO H0]
  · isplitr; · iexact HC
    isplitl [HO] <;> iassumption
  iintro ⟨HO, H0⟩
  iapply (run_drain X Wt K Ks c 1 _ Q) $$ [HO H1]
  · isplitr; · iexact HC
    isplitl [HO] <;> iassumption
  iintro ⟨HO, H1⟩
  iapply (run_drain X Wt K Ks c 2 _ Q) $$ [HO H2]
  · isplitr; · iexact HC
    isplitl [HO] <;> iassumption
  iintro ⟨HO, H2⟩
  iapply (run_drain X Wt K Ks c 3 _ Q) $$ [HO H3]
  · isplitr; · iexact HC
    isplitl [HO] <;> iassumption
  iintro ⟨HO, H3⟩
  iapply Hk
  isplitl [HO]; · iexact HO
  isplitl [H0]; · iexact H0
  isplitl [H1]; · iexact H1
  isplitl [H2] <;> iassumption

theorem stage_hop5 (c : Dev nD) (P : Prg F) (Q : PUnit.{1} → sProp 𝕄) :
    iprop(Ctx X Wt K Ks ∗ Ow c [] ∗ all8 (T6 c))
      ⊢ iprop((Ow c [] ∗ all8 (T7 X Wt c) -∗ Wp c P Q) -∗ Wp c (hop5 0 c <| hop5 1 c <| hop5 2 c <| hop5 3 c P) Q) := by
  unfold all8
  iintro ⟨#HC, HO, H0, H1, H2, H3⟩ Hk
  iapply (run_hop5 X Wt K Ks c 0 _ Q) $$ [HO H0]
  · isplitr; · iexact HC
    isplitl [HO] <;> iassumption
  iintro ⟨HO, H0⟩
  iapply (run_hop5 X Wt K Ks c 1 _ Q) $$ [HO H1]
  · isplitr; · iexact HC
    isplitl [HO] <;> iassumption
  iintro ⟨HO, H1⟩
  iapply (run_hop5 X Wt K Ks c 2 _ Q) $$ [HO H2]
  · isplitr; · iexact HC
    isplitl [HO] <;> iassumption
  iintro ⟨HO, H2⟩
  iapply (run_hop5 X Wt K Ks c 3 _ Q) $$ [HO H3]
  · isplitr; · iexact HC
    isplitl [HO] <;> iassumption
  iintro ⟨HO, H3⟩
  iapply Hk
  isplitl [HO]; · iexact HO
  isplitl [H0]; · iexact H0
  isplitl [H1]; · iexact H1
  isplitl [H2] <;> iassumption

theorem stage_hop4 (c : Dev nD) (P : Prg F) (Q : PUnit.{1} → sProp 𝕄) :
    iprop(Ctx X Wt K Ks ∗ Ow c B4 ∗ all8 (T5 c))
      ⊢ iprop((Ow c [] ∗ all8 (T6 c) -∗ Wp c P Q) -∗ Wp c (hop4 0 c <| hop4 1 c <| hop4 2 c <| hop4 3 c P) Q) := by
  have g : ∀ i ∈ B4, 10 < iLev i := by decide
  unfold B4 at g
  unfold all8 B4
  have g0 := tl (tl g)
  have g1 := tl (tl g0)
  have g2 := tl (tl g1)
  have g3 := tl (tl g2)
  iintro ⟨#HC, HO, H0, H1, H2, H3⟩ Hk
  iapply (run_hop4 X Wt K Ks c 0 _ g0 _ Q) $$ [HO H0]
  · isplitr; · iexact HC
    isplitl [HO] <;> iassumption
  iintro ⟨HO, H0⟩
  iapply (run_hop4 X Wt K Ks c 1 _ g1 _ Q) $$ [HO H1]
  · isplitr; · iexact HC
    isplitl [HO] <;> iassumption
  iintro ⟨HO, H1⟩
  iapply (run_hop4 X Wt K Ks c 2 _ g2 _ Q) $$ [HO H2]
  · isplitr; · iexact HC
    isplitl [HO] <;> iassumption
  iintro ⟨HO, H2⟩
  iapply (run_hop4 X Wt K Ks c 3 _ g3 _ Q) $$ [HO H3]
  · isplitr; · iexact HC
    isplitl [HO] <;> iassumption
  iintro ⟨HO, H3⟩
  iapply Hk
  isplitl [HO]; · iexact HO
  isplitl [H0]; · iexact H0
  isplitl [H1]; · iexact H1
  isplitl [H2] <;> iassumption

theorem stage_hop3 (c : Dev nD) (P : Prg F) (Q : PUnit.{1} → sProp 𝕄) :
    iprop(Ctx X Wt K Ks ∗ Ow c B3 ∗ all8 (T4 c))
      ⊢ iprop((Ow c B4 ∗ all8 (T5 c) -∗ Wp c P Q) -∗ Wp c (hop3 0 c <| hop3 1 c <| hop3 2 c <| hop3 3 c P) Q) := by
  have g : ∀ i ∈ B3, 8 < iLev i := by decide
  unfold B3 at g
  unfold all8 B3
  have g0 := tl (tl g)
  have g1 := tl (tl g0)
  have g2 := tl (tl g1)
  have g3 := tl (tl g2)
  iintro ⟨#HC, HO, H0, H1, H2, H3⟩ Hk
  iapply (run_hop3 X Wt K Ks c 0 _ g0 _ Q) $$ [HO H0]
  · isplitr; · iexact HC
    isplitl [HO] <;> iassumption
  iintro ⟨HO, H0⟩
  iapply (run_hop3 X Wt K Ks c 1 _ g1 _ Q) $$ [HO H1]
  · isplitr; · iexact HC
    isplitl [HO] <;> iassumption
  iintro ⟨HO, H1⟩
  iapply (run_hop3 X Wt K Ks c 2 _ g2 _ Q) $$ [HO H2]
  · isplitr; · iexact HC
    isplitl [HO] <;> iassumption
  iintro ⟨HO, H2⟩
  iapply (run_hop3 X Wt K Ks c 3 _ g3 _ Q) $$ [HO H3]
  · isplitr; · iexact HC
    isplitl [HO] <;> iassumption
  iintro ⟨HO, H3⟩
  iapply Hk
  isplitl [HO]; · iexact HO
  isplitl [H0]; · iexact H0
  isplitl [H1]; · iexact H1
  isplitl [H2] <;> iassumption

/-- One block of the third hop, with the resources it shares. -/
theorem stage_hop2 (c : Dev nD) (P : Prg F) (Q : PUnit.{1} → sProp 𝕄) :
    iprop(Ctx X Wt K Ks ∗ Ow c B2 ∗ all4 (xO X c 1) ∗ all4 (xO X c 2) ∗ wO Wt c 0 ∗ wO Wt c 1 ∗ all8 (T3 c))
      ⊢ iprop((Ow c B3 ∗ all4 (xO X c 1) ∗ all4 (xO X c 2) ∗ wO Wt c 0 ∗ wO Wt c 1 ∗ all8 (T4 c) -∗ Wp c P Q)
        -∗ Wp c (hop2 0 c <| hop2 1 c <| hop2 2 c <| hop2 3 c P) Q) := by
  have g : ∀ i ∈ B2, 6 < iLev i := by decide
  unfold B2 hopI at g
  have g0 := tl (tl (tl (tl g)))
  have g1 := tl (tl (tl (tl g0)))
  have g2 := tl (tl (tl (tl g1)))
  have g3 := tl (tl (tl (tl g2)))
  unfold all8 all4 B2 hopI
  iintro ⟨#HC, HO, ⟨Ha0, Ha1, Ha2, Ha3⟩, ⟨Hb0, Hb1, Hb2, Hb3⟩, Hw, Hv, ⟨H0, H0'⟩, ⟨H1, H1'⟩, ⟨H2, H2'⟩, ⟨H3, H3'⟩⟩ Hk
  iapply (run_hop2 X Wt K Ks c 0 _ g0 _ Q) $$ [HO Ha0 Hb0 Hw Hv H0 H0']
  · isplitr; · iexact HC
    isplitl [HO]; · iexact HO
    isplitl [Ha0]; · iexact Ha0
    isplitl [Hb0]; · iexact Hb0
    isplitl [Hw]; · iexact Hw
    isplitl [Hv]; · iexact Hv
    isplitl [H0]; · iexact H0
    iexact H0'
  iintro ⟨HO, Ha0, Hb0, Hw, Hv, H0, H0'⟩
  iapply (run_hop2 X Wt K Ks c 1 _ g1 _ Q) $$ [HO Ha1 Hb1 Hw Hv H1 H1']
  · isplitr; · iexact HC
    isplitl [HO]; · iexact HO
    isplitl [Ha1]; · iexact Ha1
    isplitl [Hb1]; · iexact Hb1
    isplitl [Hw]; · iexact Hw
    isplitl [Hv]; · iexact Hv
    isplitl [H1]; · iexact H1
    iexact H1'
  iintro ⟨HO, Ha1, Hb1, Hw, Hv, H1, H1'⟩
  iapply (run_hop2 X Wt K Ks c 2 _ g2 _ Q) $$ [HO Ha2 Hb2 Hw Hv H2 H2']
  · isplitr; · iexact HC
    isplitl [HO]; · iexact HO
    isplitl [Ha2]; · iexact Ha2
    isplitl [Hb2]; · iexact Hb2
    isplitl [Hw]; · iexact Hw
    isplitl [Hv]; · iexact Hv
    isplitl [H2]; · iexact H2
    iexact H2'
  iintro ⟨HO, Ha2, Hb2, Hw, Hv, H2, H2'⟩
  iapply (run_hop2 X Wt K Ks c 3 _ g3 _ Q) $$ [HO Ha3 Hb3 Hw Hv H3 H3']
  · isplitr; · iexact HC
    isplitl [HO]; · iexact HO
    isplitl [Ha3]; · iexact Ha3
    isplitl [Hb3]; · iexact Hb3
    isplitl [Hw]; · iexact Hw
    isplitl [Hv]; · iexact Hv
    isplitl [H3]; · iexact H3
    iexact H3'
  iintro ⟨HO, Ha3, Hb3, Hw, Hv, H3, H3'⟩
  iapply Hk
  isplitl [HO]; · iexact HO
  isplitl [Ha0 Ha1 Ha2 Ha3]
  · isplitl [Ha0]; · iexact Ha0
    isplitl [Ha1]; · iexact Ha1
    isplitl [Ha2]; · iexact Ha2
    iexact Ha3
  isplitl [Hb0 Hb1 Hb2 Hb3]
  · isplitl [Hb0]; · iexact Hb0
    isplitl [Hb1]; · iexact Hb1
    isplitl [Hb2]; · iexact Hb2
    iexact Hb3
  isplitl [Hw]; · iexact Hw
  isplitl [Hv]; · iexact Hv
  isplitl [H0 H0']; · isplitl [H0]; · iexact H0
                      iexact H0'
  isplitl [H1 H1']; · isplitl [H1]; · iexact H1
                      iexact H1'
  isplitl [H2 H2']; · isplitl [H2]; · iexact H2
                      iexact H2'
  isplitl [H3]; · iexact H3
  iexact H3'

theorem stage_hop1 (c : Dev nD) (P : Prg F) (Q : PUnit.{1} → sProp 𝕄) :
    iprop(Ctx X Wt K Ks ∗ Ow c B1 ∗ stO X c 1 3 ∗ all4 (xH (F := F) c 3) ∗ wO Wt c 0 ∗ wO Wt c 1 ∗ all8 (T2 c))
      ⊢ iprop((Ow c B2 ∗ stO X c 1 3 ∗ all4 (xO X c 3) ∗ wO Wt c 0 ∗ wO Wt c 1 ∗ all8 (T3 c) -∗ Wp c P Q)
        -∗ Wp c (hop1 0 c <| hop1 1 c <| hop1 2 c <| hop1 3 c P) Q) := by
  have g : ∀ i ∈ B1, 4 < iLev i := by decide
  unfold B1 hopI at g
  have g0 := tl (tl (tl (tl g)))
  have g1 := tl (tl (tl (tl g0)))
  have g2 := tl (tl (tl (tl g1)))
  have g3 := tl (tl (tl (tl g2)))
  unfold all8 all4 B1 hopI
  iintro ⟨#HC, HO, Ha, ⟨Hb0, Hb1, Hb2, Hb3⟩, Hw, Hv, ⟨H0, H0'⟩, ⟨H1, H1'⟩, ⟨H2, H2'⟩, ⟨H3, H3'⟩⟩ Hk
  iapply (run_hop1 X Wt K Ks c 0 _ g0 _ Q) $$ [HO Ha Hb0 Hw Hv H0 H0']
  · isplitr; · iexact HC
    isplitl [HO]; · iexact HO
    isplitl [Ha]; · iexact Ha
    isplitl [Hb0]; · iexact Hb0
    isplitl [Hw]; · iexact Hw
    isplitl [Hv]; · iexact Hv
    isplitl [H0]; · iexact H0
    iexact H0'
  iintro ⟨HO, Ha, Hb0, Hw, Hv, H0, H0'⟩
  iapply (run_hop1 X Wt K Ks c 1 _ g1 _ Q) $$ [HO Ha Hb1 Hw Hv H1 H1']
  · isplitr; · iexact HC
    isplitl [HO]; · iexact HO
    isplitl [Ha]; · iexact Ha
    isplitl [Hb1]; · iexact Hb1
    isplitl [Hw]; · iexact Hw
    isplitl [Hv]; · iexact Hv
    isplitl [H1]; · iexact H1
    iexact H1'
  iintro ⟨HO, Ha, Hb1, Hw, Hv, H1, H1'⟩
  iapply (run_hop1 X Wt K Ks c 2 _ g2 _ Q) $$ [HO Ha Hb2 Hw Hv H2 H2']
  · isplitr; · iexact HC
    isplitl [HO]; · iexact HO
    isplitl [Ha]; · iexact Ha
    isplitl [Hb2]; · iexact Hb2
    isplitl [Hw]; · iexact Hw
    isplitl [Hv]; · iexact Hv
    isplitl [H2]; · iexact H2
    iexact H2'
  iintro ⟨HO, Ha, Hb2, Hw, Hv, H2, H2'⟩
  iapply (run_hop1 X Wt K Ks c 3 _ g3 _ Q) $$ [HO Ha Hb3 Hw Hv H3 H3']
  · isplitr; · iexact HC
    isplitl [HO]; · iexact HO
    isplitl [Ha]; · iexact Ha
    isplitl [Hb3]; · iexact Hb3
    isplitl [Hw]; · iexact Hw
    isplitl [Hv]; · iexact Hv
    isplitl [H3]; · iexact H3
    iexact H3'
  iintro ⟨HO, Ha, Hb3, Hw, Hv, H3, H3'⟩
  iapply Hk
  isplitl [HO]; · iexact HO
  isplitl [Ha]; · iexact Ha
  isplitl [Hb0 Hb1 Hb2 Hb3]
  · isplitl [Hb0]; · iexact Hb0
    isplitl [Hb1]; · iexact Hb1
    isplitl [Hb2]; · iexact Hb2
    iexact Hb3
  isplitl [Hw]; · iexact Hw
  isplitl [Hv]; · iexact Hv
  isplitl [H0 H0']; · isplitl [H0]; · iexact H0
                      iexact H0'
  isplitl [H1 H1']; · isplitl [H1]; · iexact H1
                      iexact H1'
  isplitl [H2 H2']; · isplitl [H2]; · iexact H2
                      iexact H2'
  isplitl [H3]; · iexact H3
  iexact H3'

/-- Two fetched blocks rounded, and the first hop of a block of streams. -/
theorem run_first (c : Dev nD) (q : Fin 4) (l : List Itm) (hl : ∀ i ∈ l, 2 < iLev i) (P : Prg F) (Q : PUnit.{1} → sProp 𝕄) :
    iprop(Ctx X Wt K Ks ∗ Ow c (iC 0 0 q :: iC 1 0 q :: iS 0 1 q :: iS 1 1 q :: l) ∗ stO X c 1 1 ∗ stO X c 0 2
        ∗ xH (F := F) c 1 q ∗ xH (F := F) c 2 q ∗ wO Wt c 0 ∗ wO Wt c 1 ∗ T1 c 0 q ∗ T1 c 1 q)
      ⊢ iprop((Ow c l ∗ stO X c 1 1 ∗ stO X c 0 2 ∗ xO X c 1 q ∗ xO X c 2 q ∗ wO Wt c 0 ∗ wO Wt c 1 ∗ T2 c 0 q ∗ T2 c 1 q -∗ Wp c P Q)
        -∗ Wp c (castXS 1 1 q c <| castXS 2 0 q c <| hop0 q c P) Q) := by
  iintro ⟨#HC, HO, Hu, Hs, Ha, Hb, Hw, Hv, H0, H1⟩ Hk
  iapply (piece_cast X c 1 1 q _ Q) $$ [Hu Ha]
  · isplitl [Hu]; · iexact Hu
    iexact Ha
  iintro ⟨Hu, Ha⟩
  iapply (piece_cast X c 2 0 q _ Q) $$ [Hs Hb]
  · isplitl [Hs]; · iexact Hs
    iexact Hb
  iintro ⟨Hs, Hb⟩
  iapply (run_hop0 X Wt K Ks c q l hl _ Q) $$ [HO Ha Hb Hw Hv H0 H1]
  · isplitr; · iexact HC
    isplitl [HO]; · iexact HO
    isplitl [Ha]; · iexact Ha
    isplitl [Hb]; · iexact Hb
    isplitl [Hw]; · iexact Hw
    isplitl [Hv]; · iexact Hv
    isplitl [H0]; · iexact H0
    iexact H1
  iintro ⟨HO, Ha, Hb, Hw, Hv, H0, H1⟩
  iapply Hk
  isplitl [HO]; · iexact HO
  isplitl [Hu]; · iexact Hu
  isplitl [Hs]; · iexact Hs
  isplitl [Ha]; · iexact Ha
  isplitl [Hb]; · iexact Hb
  isplitl [Hw]; · iexact Hw
  isplitl [Hv]; · iexact Hv
  isplitl [H0]; · iexact H0
  iexact H1

/-- A chunk of the operand where it was launched. -/
def xC (c : Dev nD) (n : Fin 4) : sProp 𝕄 := ownsTc c (xS (fetOff n c) (fetOff_inb n c)) fullShare (chunk X c n)

theorem piece_fetch (c : Dev nD) (n : Fin 4) (s : Fin 2) (hs : sx n = s) (P : Prg F) (Q : PUnit.{1} → sProp 𝕄) :
    iprop(Ctx X Wt K Ks ∗ idle c (kX n) ∗ xC X c n ∗ held (F := F) c (stS s) fullShare)
      ⊢ iprop((pend c (kX n) -∗ Wp c P Q) -∗ Wp c (fetchX n s c P) Q) := by
  subst hs
  exact step_copy X Wt K Ks c (kX n) (Finset.mem_singleton_self _) (xS (fetOff n c) (fetOff_inb n c)) (stS (sx n)) (nx_st _) fullShare (chunk X c n)
    (Entails.of_eq rfl) P Q

theorem piece_waitX (c : Dev nD) (n : Fin 4) (s : Fin 2) (hs : sx n = s) (l : List Itm) (P : Prg F) (Q : PUnit.{1} → sProp 𝕄) :
    iprop(Ctx X Wt K Ks ∗ pend c (kX n) ∗ Ow c l)
      ⊢ iprop((Ow c l ∗ fin c (kX n) ∗ stO X c s n ∗ xC X c n -∗ Wp c P Q) -∗ Wp c (waitX n s c P) Q) := by
  subst hs
  exact step_wait X Wt K Ks c (kX n) rfl (fun R => by rw [show amtK (kX n) = NX from rfl, ← nx_st (sx n)]; rfl) l
    (fun i _ => lev_pos i) P Q

end Steps

end Cert.KernelIdeal.Hand
-- ==== Proof.Body.lean ====
module

public import proofs.«01_k».proof.Proof.Stages

/-! The whole body on one device. -/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

section Steps

variable (X : Dev nD → (main_arg0 : Ref sig .tc).ty.Contents (Elt F))
  (Wt : Dev nD → (cc0_stg0_0 : Ref sig .tc).ty.Contents (Elt F))
  (K : Dev nD × CK → ℕ) (Ks : Key → ℕ)

theorem step_bar_lft (c : Dev nD) (l : List Itm) (P : Prg F) (Q : PUnit.{1} → sProp 𝕄) :
    iprop(Ctx X Wt K Ks ∗ Ow c (iB 0 :: l) ∗ tok (rcvFrom 0 c) kB 0 ∗ lend c 0)
      ⊢ iprop((Ow c l -∗ Wp c P Q) -∗ Wp c (signal (lft c) bSem P) Q) := step_bar X Wt K Ks c 0 l P Q
theorem step_bar_rgt (c : Dev nD) (l : List Itm) (P : Prg F) (Q : PUnit.{1} → sProp 𝕄) :
    iprop(Ctx X Wt K Ks ∗ Ow c (iB 1 :: l) ∗ tok (rcvFrom 1 c) kB 1 ∗ lend c 1)
      ⊢ iprop((Ow c l -∗ Wp c P Q) -∗ Wp c (signal (rgt c) bSem P) Q) := step_bar X Wt K Ks c 1 l P Q

theorem piece_castW (c : Dev nD) (d : Fin 2) (P : Prg F) (Q : PUnit.{1} → sProp 𝕄) :
    iprop(ownsTc c wM fullShare (Wt c) ∗ held (F := F) c (wbS d) fullShare)
      ⊢ iprop((ownsTc c wM fullShare (Wt c) ∗ wO Wt c d -∗ Wp c P Q) -∗ Wp c (castWS d P) Q) := step_castW Wt c d P Q

/-- A stream's own resources at the start. -/
def T0p (c : Dev nD) (d : Fin 2) (q : Fin 4) : sProp 𝕄 :=
  iprop(SR c d q 0 ∗ held (F := F) c (sndS d 0 q) fullShare ∗ held (F := F) c (sndS d 1 q) fullShare
    ∗ (SR c d q 1 ∗ gv c d q 0) ∗ A2 c d q ∗ A3 c d q ∗ A4 c d q
    ∗ SR c d q 5 ∗ idle c (kO d 2 q) ∗ held (F := F) c (outS 2 d q c) fullShare)

theorem join_lend (c : Dev nD) (d : Fin 2) (q : Fin 4) :
    iprop(T0p (F := F) c d q ∗ lend1 (F := F) (sndTo d c) d q) ⊢ T0 c d q := by
  unfold T0p T0 A1 A5 lend1
  rw [rcvFrom_sndTo]
  iintro ⟨⟨HR0, Hs0, Hs1, ⟨HR1, Hg⟩, H2, H3, H4, HR5, Hi, Ho⟩, Hr0, Hr1, Hp⟩
  isplitl [HR0]; · iexact HR0
  isplitl [Hs0]; · iexact Hs0
  isplitl [Hr0]; · iexact Hr0
  isplitl [Hs1]; · iexact Hs1
  isplitl [HR1 Hg Hr1]
  · isplitl [HR1]; · iexact HR1
    isplitl [Hg]; · iexact Hg
    iexact Hr1
  isplitl [H2]; · iexact H2
  isplitl [H3]; · iexact H3
  isplitl [H4]; · iexact H4
  isplitl [HR5]; · iexact HR5
  isplitl [Hi]; · iexact Hi
  isplitl [Ho]; · iexact Ho
  iexact Hp

theorem join_all (c : Dev nD) :
    iprop(all8 (T0p (F := F) c) ∗ lend (F := F) (sndTo 0 c) 0 ∗ lend (F := F) (sndTo 1 c) 1) ⊢ all8 (T0 c) := by
  unfold all8 lend
  iintro ⟨⟨⟨H00, H10⟩, ⟨H01, H11⟩, ⟨H02, H12⟩, ⟨H03, H13⟩⟩, ⟨L00, L01, L02, L03⟩, ⟨L10, L11, L12, L13⟩⟩
  isplitl [H00 L00 H10 L10]
  · isplitl [H00 L00]
    · iapply (join_lend (F := F) c 0 0); isplitl [H00]; · iexact H00
      iexact L00
    · iapply (join_lend (F := F) c 1 0); isplitl [H10]; · iexact H10
      iexact L10
  isplitl [H01 L01 H11 L11]
  · isplitl [H01 L01]
    · iapply (join_lend (F := F) c 0 1); isplitl [H01]; · iexact H01
      iexact L01
    · iapply (join_lend (F := F) c 1 1); isplitl [H11]; · iexact H11
      iexact L11
  isplitl [H02 L02 H12 L12]
  · isplitl [H02 L02]
    · iapply (join_lend (F := F) c 0 2); isplitl [H02]; · iexact H02
      iexact L02
    · iapply (join_lend (F := F) c 1 2); isplitl [H12]; · iexact H12
      iexact L12
  isplitl [H03 L03]
  · iapply (join_lend (F := F) c 0 3); isplitl [H03]; · iexact H03
    iexact L03
  · iapply (join_lend (F := F) c 1 3); isplitl [H13]; · iexact H13
    iexact L13

/-- A block of the device's own chunk rounded, and both its streams started. -/
theorem run_start (c : Dev nD) (q : Fin 4) (l : List Itm) (P : Prg F) (Q : PUnit.{1} → sProp 𝕄) :
    iprop(Ctx X Wt K Ks ∗ Ow c (iS 0 0 q :: iS 1 0 q :: l) ∗ stO X c 0 0 ∗ xH (F := F) c 0 q ∗ wO Wt c 0 ∗ wO Wt c 1 ∗ T0 c 0 q ∗ T0 c 1 q)
      ⊢ iprop((Ow c l ∗ stO X c 0 0 ∗ xO X c 0 q ∗ wO Wt c 0 ∗ wO Wt c 1 ∗ T1 c 0 q ∗ T1 c 1 q -∗ Wp c P Q)
        -∗ Wp c (castXS 0 0 q c <| initS 0 q c <| initS 1 q c P) Q) := by
  iintro ⟨#HC, HO, Hs, Hx, Hw, Hv, H0, H1⟩ Hk
  iapply (piece_cast X c 0 0 q _ Q) $$ [Hs Hx]
  · isplitl [Hs]; · iexact Hs
    iexact Hx
  iintro ⟨Hs, Hx⟩
  iapply (run_init X Wt K Ks c 0 q _ _ Q) $$ [HO Hx Hw H0]
  · isplitr; · iexact HC
    isplitl [HO]; · iexact HO
    isplitl [Hx]; · iexact Hx
    isplitl [Hw]; · iexact Hw
    iexact H0
  iintro ⟨HO, Hx, Hw, H0⟩
  iapply (run_init X Wt K Ks c 1 q _ _ Q) $$ [HO Hx Hv H1]
  · isplitr; · iexact HC
    isplitl [HO]; · iexact HO
    isplitl [Hx]; · iexact Hx
    isplitl [Hv]; · iexact Hv
    iexact H1
  iintro ⟨HO, Hx, Hv, H1⟩
  iapply Hk
  isplitl [HO]; · iexact HO
  isplitl [Hs]; · iexact Hs
  isplitl [Hx]; · iexact Hx
  isplitl [Hw]; · iexact Hw
  isplitl [Hv]; · iexact Hv
  isplitl [H0]; · iexact H0
  iexact H1

/-- The beginning: the barrier, and the streams' first transfers. -/
def In1 (c : Dev nD) : sProp 𝕄 :=
  iprop((idle c (kX 0) ∗ idle c (kX 1) ∗ idle c (kX 2)) ∗ (xC X c 0 ∗ xC X c 1 ∗ xC X c 2)
    ∗ (held (F := F) c (stS 0) fullShare ∗ held (F := F) c (stS 1) fullShare)
    ∗ (tok (rcvFrom 0 c) kB 0 ∗ tok (rcvFrom 1 c) kB 1 ∗ lend (F := F) c 0 ∗ lend (F := F) c 1)
    ∗ (atPos ER (cell c kB) 0 ∅ 0 ∗ cred (tallyAt (cell c kB) 0 2))
    ∗ ownsTc c wM fullShare (Wt c) ∗ held (F := F) c (wbS 0) fullShare ∗ held (F := F) c (wbS 1) fullShare
    ∗ all4 (xH (F := F) c 0) ∗ all8 (T0p c))
def Out1 (c : Dev nD) : sProp 𝕄 :=
  iprop((fin c (kX 0) ∗ fin c (kX 1) ∗ fin c (kX 2)) ∗ (xC X c 0 ∗ xC X c 1 ∗ xC X c 2)
    ∗ fin c kB ∗ ownsTc c wM fullShare (Wt c) ∗ all4 (xO X c 0))

theorem stage_start (c : Dev nD) (P : Prg F) (Q : PUnit.{1} → sProp 𝕄) :
    iprop(Ctx X Wt K Ks ∗ Ow c items ∗ In1 X Wt c)
      ⊢ iprop((Ow c B0 ∗ Out1 X Wt c ∗ stO X c 1 1 ∗ stO X c 0 2 ∗ wO Wt c 0 ∗ wO Wt c 1 ∗ all8 (T1 c) -∗ Wp c P Q)
        -∗ Wp c (fetchX 0 0 c <| fetchX 1 1 c <| signal (lft c) bSem <| signal (rgt c) bSem <| await bSem 2#32 <|
            castWS 0 <| waitX 0 0 c <| castXS 0 0 0 c <| initS 0 0 c <| castWS 1 <| initS 1 0 c <|
            castXS 0 0 1 c <| initS 0 1 c <| initS 1 1 c <|
            castXS 0 0 2 c <| initS 0 2 c <| initS 1 2 c <|
            castXS 0 0 3 c <| initS 0 3 c <| initS 1 3 c <|
            fetchX 2 0 c <| waitX 1 1 c <| waitX 2 0 c P) Q) := by
  have hlv : ∀ i ∈ BS, 1 < iLev i := by decide
  unfold In1 Out1 items
  iintro ⟨#HC, HO, ⟨Hi0, Hi1, Hi2⟩, ⟨Hx0, Hx1, Hx2⟩, ⟨Hs0, Hs1⟩, ⟨Ht0, Ht1, Hl0, Hl1⟩, HB, HW, Hw, Hv, Ha, HT⟩ Hk
  iapply (piece_fetch X Wt K Ks c 0 0 rfl _ Q) $$ [Hi0 Hx0 Hs0]
  · isplitr; · iexact HC
    isplitl [Hi0]; · iexact Hi0
    isplitl [Hx0]; · iexact Hx0
    iexact Hs0
  iintro Hi0
  iapply (piece_fetch X Wt K Ks c 1 1 rfl _ Q) $$ [Hi1 Hx1 Hs1]
  · isplitr; · iexact HC
    isplitl [Hi1]; · iexact Hi1
    isplitl [Hx1]; · iexact Hx1
    iexact Hs1
  iintro Hi1
  iapply (step_bar_lft X Wt K Ks c _ _ Q) $$ [HO Ht0 Hl0]
  · isplitr; · iexact HC
    isplitl [HO]; · iexact HO
    isplitl [Ht0]; · iexact Ht0
    iexact Hl0
  iintro HO
  iapply (step_bar_rgt X Wt K Ks c _ _ Q) $$ [HO Ht1 Hl1]
  · isplitr; · iexact HC
    isplitl [HO]; · iexact HO
    isplitl [Ht1]; · iexact Ht1
    iexact Hl1
  iintro HO
  iapply (step_await_bar X Wt K Ks c BS hlv _ Q) $$ [HO HB]
  · isplitr; · iexact HC
    isplitl [HB]; · iexact HB
    iexact HO
  iintro ⟨HO, HB, Hl0, Hl1⟩
  ihave HT := (join_all (F := F) c) $$ [HT Hl0 Hl1]
  · isplitl [HT]; · iexact HT
    isplitl [Hl0]; · iexact Hl0
    iexact Hl1
  unfold BS all8 all4
  icases HT with ⟨⟨H0, H0'⟩, ⟨H1, H1'⟩, ⟨H2, H2'⟩, ⟨H3, H3'⟩⟩
  icases Ha with ⟨Ha0, Ha1, Ha2, Ha3⟩
  iapply (piece_castW Wt c 0 _ Q) $$ [HW Hw]
  · isplitl [HW]; · iexact HW
    iexact Hw
  iintro ⟨HW, Hw⟩
  iapply (piece_waitX X Wt K Ks c 0 0 rfl _ _ Q) $$ [Hi0 HO]
  · isplitr; · iexact HC
    isplitl [Hi0]; · iexact Hi0
    iexact HO
  iintro ⟨HO, Hi0, Hs0, Hx0⟩
  iapply (piece_cast X c 0 0 0 _ Q) $$ [Hs0 Ha0]
  · isplitl [Hs0]; · iexact Hs0
    iexact Ha0
  iintro ⟨Hs0, Ha0⟩
  iapply (run_init X Wt K Ks c 0 0 _ _ Q) $$ [HO Ha0 Hw H0]
  · isplitr; · iexact HC
    isplitl [HO]; · iexact HO
    isplitl [Ha0]; · iexact Ha0
    isplitl [Hw]; · iexact Hw
    iexact H0
  iintro ⟨HO, Ha0, Hw, H0⟩
  iapply (piece_castW Wt c 1 _ Q) $$ [HW Hv]
  · isplitl [HW]; · iexact HW
    iexact Hv
  iintro ⟨HW, Hv⟩
  iapply (run_init X Wt K Ks c 1 0 _ _ Q) $$ [HO Ha0 Hv H0']
  · isplitr; · iexact HC
    isplitl [HO]; · iexact HO
    isplitl [Ha0]; · iexact Ha0
    isplitl [Hv]; · iexact Hv
    iexact H0'
  iintro ⟨HO, Ha0, Hv, H0'⟩
  iapply (run_start X Wt K Ks c 1 _ _ Q) $$ [HO Hs0 Ha1 Hw Hv H1 H1']
  · isplitr; · iexact HC
    isplitl [HO]; · iexact HO
    isplitl [Hs0]; · iexact Hs0
    isplitl [Ha1]; · iexact Ha1
    isplitl [Hw]; · iexact Hw
    isplitl [Hv]; · iexact Hv
    isplitl [H1]; · iexact H1
    iexact H1'
  iintro ⟨HO, Hs0, Ha1, Hw, Hv, H1, H1'⟩
  iapply (run_start X Wt K Ks c 2 _ _ Q) $$ [HO Hs0 Ha2 Hw Hv H2 H2']
  · isplitr; · iexact HC
    isplitl [HO]; · iexact HO
    isplitl [Hs0]; · iexact Hs0
    isplitl [Ha2]; · iexact Ha2
    isplitl [Hw]; · iexact Hw
    isplitl [Hv]; · iexact Hv
    isplitl [H2]; · iexact H2
    iexact H2'
  iintro ⟨HO, Hs0, Ha2, Hw, Hv, H2, H2'⟩
  iapply (run_start X Wt K Ks c 3 _ _ Q) $$ [HO Hs0 Ha3 Hw Hv H3 H3']
  · isplitr; · iexact HC
    isplitl [HO]; · iexact HO
    isplitl [Hs0]; · iexact Hs0
    isplitl [Ha3]; · iexact Ha3
    isplitl [Hw]; · iexact Hw
    isplitl [Hv]; · iexact Hv
    isplitl [H3]; · iexact H3
    iexact H3'
  iintro ⟨HO, Hs0, Ha3, Hw, Hv, H3, H3'⟩
  iapply (piece_fetch X Wt K Ks c 2 0 rfl _ Q) $$ [Hi2 Hx2 Hs0]
  · isplitr; · iexact HC
    isplitl [Hi2]; · iexact Hi2
    isplitl [Hx2]; · iexact Hx2
    iapply (show stO X c 0 0 ⊢ held (F := F) c (stS 0) fullShare from by
      unfold stO; iintro H; iexists _; iexact H)
    iexact Hs0
  iintro Hi2
  iapply (piece_waitX X Wt K Ks c 1 1 rfl _ _ Q) $$ [Hi1 HO]
  · isplitr; · iexact HC
    isplitl [Hi1]; · iexact Hi1
    iexact HO
  iintro ⟨HO, Hi1, Hs1, Hx1⟩
  iapply (piece_waitX X Wt K Ks c 2 0 rfl _ _ Q) $$ [Hi2 HO]
  · isplitr; · iexact HC
    isplitl [Hi2]; · iexact Hi2
    iexact HO
  iintro ⟨HO, Hi2, Hs0, Hx2⟩
  iapply Hk
  isplitl [HO]; · iexact HO
  isplitl [Hi0 Hi1 Hi2 Hx0 Hx1 Hx2 HB HW Ha0 Ha1 Ha2 Ha3]
  · isplitl [Hi0 Hi1 Hi2]
    · isplitl [Hi0]; · iexact Hi0
      isplitl [Hi1]; · iexact Hi1
      iexact Hi2
    isplitl [Hx0 Hx1 Hx2]
    · isplitl [Hx0]; · iexact Hx0
      isplitl [Hx1]; · iexact Hx1
      iexact Hx2
    isplitl [HB]; · iexact HB
    isplitl [HW]; · iexact HW
    isplitl [Ha0]; · iexact Ha0
    isplitl [Ha1]; · iexact Ha1
    isplitl [Ha2]; · iexact Ha2
    iexact Ha3
  isplitl [Hs1]; · iexact Hs1
  isplitl [Hs0]; · iexact Hs0
  isplitl [Hw]; · iexact Hw
  isplitl [Hv]; · iexact Hv
  isplitl [H0 H0']; · isplitl [H0]; · iexact H0
                      iexact H0'
  isplitl [H1 H1']; · isplitl [H1]; · iexact H1
                      iexact H1'
  isplitl [H2 H2']; · isplitl [H2]; · iexact H2
                      iexact H2'
  isplitl [H3]; · iexact H3
  iexact H3'

/-- The first hop over all streams, the last chunk being fetched meanwhile. -/
theorem stage_hop0 (c : Dev nD) (P : Prg F) (Q : PUnit.{1} → sProp 𝕄) :
    iprop(Ctx X Wt K Ks ∗ Ow c B0 ∗ stO X c 1 1 ∗ stO X c 0 2 ∗ all4 (xH (F := F) c 1) ∗ all4 (xH (F := F) c 2) ∗ wO Wt c 0 ∗ wO Wt c 1
        ∗ idle c (kX 3) ∗ xC X c 3 ∗ all8 (T1 c))
      ⊢ iprop((Ow c B1 ∗ stO X c 0 2 ∗ stO X c 1 3 ∗ fin c (kX 3) ∗ xC X c 3 ∗ all4 (xO X c 1) ∗ all4 (xO X c 2) ∗ wO Wt c 0 ∗ wO Wt c 1
          ∗ all8 (T2 c) -∗ Wp c P Q)
        -∗ Wp c (castXS 1 1 0 c <| castXS 2 0 0 c <| hop0 0 c <|
            castXS 1 1 1 c <| castXS 2 0 1 c <| hop0 1 c <|
            castXS 1 1 2 c <| castXS 2 0 2 c <| hop0 2 c <|
            castXS 1 1 3 c <| castXS 2 0 3 c <| fetchX 3 1 c <| hop0 3 c <| waitX 3 1 c P) Q) := by
  have g : ∀ i ∈ B0, 2 < iLev i := by decide
  unfold B0 hopI at g
  have g0 := tl (tl (tl (tl g)))
  have g1 := tl (tl (tl (tl g0)))
  have g2 := tl (tl (tl (tl g1)))
  have g3 := tl (tl (tl (tl g2)))
  unfold all8 all4 B0 hopI
  iintro ⟨#HC, HO, Hu, Hs, ⟨Ha0, Ha1, Ha2, Ha3⟩, ⟨Hb0, Hb1, Hb2, Hb3⟩, Hw, Hv, Hi, Hx, ⟨H0, H0'⟩, ⟨H1, H1'⟩, ⟨H2, H2'⟩, ⟨H3, H3'⟩⟩ Hk
  iapply (run_first X Wt K Ks c 0 _ g0 _ Q) $$ [HO Hu Hs Ha0 Hb0 Hw Hv H0 H0']
  · isplitr; · iexact HC
    isplitl [HO]; · iexact HO
    isplitl [Hu]; · iexact Hu
    isplitl [Hs]; · iexact Hs
    isplitl [Ha0]; · iexact Ha0
    isplitl [Hb0]; · iexact Hb0
    isplitl [Hw]; · iexact Hw
    isplitl [Hv]; · iexact Hv
    isplitl [H0]; · iexact H0
    iexact H0'
  iintro ⟨HO, Hu, Hs, Ha0, Hb0, Hw, Hv, H0, H0'⟩
  iapply (run_first X Wt K Ks c 1 _ g1 _ Q) $$ [HO Hu Hs Ha1 Hb1 Hw Hv H1 H1']
  · isplitr; · iexact HC
    isplitl [HO]; · iexact HO
    isplitl [Hu]; · iexact Hu
    isplitl [Hs]; · iexact Hs
    isplitl [Ha1]; · iexact Ha1
    isplitl [Hb1]; · iexact Hb1
    isplitl [Hw]; · iexact Hw
    isplitl [Hv]; · iexact Hv
    isplitl [H1]; · iexact H1
    iexact H1'
  iintro ⟨HO, Hu, Hs, Ha1, Hb1, Hw, Hv, H1, H1'⟩
  iapply (run_first X Wt K Ks c 2 _ g2 _ Q) $$ [HO Hu Hs Ha2 Hb2 Hw Hv H2 H2']
  · isplitr; · iexact HC
    isplitl [HO]; · iexact HO
    isplitl [Hu]; · iexact Hu
    isplitl [Hs]; · iexact Hs
    isplitl [Ha2]; · iexact Ha2
    isplitl [Hb2]; · iexact Hb2
    isplitl [Hw]; · iexact Hw
    isplitl [Hv]; · iexact Hv
    isplitl [H2]; · iexact H2
    iexact H2'
  iintro ⟨HO, Hu, Hs, Ha2, Hb2, Hw, Hv, H2, H2'⟩
  iapply (piece_cast X c 1 1 3 _ Q) $$ [Hu Ha3]
  · isplitl [Hu]; · iexact Hu
    iexact Ha3
  iintro ⟨Hu, Ha3⟩
  iapply (piece_cast X c 2 0 3 _ Q) $$ [Hs Hb3]
  · isplitl [Hs]; · iexact Hs
    iexact Hb3
  iintro ⟨Hs, Hb3⟩
  iapply (piece_fetch X Wt K Ks c 3 1 rfl _ Q) $$ [Hi Hx Hu]
  · isplitr; · iexact HC
    isplitl [Hi]; · iexact Hi
    isplitl [Hx]; · iexact Hx
    iapply (show stO X c 1 1 ⊢ held (F := F) c (stS 1) fullShare from by
      unfold stO; iintro H; iexists _; iexact H)
    iexact Hu
  iintro Hi
  iapply (run_hop0 X Wt K Ks c 3 _ g3 _ Q) $$ [HO Ha3 Hb3 Hw Hv H3 H3']
  · isplitr; · iexact HC
    isplitl [HO]; · iexact HO
    isplitl [Ha3]; · iexact Ha3
    isplitl [Hb3]; · iexact Hb3
    isplitl [Hw]; · iexact Hw
    isplitl [Hv]; · iexact Hv
    isplitl [H3]; · iexact H3
    iexact H3'
  iintro ⟨HO, Ha3, Hb3, Hw, Hv, H3, H3'⟩
  iapply (piece_waitX X Wt K Ks c 3 1 rfl _ _ Q) $$ [Hi HO]
  · isplitr; · iexact HC
    isplitl [Hi]; · iexact Hi
    iexact HO
  iintro ⟨HO, Hi, Hu, Hx⟩
  iapply Hk
  isplitl [HO]; · iexact HO
  isplitl [Hs]; · iexact Hs
  isplitl [Hu]; · iexact Hu
  isplitl [Hi]; · iexact Hi
  isplitl [Hx]; · iexact Hx
  isplitl [Ha0 Ha1 Ha2 Ha3]
  · isplitl [Ha0]; · iexact Ha0
    isplitl [Ha1]; · iexact Ha1
    isplitl [Ha2]; · iexact Ha2
    iexact Ha3
  isplitl [Hb0 Hb1 Hb2 Hb3]
  · isplitl [Hb0]; · iexact Hb0
    isplitl [Hb1]; · iexact Hb1
    isplitl [Hb2]; · iexact Hb2
    iexact Hb3
  isplitl [Hw]; · iexact Hw
  isplitl [Hv]; · iexact Hv
  isplitl [H0 H0']; · isplitl [H0]; · iexact H0
                      iexact H0'
  isplitl [H1 H1']; · isplitl [H1]; · iexact H1
                      iexact H1'
  isplitl [H2 H2']; · isplitl [H2]; · iexact H2
                      iexact H2'
  isplitl [H3]; · iexact H3
  iexact H3'

/-- What the body takes besides what every device knows and what is owed; what it leaves. -/
def Pre (c : Dev nD) : sProp 𝕄 :=
  iprop(In1 X Wt c ∗ all4 (xH (F := F) c 1) ∗ all4 (xH (F := F) c 2) ∗ all4 (xH (F := F) c 3) ∗ idle c (kX 3) ∗ xC X c 3)
def Post (c : Dev nD) : sProp 𝕄 :=
  iprop(Out1 X Wt c ∗ (fin c (kX 3) ∗ xC X c 3) ∗ (stO X c 0 2 ∗ stO X c 1 3) ∗ (wO Wt c 0 ∗ wO Wt c 1)
    ∗ (all4 (xO X c 1) ∗ all4 (xO X c 2) ∗ all4 (xO X c 3)) ∗ all8 (T8 X Wt c))

theorem run_prog (c : Dev nD) :
    iprop(Ctx X Wt K Ks ∗ Ow c items ∗ Pre X Wt c)
      ⊢ Wp c (progC c) (fun _ => iprop(Ow c [] ∗ Post X Wt c)) := by
  unfold Pre Post progC
  iintro ⟨#HC, HO, HI, Ha, Hb, Hd, Hi, Hx⟩
  iapply (stage_start X Wt K Ks c _ _) $$ [HO HI]
  · isplitr; · iexact HC
    isplitl [HO]; · iexact HO
    iexact HI
  iintro ⟨HO, HI, Hu, Hs, Hw, Hv, HT⟩
  iapply (stage_hop0 X Wt K Ks c _ _) $$ [HO Hu Hs Ha Hb Hw Hv Hi Hx HT]
  · isplitr; · iexact HC
    isplitl [HO]; · iexact HO
    isplitl [Hu]; · iexact Hu
    isplitl [Hs]; · iexact Hs
    isplitl [Ha]; · iexact Ha
    isplitl [Hb]; · iexact Hb
    isplitl [Hw]; · iexact Hw
    isplitl [Hv]; · iexact Hv
    isplitl [Hi]; · iexact Hi
    isplitl [Hx]; · iexact Hx
    iexact HT
  iintro ⟨HO, Hs, Hu, Hi, Hx, Ha, Hb, Hw, Hv, HT⟩
  iapply (stage_hop1 X Wt K Ks c _ _) $$ [HO Hu Hd Hw Hv HT]
  · isplitr; · iexact HC
    isplitl [HO]; · iexact HO
    isplitl [Hu]; · iexact Hu
    isplitl [Hd]; · iexact Hd
    isplitl [Hw]; · iexact Hw
    isplitl [Hv]; · iexact Hv
    iexact HT
  iintro ⟨HO, Hu, Hd, Hw, Hv, HT⟩
  iapply (stage_hop2 X Wt K Ks c _ _) $$ [HO Ha Hb Hw Hv HT]
  · isplitr; · iexact HC
    isplitl [HO]; · iexact HO
    isplitl [Ha]; · iexact Ha
    isplitl [Hb]; · iexact Hb
    isplitl [Hw]; · iexact Hw
    isplitl [Hv]; · iexact Hv
    iexact HT
  iintro ⟨HO, Ha, Hb, Hw, Hv, HT⟩
  iapply (stage_hop3 X Wt K Ks c _ _) $$ [HO HT]
  · isplitr; · iexact HC
    isplitl [HO]; · iexact HO
    iexact HT
  iintro ⟨HO, HT⟩
  iapply (stage_hop4 X Wt K Ks c _ _) $$ [HO HT]
  · isplitr; · iexact HC
    isplitl [HO]; · iexact HO
    iexact HT
  iintro ⟨HO, HT⟩
  iapply (stage_hop5 X Wt K Ks c _ _) $$ [HO HT]
  · isplitr; · iexact HC
    isplitl [HO]; · iexact HO
    iexact HT
  iintro ⟨HO, HT⟩
  iapply (stage_drain X Wt K Ks c _ _) $$ [HO HT]
  · isplitr; · iexact HC
    isplitl [HO]; · iexact HO
    iexact HT
  iintro ⟨HO, HT⟩
  unfold Wp
  rw [wp_ret]
  imodintro
  isplitl [HO]; · iexact HO
  isplitl [HI]; · iexact HI
  isplitl [Hi Hx]
  · isplitl [Hi]; · iexact Hi
    iexact Hx
  isplitl [Hs Hu]
  · isplitl [Hs]; · iexact Hs
    iexact Hu
  isplitl [Hw Hv]
  · isplitl [Hw]; · iexact Hw
    iexact Hv
  isplitl [Ha Hb Hd]
  · isplitl [Ha]; · iexact Ha
    isplitl [Hb]; · iexact Hb
    iexact Hd
  iexact HT

end Steps

end Cert.KernelIdeal.Hand
-- ==== Proof.Deal.lean ====
module

public import proofs.«01_k».proof.Proof.Body

/-! The ghost state of the launch: what the launch element deals each device, and what each device starts from. -/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

/-! ## Listed conjunctions -/

theorem six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem three (Φ : Fin 3 → sProp 𝕄) : bigSep Finset.univ Φ = iprop(Φ 0 ∗ Φ 1 ∗ Φ 2) :=
  bigSep_univ_eq_bigSepL [0, 1, 2] (by decide) (by decide) Φ
theorem two (Φ : Fin 2 → sProp 𝕄) : bigSep Finset.univ Φ = iprop(Φ 0 ∗ Φ 1) :=
  bigSep_univ_eq_bigSepL [0, 1] (by decide) (by decide) Φ

/-- The streams. -/
abbrev D8 : Type := Fin 2 × Fin 4

theorem all8_eq (f : Fin 2 → Fin 4 → sProp 𝕄) : all8 f = bigSep Finset.univ fun x : D8 => f x.1 x.2 := by
  rw [bigSep_univ_eq_bigSepL (I := D8) [(0, 0), (1, 0), (0, 1), (1, 1), (0, 2), (1, 2), (0, 3), (1, 3)] (by decide) (by decide)]
  unfold all8
  show iprop((f 0 0 ∗ f 1 0) ∗ (f 0 1 ∗ f 1 1) ∗ (f 0 2 ∗ f 1 2) ∗ (f 0 3 ∗ f 1 3))
    = iprop(f 0 0 ∗ f 1 0 ∗ f 0 1 ∗ f 1 1 ∗ f 0 2 ∗ f 1 2 ∗ f 0 3 ∗ f 1 3)
  have h (a b c : sProp 𝕄) : iprop((a ∗ b) ∗ c) = iprop(a ∗ b ∗ c) := BI.Entails.antisymm BI.sep_assoc BI.sep_assoc'
  rw [h, h, h]
theorem all4_eq (f : Fin 4 → sProp 𝕄) : all4 f = bigSep Finset.univ f := (four f).symm

/-- What a stream has of a family over the cells of a device. -/
def byQ (f : CK → sProp 𝕄) (x : D8) : sProp 𝕄 :=
  iprop((bigSep Finset.univ fun h : Fin 6 => f (kS x.1 h x.2)) ∗ (bigSep Finset.univ fun h : Fin 6 => f (kR x.1 h x.2))
    ∗ f (kC x.1 x.2) ∗ bigSep Finset.univ fun j : Fin 3 => f (kO x.1 j x.2))

/-- The middle index moved last. -/
def midE (A B C : Type) : (A × C) × B ≃ A × B × C where
  toFun y := (y.1.1, y.2, y.1.2)
  invFun y := ((y.1, y.2.2), y.2.1)
  left_inv _ := rfl
  right_inv _ := rfl

theorem mid_eq {A B C : Type} [Fintype A] [Fintype B] [Fintype C] (Φ : A × B × C → sProp 𝕄) :
    bigSep Finset.univ Φ = bigSep Finset.univ fun x : A × C => bigSep Finset.univ fun b : B => Φ (x.1, b, x.2) := by
  rw [bigSep_univ_equiv (midE A B C) Φ, bigSep_univ_prod]; rfl

theorem bigSep_CK (f : CK → sProp 𝕄) :
    bigSep Finset.univ f = iprop((bigSep Finset.univ (byQ f)) ∗ (bigSep Finset.univ fun n : Fin 4 => f (kX n)) ∗ f kB) := by
  rw [BI.bigSep_univ_sum, BI.bigSep_univ_sum, BI.bigSep_univ_sum, BI.bigSep_univ_sum, BI.bigSep_univ_sum, mid_eq, mid_eq,
    mid_eq (fun a : Fin 2 × Fin 3 × Fin 4 => f (.inr (.inr (.inr (.inl a)))))]
  unfold byQ
  rw [bigSep_sep', bigSep_sep', bigSep_sep']
  have hu : bigSep Finset.univ (fun b : Unit => f (.inr (.inr (.inr (.inr (.inr b)))))) = f kB :=
    bigSep_univ_eq_bigSepL [()] (by decide) (by decide) _
  rw [hu]
  have h (a b c : sProp 𝕄) : iprop((a ∗ b) ∗ c) = iprop(a ∗ b ∗ c) := BI.Entails.antisymm BI.sep_assoc BI.sep_assoc'
  rw [h, h, h]
  rfl

/-! ## Around the ring -/

def ringE (d : Fin 2) : Dev nD ≃ Dev nD where
  toFun := sndTo d
  invFun := rcvFrom d
  left_inv := rcvFrom_sndTo d
  right_inv := sndTo_rcvFrom d

def aroundE : Dev nD × D8 ≃ Dev nD × D8 where
  toFun y := (sndTo y.2.1 y.1, y.2)
  invFun y := (rcvFrom y.2.1 y.1, y.2)
  left_inv y := by simp only [rcvFrom_sndTo]
  right_inv y := by simp only [sndTo_rcvFrom]

theorem around (Φ : Dev nD → D8 → sProp 𝕄) :
    (bigSep Finset.univ fun c => bigSep Finset.univ fun x => Φ c x)
      = bigSep Finset.univ fun c => bigSep Finset.univ fun x : D8 => Φ (sndTo x.1 c) x := by
  rw [← bigSep_univ_prod (fun y : Dev nD × D8 => Φ y.1 y.2), bigSep_univ_equiv aroundE, bigSep_univ_prod]; rfl
theorem around' (Φ : Dev nD → D8 → sProp 𝕄) :
    (bigSep Finset.univ fun c => bigSep Finset.univ fun x => Φ c x)
      = bigSep Finset.univ fun c => bigSep Finset.univ fun x : D8 => Φ (rcvFrom x.1 c) x := by
  rw [← bigSep_univ_prod (fun y : Dev nD × D8 => Φ y.1 y.2), bigSep_univ_equiv aroundE.symm, bigSep_univ_prod]; rfl

/-! ## Tokens -/

/-- Every cell's duty 0, the second and third credits, the second barrier unit. -/
abbrev TK : Type := CK ⊕ D8 ⊕ D8 ⊕ Unit

abbrev tkOf : TK → CK × Fin 3
  | .inl k => (k, 0)
  | .inr (.inl x) => (kC x.1 x.2, 1)
  | .inr (.inr (.inl x)) => (kC x.1 x.2, 2)
  | .inr (.inr (.inr _)) => (kB, 1)

theorem tkOf_injective : Function.Injective tkOf := by
  rintro (k | ⟨d, q⟩ | ⟨d, q⟩ | _) (k' | ⟨d', q'⟩ | ⟨d', q'⟩ | _) h <;> cases h <;> rfl

theorem cell_injective : Function.Injective fun x : Dev nD × CK => cell x.1 x.2 := by
  rintro ⟨c, k⟩ ⟨c', k'⟩ h
  have h1 : c = c' := congrArg (fun g : GSem nD τ sig => g.1.1) h
  have h2 : csem k = csem k' := congrArg Prod.snd h
  rw [h1, csem_injective h2]

theorem tokAt_injective : Function.Injective fun x : Dev nD × TK => (cell x.1 (tkOf x.2).1, (0 : ℕ), (tkOf x.2).2) := by
  rintro ⟨c, t⟩ ⟨c', t'⟩ h
  have h1 : (c, (tkOf t).1) = (c', (tkOf t').1) := cell_injective (congrArg Prod.fst h)
  have h2 : (tkOf t).2 = (tkOf t').2 := congrArg (fun x => x.2.2) h
  rw [(Prod.mk.inj h1).1, tkOf_injective (Prod.ext (Prod.mk.inj h1).2 h2)]

def allCells : Finset (GSem nD τ sig) := Finset.univ.map ⟨_, cell_injective⟩
def allToks : Finset (GSem nD τ sig × ℕ × Fin 3) := Finset.univ.map ⟨_, tokAt_injective⟩

def u₀ : UU :=
  (initOf (Pipeline.cells cfgs cellOf_inj) (Pipeline.launchToks cfgs cellOf_inj),
    initOf allCells allToks, initSlots Finset.univ 1)

/-- The duty tokens of device `c`'s own cells. -/
def ownToks (c : Dev nD) : sProp 𝕄 :=
  iprop((bigSep Finset.univ fun k : CK => tok c k 0) ∗ (bigSep Finset.univ fun x : D8 => tok c (kC x.1 x.2) 1)
    ∗ (bigSep Finset.univ fun x : D8 => tok c (kC x.1 x.2) 2) ∗ tok c kB 1)

/-- The slots' element, kept by device 0 until the global step. -/
def slots0 (c : Dev nD) : sProp 𝕄 :=
  if c = 0 then BI.own ((ES (F := F)) (initSlots Finset.univ 1)) else iprop(emp)

theorem slots0_zero : slots0 (F := F) 0 = BI.own ((ES (F := F)) (initSlots Finset.univ 1)) := if_pos rfl
theorem slots0_one (c : Dev nD) (h : c ≠ 0) : slots0 (F := F) c = iprop(emp) := if_neg h

section Deal

variable (X : Dev nD → (main_arg0 : Ref sig .tc).ty.Contents (Elt F))
  (Wt : Dev nD → (cc0_stg0_0 : Ref sig .tc).ty.Contents (Elt F))

/-- What the launch element deals device `c`. -/
def G (c : Dev nD) : sProp 𝕄 :=
  iprop((bigSep Finset.univ fun k : CK => roundState ER (Sched X Wt) (cell c k) 0)
    ∗ (bigSep Finset.univ fun k : CK => reached ER (cell c k) 0)
    ∗ (bigSep Finset.univ fun k : CK => atPos ER (cell c k) 0 ∅ 0) ∗ ownToks c ∗ slots0 c)

theorem fund_cells :
    iprop(BI.own (ER (initOf allCells allToks)) ∗ BI.own ((ES (F := F)) (initSlots Finset.univ 1)))
      ⊢ (|==> bigSep Finset.univ (G X Wt) : sProp 𝕄) := by
  have hX (Φ : GSem nD τ sig → sProp 𝕄) : bigSep allCells Φ = bigSep Finset.univ fun c : Dev nD => bigSep Finset.univ fun k : CK => Φ (cell c k) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    refine bigSep_congr fun c _ => ?_
    have hu (Φ : Unit → sProp 𝕄) : bigSep Finset.univ Φ = Φ () := bigSep_univ_eq_bigSepL [()] (by decide) (by decide) Φ
    rw [BI.bigSep_univ_sum (α := CK) (β := D8 ⊕ D8 ⊕ Unit), BI.bigSep_univ_sum (α := D8) (β := D8 ⊕ Unit),
      BI.bigSep_univ_sum (α := D8) (β := Unit), hu]
    rfl
  have hS : (BI.own ((ES (F := F)) (initSlots Finset.univ 1)) : sProp 𝕄) ⊢ bigSep Finset.univ fun c : Dev nD => slots0 (F := F) c := by
    rw [four (fun c : Dev nD => slots0 (F := F) c)]
    rw [slots0_one 1 (by decide), slots0_one 2 (by decide), slots0_one 3 (by decide)]
    iintro H
    isplitl [H]; · iapply (Entails.of_eq (slots0_zero (F := F)).symm); iexact H
    isplitr; · iempintro
    isplitr; · iempintro
    iempintro
  iintro ⟨HX, HS⟩
  imod (Rounds.fund ER (Sched X Wt) allCells allToks) $$ HX with ⟨Hst, Hr, Hat, Htok⟩
  imodintro
  ihave Hst' := (Entails.of_eq (hX fun g => roundState ER (Sched X Wt) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  ihave HS' := hS $$ HS
  unfold G; simp only [bigSep_sep']
  isplitl [Hst']; · iexact Hst'
  isplitl [Hr']; · iexact Hr'
  isplitl [Hat']; · iexact Hat'
  isplitl [Htok']; · iexact Htok'
  iexact HS'

/-- What every device may know of every cell and slot. -/
def Rec (K : Dev nD × CK → ℕ) (Ks : Key → ℕ) : sProp 𝕄 :=
  iprop((bigSep Finset.univ fun x : Dev nD × CK => cellInv ER (Sched X Wt) (K x) (cell x.1 x.2))
    ∗ (bigSep Finset.univ fun x : Dev nD × CK => reached ER (cell x.1 x.2) 0)
    ∗ (bigSep Finset.univ fun k : Key => slotInv (ES (F := F)) (Ks k) k (slotP k)))

instance Rec_persistent (K : Dev nD × CK → ℕ) (Ks : Key → ℕ) : BI.Persistent (Rec X Wt K Ks) := by unfold Rec; infer_instance

end Deal

/-- The tokens of the duties that device `c` pays. -/
def payQ (c : Dev nD) (x : D8) : sProp 𝕄 :=
  iprop((bigSep Finset.univ fun h : Fin 6 => tok (F := F) c (kS x.1 h x.2) 0)
    ∗ (bigSep Finset.univ fun h : Fin 6 => tok (F := F) (sndTo x.1 c) (kR x.1 h x.2) 0)
    ∗ tok (F := F) (rcvFrom x.1 c) (kC x.1 x.2) 0 ∗ (bigSep Finset.univ fun j : Fin 3 => tok (F := F) c (kO x.1 j x.2) 0))
def payToks (c : Dev nD) : sProp 𝕄 :=
  iprop(((bigSep Finset.univ (payQ (F := F) c)) ∗ (bigSep Finset.univ fun n : Fin 4 => tok (F := F) c (kX n) 0) ∗ tok (F := F) (rcvFrom 0 c) kB 0)
    ∗ (bigSep Finset.univ fun x : D8 => tok (F := F) (rcvFrom x.1 c) (kC x.1 x.2) 1)
    ∗ (bigSep Finset.univ fun x : D8 => tok (F := F) (rcvFrom x.1 c) (kC x.1 x.2) 2) ∗ tok (F := F) (rcvFrom 1 c) kB 1)

theorem toks_around : (bigSep Finset.univ fun c : Dev nD => (ownToks c : sProp 𝕄)) ⊢ bigSep Finset.univ fun c : Dev nD => payToks c := by
  refine Entails.of_eq ?_
  unfold ownToks payToks payQ
  simp only [bigSep_CK]
  unfold byQ
  simp only [bigSep_sep']
  rw [around (fun c x => bigSep Finset.univ fun h : Fin 6 => tok (F := F) c (kR x.1 h x.2) 0),
    around' (fun c x => tok (F := F) c (kC x.1 x.2) 0), around' (fun c x => tok (F := F) c (kC x.1 x.2) 1),
    around' (fun c x => tok (F := F) c (kC x.1 x.2) 2),
    bigSep_univ_equiv (ringE 0).symm (fun c : Dev nD => tok (F := F) c kB 0),
    bigSep_univ_equiv (ringE 1).symm (fun c : Dev nD => tok (F := F) c kB 1)]
  rfl

/-- The slots' counts and the tokens of their writes. -/
def readers (c : Dev nD) : sProp 𝕄 :=
  bigSep Finset.univ fun x : D8 => bigSep Finset.univ fun k : Fin 3 => readerAt (ES (F := F)) (c, x.1, x.2, k) 0
def writers (c : Dev nD) : sProp 𝕄 :=
  bigSep Finset.univ fun x : D8 => bigSep Finset.univ fun k : Fin 3 => writeTok (ES (F := F)) (sndTo x.1 c, x.1, x.2, k) 1

theorem key_eq (Φ : Key → sProp 𝕄) :
    bigSep Finset.univ Φ = bigSep Finset.univ fun c : Dev nD => bigSep Finset.univ fun x : D8 => bigSep Finset.univ fun k : Fin 3 => Φ (c, x.1, x.2, k) := by
  rw [bigSep_univ_prod]
  refine bigSep_congr fun c _ => ?_
  rw [bigSep_univ_equiv (Equiv.prodAssoc (Fin 2) (Fin 4) (Fin 3)), bigSep_univ_prod]
  rfl

theorem slots_alloc (c0 : Set ℕ) : (bigSep Finset.univ fun c : Dev nD => slots0 (F := F) c)
    ⊢ (|={c0}=> ∃ Ks : Key → ℕ, (bigSep Finset.univ fun k : Key => slotInv (ES (F := F)) (Ks k) k (slotP k))
        ∗ (bigSep Finset.univ fun c : Dev nD => readers (F := F) c) ∗ bigSep Finset.univ fun c : Dev nD => writers (F := F) c : sProp 𝕄) := by
  rw [four (fun c : Dev nD => slots0 (F := F) c)]
  rw [slots0_zero]
  iintro ⟨H, -⟩
  imod (slots_init (ES (F := F)) Finset.univ 1 (fun k => slotP k)) $$ H with ⟨%Ks, -, Hi, Hr, Hw⟩
  imodintro
  iexists Ks
  isplitl [Hi]; · iexact Hi
  isplitl [Hr]
  · iapply (Entails.of_eq (key_eq fun k => readerAt (ES (F := F)) k 0)); iexact Hr
  iapply (Entails.of_eq (show bigSep (Finset.univ ×ˢ Finset.range 1) (fun x : Key × ℕ => writeTok (ES (F := F)) x.1 (x.2 + 1))
      = bigSep Finset.univ fun c : Dev nD => writers (F := F) c from ?_)) $$ Hw
  rw [Finset.range_one, Finset.product_singleton, bigSep_map]
  show bigSep Finset.univ (fun k : Key => writeTok (ES (F := F)) k 1) = _
  rw [key_eq]
  unfold writers
  exact around fun c x => bigSep Finset.univ fun k : Fin 3 => writeTok (ES (F := F)) (c, x.1, x.2, k) 1

end Cert.KernelIdeal.Hand
-- ==== Proof.Glob.lean ====
module

public import proofs.«01_k».proof.Proof.Deal

/-! The global step of the launch: every cell's invariant, every slot's, and the dealing around the ring. -/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

/-! ## The semaphores -/

/-- The cells on the kernel's own semaphores. -/
abbrev CO : Type := (Fin 2 × Fin 6 × Fin 4) ⊕ (Fin 2 × Fin 6 × Fin 4) ⊕ (Fin 2 × Fin 4) ⊕ (Fin 2 × Fin 3 × Fin 4) ⊕ Fin 4

abbrev coK : CO → CK
  | .inl x => .inl x
  | .inr (.inl x) => .inr (.inl x)
  | .inr (.inr (.inl x)) => .inr (.inr (.inl x))
  | .inr (.inr (.inr (.inl x))) => .inr (.inr (.inr (.inl x)))
  | .inr (.inr (.inr (.inr x))) => .inr (.inr (.inr (.inr (.inl x))))

theorem coK_injective : Function.Injective coK := by
  rintro (k | k | k | k | k) (k' | k' | k' | k' | k') h <;> cases h <;> rfl

abbrev osem (k : CO) : SemLoc sig := csem (coK k)

theorem ownSemFacts : Pipeline.OwnSemFacts cfg0.spec osem :=
  ⟨by decide +kernel, fun _ _ h => coK_injective (csem_injective h), by decide +kernel⟩

theorem unscopedSems0_eq (c : Dev nD) : (unscopedSems0 c : sProp 𝕄) = semVal (cell c kB) 0 := by
  unfold unscopedSems0; rw [bigSep_eq_bigSepL_of_eq [SemLoc.reg bSem] (by decide +kernel) (by decide)]; rfl

theorem sems_eq (c : Dev nD) :
    (iprop(Pipeline.ownSems0 (Ix := ℕ) (Name := ℕ) (U := UU) (Lvl := ℕ) (Val := Elt F) (τ := τ) osem c ∗ unscopedSems0 c) : sProp 𝕄)
      = bigSep Finset.univ fun k : CK => semVal (cell c k) 0 := by
  have hu : bigSep Finset.univ (fun b : Unit => (semVal (cell c (.inr (.inr (.inr (.inr (.inr b)))))) 0 : sProp 𝕄)) = semVal (cell c kB) 0 :=
    bigSep_univ_eq_bigSepL [()] (by decide) (by decide) _
  rw [unscopedSems0_eq, BI.bigSep_univ_sum, BI.bigSep_univ_sum, BI.bigSep_univ_sum, BI.bigSep_univ_sum, BI.bigSep_univ_sum, hu]
  unfold Pipeline.ownSems0
  rw [BI.bigSep_univ_sum, BI.bigSep_univ_sum, BI.bigSep_univ_sum, BI.bigSep_univ_sum]
  have h (a b c : sProp 𝕄) : iprop((a ∗ b) ∗ c) = iprop(a ∗ b ∗ c) := BI.Entails.antisymm BI.sep_assoc BI.sep_assoc'
  have h5 (a b c d e z : sProp 𝕄) : iprop((a ∗ b ∗ c ∗ d ∗ e) ∗ z) = iprop(a ∗ b ∗ c ∗ d ∗ e ∗ z) := by rw [h, h, h, h]
  exact h5 _ _ _ _ _ _

section Glob

variable (X : Dev nD → (main_arg0 : Ref sig .tc).ty.Contents (Elt F))
  (Wt : Dev nD → (cc0_stg0_0 : Ref sig .tc).ty.Contents (Elt F))

/-- What is one device's alone. -/
def lin (c : Dev nD) : sProp 𝕄 :=
  iprop((bigSep Finset.univ fun k : CK => atPos ER (cell c k) 0 ∅ 0) ∗ payToks c ∗ readers c ∗ writers c)

def G' (c : Dev nD) : sProp 𝕄 := iprop(∃ K Ks, Rec X Wt K Ks ∗ lin c)

theorem core_alloc (c : Dev nD) :
    iprop(Pipeline.ownSems0 (Ix := ℕ) (Name := ℕ) (U := UU) (Lvl := ℕ) (Val := Elt F) (τ := τ) osem c ∗ unscopedSems0 c ∗ G X Wt c)
      ⊢ |={Set.univ}=> iprop((bigSep Finset.univ fun k => iprop(∃ κ : ℕ, cellInv ER (Sched X Wt) κ (cell c k)))
          ∗ (bigSep Finset.univ fun k : CK => reached ER (cell c k) 0)
          ∗ (bigSep Finset.univ fun k : CK => atPos ER (cell c k) 0 ∅ 0) ∗ ownToks c ∗ slots0 c) := by
  unfold G
  iintro ⟨Hos, Hus, Hst, Hr, Hat, Htok, Hs⟩
  ihave Hv := (Entails.of_eq (sems_eq (F := F) c)) $$ [Hos Hus]
  · isplitl [Hos] <;> iassumption
  imod (show iprop((bigSep Finset.univ fun k : CK => semVal (cell c k) 0) ∗ bigSep Finset.univ fun k : CK => roundState ER (Sched X Wt) (cell c k) 0)
      ⊢ (|={Set.univ}=> bigSep Finset.univ fun k => iprop(∃ κ : ℕ, cellInv ER (Sched X Wt) κ (cell c k)) : sProp 𝕄) from by
        rw [← bigSep_sep']
        exact (bigSep_mono fun k _ => (Rounds.body_intro ER (Sched X Wt) (cell c k)).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok]; · iexact Htok
  iexact Hs

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Sched X Wt) κ (cell c k)))
          ∗ (bigSep Finset.univ fun k : CK => reached ER (cell c k) 0)
          ∗ (bigSep Finset.univ fun k : CK => atPos ER (cell c k) 0 ∅ 0) ∗ ownToks c ∗ slots0 c) : sProp 𝕄)
      ⊢ |={Set.univ}=> bigSep Finset.univ (G' X Wt) := by
  rw [bigSep_sep', bigSep_sep', bigSep_sep', bigSep_sep',
    ← bigSep_univ_prod (fun x : Dev nD × CK => iprop(∃ κ : ℕ, cellInv ER (Sched X Wt) κ (cell x.1 x.2))),
    ← bigSep_univ_prod (fun x : Dev nD × CK => (reached ER (cell x.1 x.2) 0 : sProp 𝕄))]
  iintro ⟨HI, #HR, Hat, Htok, Hs⟩
  ihave HK := (BI.bigSep_exists_pi Finset.univ (fun (x : Dev nD × CK) (κ : ℕ) => (cellInv ER (Sched X Wt) κ (cell x.1 x.2) : sProp 𝕄))) $$ HI
  icases HK with ⟨%K, #HI⟩
  imod (slots_alloc (F := F) Set.univ) $$ Hs with ⟨%Ks, #HS, Hrd, Hwr⟩
  imodintro
  ihave Htk := (toks_around (F := F)) $$ Htok
  iapply (with_persistent (R := Rec X Wt K Ks) (Φ := lin (F := F)) fun c _ => (show iprop(Rec X Wt K Ks ∗ lin c) ⊢ G' X Wt c from by
    unfold G'
    iintro ⟨H1, H2⟩
    iexists K, Ks
    isplitl [H1] <;> iassumption))
  isplitr
  · unfold Rec
    isplitr; · iexact HI
    isplitr; · iexact HR
    iexact HS
  · unfold lin
    rw [bigSep_sep', bigSep_sep', bigSep_sep']
    isplitl [Hat]; · iexact Hat
    isplitl [Htk]; · iexact Htk
    isplitl [Hrd]; · iexact Hrd
    iexact Hwr

theorem glob : (bigSep Finset.univ fun c => iprop(Pipeline.ownSems0 (Ix := ℕ) (Name := ℕ) (U := UU) (Lvl := ℕ) (Val := Elt F) (τ := τ) osem c ∗ unscopedSems0 c ∗ G X Wt c) : sProp 𝕄)
    ⊢ |={Set.univ}=> bigSep Finset.univ (G' X Wt) :=
  ((bigSep_mono fun c _ => core_alloc X Wt c).trans (bigSep_fupd _ _)).trans ((BI.fupd_mono (regroup X Wt)).trans fupd_trans)

end Glob

end Cert.KernelIdeal.Hand
-- ==== Proof.Creds.lean ====
module

public import proofs.«01_k».proof.Proof.Glob

/-! What the others owe a device at launch, and the ghost state a device starts from. -/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

/-! ## The launch credit -/

/-- The items of a list, addressed to device `c` itself. -/
def tw (c : Dev nD) : List Itm → CellTallies nD τ sig ℕ
  | [] => 0
  | i :: l => tw c l + tallyAt (cell c (iKind i)) (iIdx i) (iAmt i)

/-- Whom an item goes to is a bijection of the devices. -/
def devE (i : Itm) : Dev nD ≃ Dev nD :=
  match i with
  | .inl d => (ringE d).symm
  | .inr (.inl (d, _, _)) => (ringE d).symm
  | .inr (.inr (d, _, _)) => ringE d

theorem devE_eq (i : Itm) (c : Dev nD) : devE i c = iDev c i := by
  rcases i with d | ⟨d, k, q⟩ | ⟨d, h, q⟩ <;> rfl

theorem sum_ow (l : List Itm) : (∑ c : Dev nD, ow c l) = ∑ c : Dev nD, tw c l := by
  induction l with
  | nil => rfl
  | cons i l ih =>
    show (∑ c : Dev nD, (ow c l + iTally c i)) = ∑ c : Dev nD, (tw c l + tallyAt (cell c (iKind i)) (iIdx i) (iAmt i))
    rw [Finset.sum_add_distrib, Finset.sum_add_distrib, ih]
    congr 1
    exact (Finset.sum_congr rfl fun c _ => by rw [devE_eq]; rfl).trans
      (Equiv.sum_comp (devE i) fun c => tallyAt (cell c (iKind i)) (iIdx i) (iAmt i))

theorem tw_supp (c : Dev nD) (l : List Itm) (g : GSem nD τ sig) (h : tw c l g ≠ 0) : g.1 = (c.tc : Thread nD τ) := by
  induction l with
  | nil => exact absurd rfl h
  | cons i l ih =>
    by_contra hg
    apply h
    show tw c l g + tallyAt (cell c (iKind i)) (iIdx i) (iAmt i) g = 0
    rw [tallyAt_ne_cell (fun e => hg (by rw [e])), add_zero]
    by_contra hz
    exact hg (ih hz)

theorem cred_tw (c : Dev nD) (l : List Itm) :
    (cred (tw c l) : sProp 𝕄) ⊢ bigSepL l fun i => cred (tallyAt (cell c (iKind i)) (iIdx i) (iAmt i)) := by
  induction l with
  | nil => exact Entails.of_eq cred_zero
  | cons i l ih =>
    rw [bigSepL_cons]
    exact (cred_add _ _).1.trans (sep_comm.1.trans (sep_mono_right ih))

theorem items_nodup : items.Nodup := by decide +kernel
theorem items_all : (Finset.univ : Finset Itm) = items.toFinset := by decide +kernel

/-- The units others bring to device `c`'s cells. -/
def crQ (c : Dev nD) (x : D8) : sProp 𝕄 :=
  iprop((bigSep Finset.univ fun k : Fin 3 => cred (tallyAt (cell c (kC x.1 x.2)) k.val 1))
    ∗ bigSep Finset.univ fun h : Fin 6 => cred (tallyAt (cell c (kR x.1 h x.2)) 0 NV))

theorem creds (c : Dev nD) :
    (Pipeline.launchCred (fun c => ow c items) c : sProp 𝕄)
      ⊢ iprop(cred (tallyAt (cell c kB) 0 2) ∗ bigSep Finset.univ (crQ (F := F) c)) := by
  rw [Pipeline.launchCred_of_sum (fun c => ow c items) (fun c => tw c items) (sum_ow items) (fun d g h => tw_supp d items g h) c]
  refine (cred_tw c items).trans ?_
  rw [← bigSep_univ_eq_bigSepL items items_all items_nodup, BI.bigSep_univ_sum, BI.bigSep_univ_sum, mid_eq, mid_eq]
  unfold crQ
  rw [bigSep_sep']
  refine sep_mono ((Entails.of_eq (two _)).trans ?_) (Entails.of_eq rfl)
  exact (cred_add _ _).2.trans (Entails.of_eq (congrArg cred (tallyAt_add (cell c kB) 0 1 1)))

/-! ## What a device starts from -/

/-- A stream's share of it. -/
def gq (c : Dev nD) (d : Fin 2) (q : Fin 4) : sProp 𝕄 :=
  iprop((SR (F := F) c d q 0 ∗ SR (F := F) c d q 1 ∗ SR (F := F) c d q 2 ∗ SR (F := F) c d q 3 ∗ SR (F := F) c d q 4 ∗ SR (F := F) c d q 5)
    ∗ (gv (F := F) c d q 0 ∗ gv (F := F) c d q 1 ∗ gv (F := F) c d q 2)
    ∗ (tk (F := F) c d q 0 ∗ tk (F := F) c d q 1 ∗ tk (F := F) c d q 2)
    ∗ crAt (F := F) c d q 0 ∗ (idle (F := F) c (kO d 0 q) ∗ idle (F := F) c (kO d 1 q) ∗ idle (F := F) c (kO d 2 q)))

theorem gq_intro (c : Dev nD) (x : D8) :
    iprop(byQ (fun k => atPos ER (cell c k) 0 ∅ 0) x ∗ payQ c x ∗ tok (rcvFrom x.1 c) (kC x.1 x.2) 1 ∗ tok (rcvFrom x.1 c) (kC x.1 x.2) 2
        ∗ (bigSep Finset.univ fun k : Fin 3 => readerAt (ES (F := F)) (c, x.1, x.2, k) 0)
        ∗ (bigSep Finset.univ fun k : Fin 3 => writeTok (ES (F := F)) (sndTo x.1 c, x.1, x.2, k) 1) ∗ crQ c x)
      ⊢ gq (F := F) c x.1 x.2 := by
  obtain ⟨d, q⟩ := x
  unfold byQ payQ crQ gq
  simp only [six, three]
  have hS (h : Fin 6) : iprop(((atPos ER (cell c (kS d h q)) 0 ∅ 0 ∗ atPos ER (cell c (kR d h q)) 0 ∅ 0)
      ∗ tok c (kS d h q) 0 ∗ tok (sndTo d c) (kR d h q) 0) ∗ cred (tallyAt (cell c (kR d h q)) 0 NV)) ⊢ SR (F := F) c d q h := by
    unfold SR idle pend tok
    iintro ⟨⟨⟨H1, H2⟩, H3, H4⟩, H5⟩
    isplitl [H1 H3]
    · isplitl [H1]; · iexact H1
      iexact H3
    isplitr [H4]
    · isplitl [H2]; · iexact H2
      iexact H5
    iexact H4
  iintro ⟨⟨⟨a0, a1, a2, a3, a4, a5⟩, ⟨b0, b1, b2, b3, b4, b5⟩, aC, ⟨o0, o1, o2⟩⟩,
    ⟨⟨s0, s1, s2, s3, s4, s5⟩, ⟨r0, r1, r2, r3, r4, r5⟩, t0, ⟨p0, p1, p2⟩⟩, t1, t2, ⟨rd0, rd1, rd2⟩, ⟨w0, w1, w2⟩,
    ⟨⟨k0, k1, k2⟩, ⟨c0, c1, c2, c3, c4, c5⟩⟩⟩
  isplitl [a0 a1 a2 a3 a4 a5 b0 b1 b2 b3 b4 b5 s0 s1 s2 s3 s4 s5 r0 r1 r2 r3 r4 r5 c0 c1 c2 c3 c4 c5]
  · isplitl [a0 b0 s0 r0 c0]
    · iapply (hS 0); isplitr [c0]
      · isplitl [a0 b0]; · isplitl [a0]; · iexact a0
                           iexact b0
        isplitl [s0]; · iexact s0
        iexact r0
      iexact c0
    isplitl [a1 b1 s1 r1 c1]
    · iapply (hS 1); isplitr [c1]
      · isplitl [a1 b1]; · isplitl [a1]; · iexact a1
                           iexact b1
        isplitl [s1]; · iexact s1
        iexact r1
      iexact c1
    isplitl [a2 b2 s2 r2 c2]
    · iapply (hS 2); isplitr [c2]
      · isplitl [a2 b2]; · isplitl [a2]; · iexact a2
                           iexact b2
        isplitl [s2]; · iexact s2
        iexact r2
      iexact c2
    isplitl [a3 b3 s3 r3 c3]
    · iapply (hS 3); isplitr [c3]
      · isplitl [a3 b3]; · isplitl [a3]; · iexact a3
                           iexact b3
        isplitl [s3]; · iexact s3
        iexact r3
      iexact c3
    isplitl [a4 b4 s4 r4 c4]
    · iapply (hS 4); isplitr [c4]
      · isplitl [a4 b4]; · isplitl [a4]; · iexact a4
                           iexact b4
        isplitl [s4]; · iexact s4
        iexact r4
      iexact c4
    iapply (hS 5); isplitr [c5]
    · isplitl [a5 b5]; · isplitl [a5]; · iexact a5
                         iexact b5
      isplitl [s5]; · iexact s5
      iexact r5
    iexact c5
  isplitl [t0 t1 t2 rd0 rd1 rd2]
  · unfold gv
    isplitl [t0 rd0]
    · isplitl [t0]; · iexact t0
      iexact rd0
    isplitl [t1 rd1]
    · isplitl [t1]; · iexact t1
      iexact rd1
    isplitl [t2]; · iexact t2
    iexact rd2
  isplitl [k0 k1 k2 w0 w1 w2]
  · unfold tk
    isplitl [k0 w0]
    · isplitl [k0]; · iexact k0
      iexact w0
    isplitl [k1 w1]
    · isplitl [k1]; · iexact k1
      iexact w1
    isplitl [k2]; · iexact k2
    iexact w2
  isplitl [aC]
  · unfold crAt
    iexists ∅
    isplitl [aC]; · iexact aC
    rw [bigSep_empty]; iempintro
  unfold idle tok
  isplitl [o0 p0]
  · isplitl [o0]; · iexact o0
    iexact p0
  isplitl [o1 p1]
  · isplitl [o1]; · iexact o1
    iexact p1
  isplitl [o2]; · iexact o2
  iexact p2

/-- What of the ghost state is not a stream's. -/
def gr (c : Dev nD) : sProp 𝕄 :=
  iprop((idle (F := F) c (kX 0) ∗ idle (F := F) c (kX 1) ∗ idle (F := F) c (kX 2) ∗ idle (F := F) c (kX 3))
    ∗ (tok (F := F) (rcvFrom 0 c) kB 0 ∗ tok (F := F) (rcvFrom 1 c) kB 1)
    ∗ (atPos ER (cell c kB) 0 ∅ 0 ∗ cred (tallyAt (cell c kB) 0 2)))

theorem lin_ghost (c : Dev nD) :
    iprop(lin c ∗ cred (tallyAt (cell c kB) 0 2) ∗ bigSep Finset.univ (crQ (F := F) c))
      ⊢ iprop(gr (F := F) c ∗ all8 (gq (F := F) c)) := by
  rw [all8_eq]
  refine BIBase.Entails.trans ?_ (sep_mono_right (bigSep_mono fun x _ => gq_intro c x))
  unfold lin payToks readers writers gr
  rw [bigSep_CK, bigSep_sep', bigSep_sep', bigSep_sep', bigSep_sep', bigSep_sep', bigSep_sep', four, four]
  unfold idle tok
  iintro ⟨⟨⟨Hp, ⟨x0, x1, x2, x3⟩, HB⟩, ⟨⟨Hq, ⟨y0, y1, y2, y3⟩, tb0⟩, Ht1, Ht2, tb1⟩, Hr, Hw⟩, cB, Hc⟩
  isplitr [Hp Hq Ht1 Ht2 Hr Hw Hc]
  · isplitl [x0 x1 x2 x3 y0 y1 y2 y3]
    · isplitl [x0 y0]
      · isplitl [x0]; · iexact x0
        iexact y0
      isplitl [x1 y1]
      · isplitl [x1]; · iexact x1
        iexact y1
      isplitl [x2 y2]
      · isplitl [x2]; · iexact x2
        iexact y2
      isplitl [x3]; · iexact x3
      iexact y3
    isplitl [tb0 tb1]
    · isplitl [tb0]; · iexact tb0
      iexact tb1
    isplitl [HB]; · iexact HB
    iexact cB
  isplitl [Hp]; · iexact Hp
  isplitl [Hq]; · iexact Hq
  isplitl [Ht1]; · iexact Ht1
  isplitl [Ht2]; · iexact Ht2
  isplitl [Hr]; · iexact Hr
  isplitl [Hw]; · iexact Hw
  iexact Hc

end Cert.KernelIdeal.Hand
-- ==== Proof.Split.lean ====
module

public import proofs.«01_k».proof.Proof.Creds

/-! Buffers split into the pieces the body works on, and joined again. -/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

/-! ## A memref and a family of its parts -/

theorem held_of (c : Dev nD) {sp : Space} {s : Shape} {e : EltTy} (m : Memref sig .tc sp s e) (p : PosShare TreeShare) (v : s.Idx → Elt F e) :
    ownsTc c m p v ⊢ held (F := F) c m p := by
  show iprop(ownsTc c m p v) ⊢ iprop(∃ y, ownsTc c m p y)
  iintro H; iexists v; iexact H

section Tiles

variable (c : Dev nD) {sp : Space} {s : Shape} {e : EltTy} (m : Memref sig .tc sp s e) {T : Type} [Fintype T] [DecidableEq T]
  (r : T → Rect s) (hr : ∀ t a, (r t).stride a = 1) (tile : s.Idx → T) (ht : ∀ t i, i ∈ (r t).set ↔ tile i = t)

include ht in
theorem tiles_eq (p : PosShare TreeShare) (v : s.Idx → Elt F e) :
    (ownsTc c m p v : sProp 𝕄) = bigSep Finset.univ fun t => ownsTc c (m.slice (r t) (hr t)) p (fun j => v ((r t).emb j)) := by
  haveI : ∀ e, Nonempty (Elt F e) := fun e => Elt.nonempty F e
  have hd (t t' : T) (h : t ≠ t') : Disjoint (r t).set (r t').set :=
    Finset.disjoint_left.mpr fun i h1 h2 => h (((ht t i).mp h1).symm.trans ((ht t' i).mp h2))
  have hc : (Finset.univ : Finset T).biUnion (fun t => (r t).set) = Finset.univ :=
    Finset.eq_univ_iff_forall.mpr fun i => Finset.mem_biUnion.mpr ⟨tile i, Finset.mem_univ _, (ht _ i).mpr rfl⟩
  exact BI.Entails.antisymm (owns_rects (c : Thread nD τ) m p r hr hd hc v) (owns_of_rects (c : Thread nD τ) m p r hr hd hc v)

include ht in
theorem held_split (p : PosShare TreeShare) :
    held (F := F) c m p ⊢ bigSep Finset.univ fun t => held (F := F) c (m.slice (r t) (hr t)) p := by
  iintro ⟨%v, H⟩
  iapply (((Entails.of_eq (tiles_eq c m r hr tile ht p v))).trans (bigSep_mono fun t _ => held_of c (m.slice (r t) (hr t)) p _))
  iexact H

include ht in
theorem glue (Y : (t : T) → (r t).shape.Idx → Elt F e) : ∃ v : s.Idx → Elt F e, ∀ t j, v ((r t).emb j) = Y t j := by
  classical
  have hex (i : s.Idx) : ∃ x : (t : T) × (r t).shape.Idx, (r x.1).emb x.2 = i := by
    obtain ⟨j, hj⟩ := (r (tile i)).exists_idx_of_mem ((ht (tile i) i).mpr rfl)
    exact ⟨⟨tile i, j⟩, hj⟩
  refine ⟨fun i => Y (hex i).choose.1 (hex i).choose.2, fun t j => ?_⟩
  have h := (hex ((r t).emb j)).choose_spec
  have hx : (hex ((r t).emb j)).choose = ⟨t, j⟩ := by
    generalize (hex ((r t).emb j)).choose = x at h
    obtain ⟨t', j'⟩ := x
    have h1 : tile ((r t').emb j') = t' := (ht t' _).mp ((r t').idx_mem j')
    have h2 : tile ((r t).emb j) = t := (ht t _).mp ((r t).idx_mem j)
    have h3 : t' = t := by rw [← h1, ← h2]; exact congrArg tile h
    subst h3
    have h4 : j' = j := (r t').emb.injective h
    rw [h4]
  show Y (hex ((r t).emb j)).choose.1 (hex ((r t).emb j)).choose.2 = Y t j
  rw [hx]

include ht in
theorem held_join (p : PosShare TreeShare) :
    (bigSep Finset.univ fun t => held (F := F) c (m.slice (r t) (hr t)) p) ⊢ held (F := F) c m p := by
  haveI : ∀ t, Nonempty ((r t).shape.Idx → Elt F e) := fun t => ⟨fun _ => (Elt.nonempty F e).some⟩
  refine BIBase.Entails.trans (BI.bigSep_exists_pi Finset.univ fun (t : T) (Y : (r t).shape.Idx → Elt F e) => ownsTc c (m.slice (r t) (hr t)) p Y) ?_
  iintro ⟨%Y, H⟩
  obtain ⟨v, hv⟩ := glue r tile ht Y
  iexists v
  iapply (Entails.of_eq (tiles_eq c m r hr tile ht p v).symm)
  iapply (Entails.of_eq (bigSep_congr fun t _ => congrArg (fun y => (ownsTc c (m.slice (r t) (hr t)) p y : sProp 𝕄)) (funext fun j => (hv t j).symm)))
  iexact H

end Tiles

/-! ## The families -/

def slotT (i : S2x2x4x256x1024.Idx) : Fin 2 × Fin 2 × Fin 4 := (i 0, i 1, i 2)
theorem slotT_iff (t : Fin 2 × Fin 2 × Fin 4) (i : S2x2x4x256x1024.Idx) : i ∈ (slotR t.1 t.2.1 t.2.2).set ↔ slotT i = t := by
  obtain ⟨d, s, q⟩ := t
  unfold slotR slotT
  rw [Rect.mem_set_unit]
  have h3 : (i 3).val < 256 := (i 3).isLt
  have h4 : (i 4).val < 1024 := (i 4).isLt
  constructor
  · intro h
    have h0 : d.val ≤ (i 0).val ∧ (i 0).val < d.val + 1 := h 0
    have h1 : s.val ≤ (i 1).val ∧ (i 1).val < s.val + 1 := h 1
    have h2 : q.val ≤ (i 2).val ∧ (i 2).val < q.val + 1 := h 2
    refine Prod.ext (Fin.ext ?_) (Prod.ext (Fin.ext ?_) (Fin.ext ?_))
    · show (i 0).val = d.val; omega
    · show (i 1).val = s.val; omega
    · show (i 2).val = q.val; omega
  · intro h a
    have h0 : i 0 = d := (Prod.mk.inj h).1
    have h1 : i 1 = s := (Prod.mk.inj (Prod.mk.inj h).2).1
    have h2 : i 2 = q := (Prod.mk.inj (Prod.mk.inj h).2).2
    have h0 : (i 0).val = d.val := congrArg Fin.val h0
    have h1 : (i 1).val = s.val := congrArg Fin.val h1
    have h2 : (i 2).val = q.val := congrArg Fin.val h2
    fin_cases a
    · show d.val ≤ (i 0).val ∧ (i 0).val < d.val + 1; omega
    · show s.val ≤ (i 1).val ∧ (i 1).val < s.val + 1; omega
    · show q.val ≤ (i 2).val ∧ (i 2).val < q.val + 1; omega
    · show 0 ≤ (i 3).val ∧ (i 3).val < 0 + 256; omega
    · show 0 ≤ (i 4).val ∧ (i 4).val < 0 + 1024; omega

def stT (i : S2x1024x1024.Idx) : Fin 2 := i 0
theorem stT_iff (t : Fin 2) (i : S2x1024x1024.Idx) :
    i ∈ (Rect.unit (s := S2x1024x1024) ![t.val, 0, 0] S1x1024x1024.size (st_inb t)).set ↔ stT i = t := by
  unfold stT
  rw [Rect.mem_set_unit]
  have h1 : (i 1).val < 1024 := (i 1).isLt
  have h2 : (i 2).val < 1024 := (i 2).isLt
  constructor
  · intro h
    have h0 : t.val ≤ (i 0).val ∧ (i 0).val < t.val + 1 := h 0
    apply Fin.ext; show (i 0).val = t.val; omega
  · intro h a
    have h0 : (i 0).val = t.val := congrArg Fin.val h
    fin_cases a
    · show t.val ≤ (i 0).val ∧ (i 0).val < t.val + 1; omega
    · show 0 ≤ (i 1).val ∧ (i 1).val < 0 + 1024; omega
    · show 0 ≤ (i 2).val ∧ (i 2).val < 0 + 1024; omega

def wT (i : S1024x2048.Idx) : Fin 2 := ⟨(i 1).val / 1024, by have : (i 1).val < 2048 := (i 1).isLt; omega⟩
theorem wT_iff (t : Fin 2) (i : S1024x2048.Idx) : i ∈ (wR t).set ↔ wT i = t := by
  unfold wT wR
  rw [Rect.mem_set_unit]
  have h1 : (i 0).val < 1024 := (i 0).isLt
  have h2 : (i 1).val < 2048 := (i 1).isLt
  constructor
  · intro h
    have h0 : 1024 * t.val ≤ (i 1).val ∧ (i 1).val < 1024 * t.val + 1024 := h 1
    apply Fin.ext; show (i 1).val / 1024 = t.val; omega
  · intro h a
    have h0 : (i 1).val / 1024 = t.val := congrArg Fin.val h
    fin_cases a
    · show 0 ≤ (i 0).val ∧ (i 0).val < 0 + 1024; omega
    · show 1024 * t.val ≤ (i 1).val ∧ (i 1).val < 1024 * t.val + 1024; omega

def xbT (i : S4096x1024.Idx) : Fin 4 × Fin 4 :=
  (⟨(i 0).val / 1024, by have : (i 0).val < 4096 := (i 0).isLt; omega⟩, ⟨(i 0).val / 256 % 4, by omega⟩)
theorem xbT_iff (t : Fin 4 × Fin 4) (i : S4096x1024.Idx) : i ∈ (xbR (xbOff t.1 t.2) (xb_inb t.1 t.2)).set ↔ xbT i = t := by
  obtain ⟨k, q⟩ := t
  unfold xbT xbR
  rw [Rect.mem_set_unit]
  have h1 : (i 0).val < 4096 := (i 0).isLt
  have h2 : (i 1).val < 1024 := (i 1).isLt
  have hk := k.isLt
  have hq := q.isLt
  constructor
  · intro h
    have h0 : 1024 * k.val + 256 * q.val ≤ (i 0).val ∧ (i 0).val < 1024 * k.val + 256 * q.val + 256 := h 0
    refine Prod.ext (Fin.ext ?_) (Fin.ext ?_)
    · show (i 0).val / 1024 = k.val; omega
    · show (i 0).val / 256 % 4 = q.val; omega
  · intro h a
    have h0 : (i 0).val / 1024 = k.val := congrArg Fin.val (Prod.mk.inj h).1
    have h3 : (i 0).val / 256 % 4 = q.val := congrArg Fin.val (Prod.mk.inj h).2
    fin_cases a
    · show 1024 * k.val + 256 * q.val ≤ (i 0).val ∧ (i 0).val < 1024 * k.val + 256 * q.val + 256; omega
    · show 0 ≤ (i 1).val ∧ (i 1).val < 0 + 1024; omega

/-- The chunks in the order they are fetched. -/
def fkE (c : Dev nD) : Fin 4 ≃ Fin 4 := Equiv.ofBijective (fun n => fk n c) (by revert c; decide)

def xT (c : Dev nD) (i : S4096x1024.Idx) : Fin 4 := (fkE c).symm ⟨(i 0).val / 1024, by have : (i 0).val < 4096 := (i 0).isLt; omega⟩
theorem xT_iff (c : Dev nD) (t : Fin 4) (i : S4096x1024.Idx) :
    i ∈ (Rect.unit (s := S4096x1024) (fetOff t c) S1024x1024.size (fetOff_inb t c)).set ↔ xT c i = t := by
  unfold xT
  rw [Rect.mem_set_unit, Equiv.symm_apply_eq]
  show _ ↔ _ = fk t c
  have h1 : (i 0).val < 4096 := (i 0).isLt
  have h2 : (i 1).val < 1024 := (i 1).isLt
  have hk := (fk t c).isLt
  have e := fetOff_eq t c
  constructor
  · intro h
    have h0 : 1024 * (fk t c).val ≤ (i 0).val ∧ (i 0).val < 1024 * (fk t c).val + 1024 := by
      have := h 0; rw [e] at this; exact this
    apply Fin.ext; show (i 0).val / 1024 = (fk t c).val; omega
  · intro h a
    have h0 : (i 0).val / 1024 = (fk t c).val := congrArg Fin.val h
    rw [e]
    fin_cases a
    · show 1024 * (fk t c).val ≤ (i 0).val ∧ (i 0).val < 1024 * (fk t c).val + 1024; omega
    · show 0 ≤ (i 1).val ∧ (i 1).val < 0 + 1024; omega

/-- The device whose copy writes the `j`-th chunk of the result of direction `d`, and which of its copies that is. -/
abbrev oj (j : Fin 4) : Fin 3 := ![0, 1, 2, 2] j
abbrev od (j : Fin 4) (d : Fin 2) (c : Dev nD) : Dev nD := ![c, c, c, rcvFrom d c] j
/-- The chunks of the result in that order. -/
def okE (d : Fin 2) (c : Dev nD) : Fin 4 ≃ Fin 4 :=
  Equiv.ofBijective (fun j => ok (oj j) d (od j d c)) (by revert d c; decide)

def oT (c : Dev nD) (i : S4096x2048.Idx) : D8 × Fin 4 :=
  let d : Fin 2 := ⟨(i 1).val / 1024, by have : (i 1).val < 2048 := (i 1).isLt; omega⟩
  ((d, ⟨(i 0).val / 256 % 4, by omega⟩), (okE d c).symm ⟨(i 0).val / 1024, by have : (i 0).val < 4096 := (i 0).isLt; omega⟩)
theorem oT_iff (c : Dev nD) (t : D8 × Fin 4) (i : S4096x2048.Idx) :
    i ∈ (Rect.unit (s := S4096x2048) (outOff (oj t.2) t.1.1 t.1.2 (od t.2 t.1.1 c)) S256x1024.size
        (outOff_inb (oj t.2) t.1.1 t.1.2 (od t.2 t.1.1 c))).set ↔ oT c i = t := by
  obtain ⟨⟨d, q⟩, j⟩ := t
  unfold oT
  rw [Rect.mem_set_unit]
  have h1 : (i 0).val < 4096 := (i 0).isLt
  have h2 : (i 1).val < 2048 := (i 1).isLt
  have hk := (ok (oj j) d (od j d c)).isLt
  have hq := q.isLt
  have e := outOff_eq (oj j) d q (od j d c)
  constructor
  · intro h
    have h0 : 1024 * (ok (oj j) d (od j d c)).val + 256 * q.val ≤ (i 0).val
        ∧ (i 0).val < 1024 * (ok (oj j) d (od j d c)).val + 256 * q.val + 256 := by
      have := h 0; rw [e] at this; exact this
    have h3 : 1024 * d.val ≤ (i 1).val ∧ (i 1).val < 1024 * d.val + 1024 := by
      have := h 1; rw [e] at this; exact this
    have hd : (⟨(i 1).val / 1024, by omega⟩ : Fin 2) = d := Fin.ext (by show (i 1).val / 1024 = d.val; omega)
    refine Prod.ext (Prod.ext hd (Fin.ext ?_)) ?_
    · show (i 0).val / 256 % 4 = q.val; omega
    · show (okE ⟨(i 1).val / 1024, _⟩ c).symm _ = j
      rw [hd, Equiv.symm_apply_eq]
      apply Fin.ext
      show (i 0).val / 1024 = (ok (oj j) d (od j d c)).val
      omega
  · intro h a
    obtain ⟨hx, hj⟩ := Prod.mk.inj h
    obtain ⟨hd, hq'⟩ := Prod.mk.inj hx
    rw [hd, Equiv.symm_apply_eq] at hj
    have hd : (i 1).val / 1024 = d.val := congrArg Fin.val hd
    have hq' : (i 0).val / 256 % 4 = q.val := congrArg Fin.val hq'
    have hj : (i 0).val / 1024 = (ok (oj j) d (od j d c)).val := congrArg Fin.val hj
    rw [e]
    fin_cases a
    · show 1024 * (ok (oj j) d (od j d c)).val + 256 * q.val ≤ (i 0).val
        ∧ (i 0).val < 1024 * (ok (oj j) d (od j d c)).val + 256 * q.val + 256
      omega
    · show 1024 * d.val ≤ (i 1).val ∧ (i 1).val < 1024 * d.val + 1024
      omega

end Cert.KernelIdeal.Hand
-- ==== Proof.Pieces.lean ====
module

public import proofs.«01_k».proof.Proof.Split

/-! What the body starts from and ends with, from whole buffers to whole buffers. -/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

/-! ## Buffers the body may leave at any contents -/

theorem held_squeeze (c : Dev nD) {sp : Space} {s : Shape} {e : EltTy} (m : Memref sig .tc sp s e) (s' : Shape)
    (h : s.Squeezes s') (p : PosShare TreeShare) :
    held (F := F) c (m.squeeze s' h) p = held (F := F) c m p := by
  have h' := h.numel_eq
  show iprop(∃ y, ownsTc c (m.squeeze s' h) p y) = iprop(∃ y, ownsTc c m p y)
  refine BI.Entails.antisymm (show iprop(∃ y, ownsTc c (m.squeeze s' h) p y) ⊢ iprop(∃ y, ownsTc c m p y) from ?_)
    (show iprop(∃ y, ownsTc c m p y) ⊢ iprop(∃ y, ownsTc c (m.squeeze s' h) p y) from ?_)
  · iintro ⟨%y, H⟩
    iexists (fun i => y ((Shape.reshapeEquiv h').symm i))
    iapply (Entails.of_eq (owns_squeeze c m s' h h' p (fun i => y ((Shape.reshapeEquiv h').symm i))))
    iapply (Entails.of_eq (congrArg (fun v => (ownsTc c (m.squeeze s' h) p v : sProp 𝕄)) (show y = fun i => y ((Shape.reshapeEquiv h').symm (Shape.reshapeEquiv h' i)) from
      funext fun i => by rw [Equiv.symm_apply_apply])))
    iexact H
  · iintro ⟨%y, H⟩
    iexists (fun i => y (Shape.reshapeEquiv h' i))
    iapply (Entails.of_eq (owns_squeeze c m s' h h' p y).symm)
    iexact H

theorem slots_eq (c : Dev nD) (f : Fin 2 × Fin 2 × Fin 4 → sProp 𝕄) :
    bigSep Finset.univ f = all8 fun d q => iprop(f (d, 0, q) ∗ f (d, 1, q)) := by
  rw [mid_eq, all8_eq]
  exact bigSep_congr fun x _ => two _

theorem snd_split (c : Dev nD) : held (F := F) c sndM fullShare
    ⊢ all8 fun d q => iprop(held (F := F) c (sndS d 0 q) fullShare ∗ held (F := F) c (sndS d 1 q) fullShare) := by
  refine (held_split c sndM (fun t : Fin 2 × Fin 2 × Fin 4 => slotR t.1 t.2.1 t.2.2) (fun _ _ => rfl) slotT slotT_iff fullShare).trans ?_
  rw [slots_eq c, all8_eq, all8_eq]
  exact bigSep_mono fun x _ => BI.sep_mono (Entails.of_eq (held_squeeze c _ _ _ _).symm) (Entails.of_eq (held_squeeze c _ _ _ _).symm)
theorem snd_join (c : Dev nD) :
    (all8 fun d q => iprop(held (F := F) c (sndS d 0 q) fullShare ∗ held (F := F) c (sndS d 1 q) fullShare)) ⊢ held (F := F) c sndM fullShare := by
  refine BIBase.Entails.trans ?_ (held_join c sndM (fun t : Fin 2 × Fin 2 × Fin 4 => slotR t.1 t.2.1 t.2.2) (fun _ _ => rfl) slotT slotT_iff fullShare)
  rw [slots_eq c, all8_eq, all8_eq]
  exact bigSep_mono fun x _ => BI.sep_mono (Entails.of_eq (held_squeeze c _ _ _ _)) (Entails.of_eq (held_squeeze c _ _ _ _))
theorem rcv_split (c : Dev nD) : held (F := F) c rcvM fullShare
    ⊢ all8 fun d q => iprop(held (F := F) c (rcvS d 0 q) fullShare ∗ held (F := F) c (rcvS d 1 q) fullShare) := by
  refine (held_split c rcvM (fun t : Fin 2 × Fin 2 × Fin 4 => slotR t.1 t.2.1 t.2.2) (fun _ _ => rfl) slotT slotT_iff fullShare).trans ?_
  rw [slots_eq c, all8_eq, all8_eq]
  exact bigSep_mono fun x _ => BI.sep_mono (Entails.of_eq (held_squeeze c _ _ _ _).symm) (Entails.of_eq (held_squeeze c _ _ _ _).symm)
theorem rcv_join (c : Dev nD) :
    (all8 fun d q => iprop(held (F := F) c (rcvS d 0 q) fullShare ∗ held (F := F) c (rcvS d 1 q) fullShare)) ⊢ held (F := F) c rcvM fullShare := by
  refine BIBase.Entails.trans ?_ (held_join c rcvM (fun t : Fin 2 × Fin 2 × Fin 4 => slotR t.1 t.2.1 t.2.2) (fun _ _ => rfl) slotT slotT_iff fullShare)
  rw [slots_eq c, all8_eq, all8_eq]
  exact bigSep_mono fun x _ => BI.sep_mono (Entails.of_eq (held_squeeze c _ _ _ _)) (Entails.of_eq (held_squeeze c _ _ _ _))

theorem st_split (c : Dev nD) : held (F := F) c stM fullShare
    ⊢ iprop(held (F := F) c (stS 0) fullShare ∗ held (F := F) c (stS 1) fullShare) := by
  refine (held_split c stM (fun t : Fin 2 => Rect.unit (s := S2x1024x1024) ![t.val, 0, 0] S1x1024x1024.size (st_inb t)) (fun _ _ => rfl) stT stT_iff fullShare).trans ?_
  rw [two]
  exact BI.sep_mono (Entails.of_eq (held_squeeze c _ _ _ _).symm) (Entails.of_eq (held_squeeze c _ _ _ _).symm)
theorem st_join (c : Dev nD) :
    iprop(held (F := F) c (stS 0) fullShare ∗ held (F := F) c (stS 1) fullShare) ⊢ held (F := F) c stM fullShare := by
  refine BIBase.Entails.trans ?_ (held_join c stM (fun t : Fin 2 => Rect.unit (s := S2x1024x1024) ![t.val, 0, 0] S1x1024x1024.size (st_inb t)) (fun _ _ => rfl) stT stT_iff fullShare)
  rw [two]
  exact BI.sep_mono (Entails.of_eq (held_squeeze c _ _ _ _)) (Entails.of_eq (held_squeeze c _ _ _ _))

theorem wb_split (c : Dev nD) : held (F := F) c wbM fullShare
    ⊢ iprop(held (F := F) c (wbS 0) fullShare ∗ held (F := F) c (wbS 1) fullShare) := by
  refine (held_split c wbM wR (fun _ _ => rfl) wT wT_iff fullShare).trans ?_
  rw [two]
  exact .rfl
theorem wb_join (c : Dev nD) :
    iprop(held (F := F) c (wbS 0) fullShare ∗ held (F := F) c (wbS 1) fullShare) ⊢ held (F := F) c wbM fullShare := by
  refine BIBase.Entails.trans ?_ (held_join c wbM wR (fun _ _ => rfl) wT wT_iff fullShare)
  rw [two]
  exact .rfl

theorem xb_eq (c : Dev nD) :
    (bigSep Finset.univ fun t : Fin 4 × Fin 4 => held (F := F) c (xbS t.1 t.2) fullShare)
      = iprop(all4 (xH (F := F) c 0) ∗ all4 (xH (F := F) c 1) ∗ all4 (xH (F := F) c 2) ∗ all4 (xH (F := F) c 3)) := by
  rw [bigSep_univ_prod, bigSep_univ_equiv (fkE c), four, all4_eq, all4_eq, all4_eq, all4_eq]
  rfl
theorem xb_split (c : Dev nD) : held (F := F) c xbM fullShare
    ⊢ iprop(all4 (xH (F := F) c 0) ∗ all4 (xH (F := F) c 1) ∗ all4 (xH (F := F) c 2) ∗ all4 (xH (F := F) c 3)) :=
  (held_split c xbM (fun t : Fin 4 × Fin 4 => xbR (xbOff t.1 t.2) (xb_inb t.1 t.2)) (fun _ _ => rfl) xbT xbT_iff fullShare).trans
    (Entails.of_eq (xb_eq c))
theorem xb_join (c : Dev nD) :
    iprop(all4 (xH (F := F) c 0) ∗ all4 (xH (F := F) c 1) ∗ all4 (xH (F := F) c 2) ∗ all4 (xH (F := F) c 3)) ⊢ held (F := F) c xbM fullShare :=
  (Entails.of_eq (xb_eq c).symm).trans
    (held_join c xbM (fun t : Fin 4 × Fin 4 => xbR (xbOff t.1 t.2) (xb_inb t.1 t.2)) (fun _ _ => rfl) xbT xbT_iff fullShare)

/-! ## The operand and the result -/

section Values

variable (X : Dev nD → (main_arg0 : Ref sig .tc).ty.Contents (Elt F))
  (Wt : Dev nD → (cc0_stg0_0 : Ref sig .tc).ty.Contents (Elt F))

theorem x_eq (c : Dev nD) :
    (ownsTc c xM fullShare (X c) : sProp 𝕄) = iprop(xC X c 0 ∗ xC X c 1 ∗ xC X c 2 ∗ xC X c 3) := by
  rw [tiles_eq c xM (fun t : Fin 4 => Rect.unit (s := S4096x1024) (fetOff t c) S1024x1024.size (fetOff_inb t c)) (fun _ _ => rfl) (xT c) (xT_iff c) fullShare (X c),
    four]
  rfl

theorem out_split (c : Dev nD) : held (F := F) c oM fullShare
    ⊢ all8 fun d q => iprop(held (F := F) c (outS 0 d q c) fullShare ∗ held (F := F) c (outS 1 d q c) fullShare
        ∗ held (F := F) c (outS 2 d q c) fullShare ∗ held (F := F) c (outS 2 d q (rcvFrom d c)) fullShare) := by
  refine (held_split c oM (fun t : D8 × Fin 4 => Rect.unit (s := S4096x2048) (outOff (oj t.2) t.1.1 t.1.2 (od t.2 t.1.1 c)) S256x1024.size
        (outOff_inb (oj t.2) t.1.1 t.1.2 (od t.2 t.1.1 c))) (fun _ _ => rfl) (oT c) (oT_iff c) fullShare).trans ?_
  rw [bigSep_univ_prod, all8_eq]
  exact bigSep_mono fun x _ => Entails.of_eq (four _)

/-- The index of a block's entry. -/
def inBlk (a b : ℕ) (ha : a < 256) (hb : b < 1024) : S256x1024.Idx :=
  Fin.cons ⟨a, ha⟩ (Fin.cons ⟨b, hb⟩ finZeroElim)

theorem inBlk_self (y : S256x1024.Idx) (a b : ℕ) (ha : a < 256) (hb : b < 1024) (h0 : a = (y 0).val) (h1 : b = (y 1).val) : inBlk a b ha hb = y := by
  subst h0 h1
  funext x
  fin_cases x <;> rfl

/-- The column half, the row quarter within a block and the block of an entry of the result. -/
def halfOf (n : ℕ) (h : n < 2048) : Fin 2 := ⟨n / 1024, by omega⟩
def quarterOf (n : ℕ) : Fin 4 := ⟨n / 256 % 4, by omega⟩
def blockOf (n : ℕ) (h : n < 4096) : Fin 4 := ⟨n / 1024, by omega⟩

/-- The value at a row and a column: what the last device of its ring accumulated. -/
def valAt (a b : ℕ) (ha : a < 4096) (hb : b < 2048) : Elt F .bf16 :=
  acc X Wt (halfOf b hb) (quarterOf a) 3 (rcvFrom (halfOf b hb) (blockOf a ha))
    (inBlk (a % 256) (b % 1024) (by omega) (by omega))

theorem valAt_eq (a b : ℕ) (ha : a < 4096) (hb : b < 2048) (d : Fin 2) (q : Fin 4) (k : Fin 4) (y : S256x1024.Idx)
    (h0 : a = 1024 * k.val + 256 * q.val + (y 0).val) (h1 : b = 1024 * d.val + (y 1).val) :
    valAt X Wt a b ha hb = acc X Wt d q 3 (rcvFrom d k) y := by
  have hk := k.isLt
  have hq := q.isLt
  have hd := d.isLt
  have hy0 : (y 0).val < 256 := (y 0).isLt
  have hy1 : (y 1).val < 1024 := (y 1).isLt
  have e1 : halfOf b hb = d := Fin.ext (show b / 1024 = d.val by omega)
  have e2 : quarterOf a = q := Fin.ext (show a / 256 % 4 = q.val by omega)
  have e3 : blockOf a ha = k := Fin.ext (show a / 1024 = k.val by omega)
  have e4 : inBlk (a % 256) (b % 1024) (by omega) (by omega) = y := inBlk_self y _ _ _ _ (by omega) (by omega)
  unfold valAt
  rw [e1, e2, e3, e4]

/-- The whole product: each row block at the value its last device accumulated. -/
def outVal : S4096x2048.Idx → Elt F .bf16 := fun i => valAt X Wt (i 0).val (i 1).val (i 0).isLt (i 1).isLt

/-- The place of a block's entry in the result. -/
theorem out_place (j : Fin 3) (d : Fin 2) (q : Fin 4) (c : Dev nD) (y : S256x1024.Idx) :
    ((Rect.unit (s := S4096x2048) (outOff j d q c) S256x1024.size (outOff_inb j d q c)).emb y 0).val
        = 1024 * (ok j d c).val + 256 * q.val + (y 0).val
      ∧ ((Rect.unit (s := S4096x2048) (outOff j d q c) S256x1024.size (outOff_inb j d q c)).emb y 1).val
        = 1024 * d.val + (y 1).val := by
  have e0 : outOff j d q c 0 = 1024 * (ok j d c).val + 256 * q.val := congrFun (outOff_eq j d q c) 0
  have e1 : outOff j d q c 1 = 1024 * d.val := congrFun (outOff_eq j d q c) 1
  constructor
  · rw [Rect.emb_apply]
    show _ + 1 * (y _).val = _
    exact congrArg₂ (· + ·) e0 (Nat.one_mul _)
  · rw [Rect.emb_apply]
    show _ + 1 * (y _).val = _
    exact congrArg₂ (· + ·) e1 (Nat.one_mul _)

theorem outVal_at (j : Fin 3) (d : Fin 2) (q : Fin 4) (c : Dev nD) (y : S256x1024.Idx) :
    outVal X Wt ((Rect.unit (s := S4096x2048) (outOff j d q c) S256x1024.size (outOff_inb j d q c)).emb y)
      = acc X Wt d q 3 (rcvFrom d (ok j d c)) y :=
  valAt_eq X Wt _ _ _ _ d q (ok j d c) y (out_place j d q c y).1 (out_place j d q c y).2

theorem from_ok0 : ∀ d c, rcvFrom d (ok 0 d c) = c := by decide
theorem from_ok1 : ∀ d c, rcvFrom d (ok 1 d c) = rcvFrom d c := by decide
theorem from_ok2 : ∀ d c, rcvFrom d (ok 2 d c) = rcvFrom d (rcvFrom d c) := by decide

/-- A block of the result at the value accumulated for it, as a block of the whole. -/
theorem out_piece (c : Dev nD) (j : Fin 3) (d : Fin 2) (q : Fin 4) (n e : Dev nD) (he : rcvFrom d (ok j d n) = e) :
    (ownsTc c (outS j d q n) fullShare (acc X Wt d q 3 e) : sProp 𝕄)
      = ownsTc c (oM.slice (Rect.unit (s := S4096x2048) (outOff j d q n) S256x1024.size (outOff_inb j d q n)) (fun _ => rfl)) fullShare
          (fun y => outVal X Wt ((Rect.unit (s := S4096x2048) (outOff j d q n) S256x1024.size (outOff_inb j d q n)).emb y)) := by
  subst he
  exact congrArg (ownsTc c (outS j d q n) fullShare) (funext fun y => (outVal_at X Wt j d q n y).symm)

theorem out_join (c : Dev nD) :
    (all8 fun d q => iprop(outO X Wt c d q 0 ∗ outO X Wt c d q 1 ∗ outO X Wt c d q 2 ∗ lastOut X Wt c d q))
      ⊢ (ownsTc c oM fullShare (outVal X Wt) : sProp 𝕄) := by
  rw [tiles_eq c oM (fun t : D8 × Fin 4 => Rect.unit (s := S4096x2048) (outOff (oj t.2) t.1.1 t.1.2 (od t.2 t.1.1 c)) S256x1024.size
        (outOff_inb (oj t.2) t.1.1 t.1.2 (od t.2 t.1.1 c))) (fun _ _ => rfl) (oT c) (oT_iff c) fullShare (outVal X Wt),
    bigSep_univ_prod, all8_eq]
  refine Entails.of_eq (bigSep_congr fun x _ => ?_)
  obtain ⟨d, q⟩ := x
  rw [four]
  have e0 : outO X Wt c d q 0 = ownsTc c (outS 0 d q c) fullShare (acc X Wt d q 3 c) := rfl
  have e1 : outO X Wt c d q 1 = ownsTc c (outS 1 d q c) fullShare (acc X Wt d q 3 (rcvFrom d c)) := rfl
  have e2 : outO X Wt c d q 2 = ownsTc c (outS 2 d q c) fullShare (acc X Wt d q 3 (rcvFrom d (rcvFrom d c))) := rfl
  have e3 : lastOut X Wt c d q = ownsTc c (outS 2 d q (rcvFrom d c)) fullShare (acc X Wt d q 3 (rcvFrom d (rcvFrom d (rcvFrom d c)))) := by
    have h5 : ∀ n, sval X Wt d q 5 n = acc X Wt d q 3 (rcvFrom d (rcvFrom d n)) := fun _ => rfl
    unfold lastOut
    rw [h5]
  rw [e0, e1, e2, e3, out_piece X Wt c 0 d q c _ (from_ok0 d c), out_piece X Wt c 1 d q c _ (from_ok1 d c),
    out_piece X Wt c 2 d q c _ (from_ok2 d c), out_piece X Wt c 2 d q (rcvFrom d c) _ (from_ok2 d (rcvFrom d c))]
  rfl

end Values

/-! ## All that a body has at its start, and all that it leaves -/

theorem all4_sep (f g : Fin 4 → sProp 𝕄) : all4 (fun q => iprop(f q ∗ g q)) = iprop(all4 f ∗ all4 g) := by
  rw [all4_eq, all4_eq, all4_eq, bigSep_sep']
theorem all8_sep (f g : Fin 2 → Fin 4 → sProp 𝕄) : all8 (fun d q => iprop(f d q ∗ g d q)) = iprop(all8 f ∗ all8 g) := by
  rw [all8_eq, all8_eq, all8_eq, bigSep_sep']
theorem all8_four (a b e f : Fin 2 → Fin 4 → sProp 𝕄) :
    all8 (fun d q => iprop(a d q ∗ b d q ∗ e d q ∗ f d q)) = iprop(all8 a ∗ all8 b ∗ all8 e ∗ all8 f) := by
  rw [all8_sep a fun d q => iprop(b d q ∗ e d q ∗ f d q), all8_sep b fun d q => iprop(e d q ∗ f d q), all8_sep e f]
theorem all8_mono {f g : Fin 2 → Fin 4 → sProp 𝕄} (h : ∀ d q, f d q ⊢ g d q) : all8 f ⊢ all8 g := by
  rw [all8_eq, all8_eq]
  exact bigSep_mono fun x _ => h x.1 x.2
theorem all4_mono {f g : Fin 4 → sProp 𝕄} (h : ∀ q, f q ⊢ g q) : all4 f ⊢ all4 g := by
  rw [all4_eq, all4_eq]
  exact bigSep_mono fun x _ => h x

theorem lends (c : Dev nD) : all8 (lend1 (F := F) c) ⊢ iprop(lend (F := F) c 0 ∗ lend (F := F) c 1) := by
  unfold all8 lend
  iintro ⟨⟨A0, B0⟩, ⟨A1, B1⟩, ⟨A2, B2⟩, A3, B3⟩
  isplitl [A0 A1 A2 A3]
  · isplitl [A0]; · iexact A0
    isplitl [A1]; · iexact A1
    isplitl [A2]; · iexact A2
    iexact A3
  · isplitl [B0]; · iexact B0
    isplitl [B1]; · iexact B1
    isplitl [B2]; · iexact B2
    iexact B3

/-- One stream's ghosts and memory at the start: its own, and what it lends to its neighbour. -/
theorem stream_intro (c : Dev nD) (d : Fin 2) (q : Fin 4) :
    iprop(gq (F := F) c d q ∗ (held (F := F) c (sndS d 0 q) fullShare ∗ held (F := F) c (sndS d 1 q) fullShare)
        ∗ (held (F := F) c (rcvS d 0 q) fullShare ∗ held (F := F) c (rcvS d 1 q) fullShare)
        ∗ (held (F := F) c (outS 0 d q c) fullShare ∗ held (F := F) c (outS 1 d q c) fullShare
          ∗ held (F := F) c (outS 2 d q c) fullShare ∗ held (F := F) c (outS 2 d q (rcvFrom d c)) fullShare))
      ⊢ iprop(T0p (F := F) c d q ∗ lend1 (F := F) c d q) := by
  unfold gq T0p A2 A3 A4 lend1
  iintro ⟨⟨⟨S0, S1, S2, S3, S4, S5⟩, ⟨G0, G1, G2⟩, ⟨K0, K1, K2⟩, HC, I0, I1, I2⟩, ⟨N0, N1⟩, ⟨R0, R1⟩, O0, O1, O2, O3⟩
  isplitr [R0 R1 O3]
  · isplitl [S0]; · iexact S0
    isplitl [N0]; · iexact N0
    isplitl [N1]; · iexact N1
    isplitl [S1 G0]
    · isplitl [S1]; · iexact S1
      iexact G0
    isplitl [S2 G1 K0 HC]
    · isplitl [S2]; · iexact S2
      isplitl [G1]; · iexact G1
      isplitl [K0]; · iexact K0
      iexact HC
    isplitl [S3 G2 K1 I0 O0]
    · isplitl [S3]; · iexact S3
      isplitl [G2]; · iexact G2
      isplitl [K1]; · iexact K1
      isplitl [I0]; · iexact I0
      iexact O0
    isplitl [S4 K2 I1 O1]
    · isplitl [S4]; · iexact S4
      isplitl [K2]; · iexact K2
      isplitl [I1]; · iexact I1
      iexact O1
    isplitl [S5]; · iexact S5
    isplitl [I2]; · iexact I2
    iexact O2
  · isplitl [R0]; · iexact R0
    isplitl [R1]; · iexact R1
    iexact O3

section Whole

variable (X : Dev nD → (main_arg0 : Ref sig .tc).ty.Contents (Elt F))
  (Wt : Dev nD → (cc0_stg0_0 : Ref sig .tc).ty.Contents (Elt F))

/-- The buffers of a device at the start. -/
def Mem₀ (c : Dev nD) : sProp 𝕄 :=
  iprop(held (F := F) c sndM fullShare ∗ held (F := F) c rcvM fullShare ∗ held (F := F) c xbM fullShare ∗ held (F := F) c wbM fullShare
    ∗ held (F := F) c stM fullShare)

theorem streams_intro (c : Dev nD) :
    iprop(all8 (gq (F := F) c) ∗ held (F := F) c sndM fullShare ∗ held (F := F) c rcvM fullShare ∗ held (F := F) c oM fullShare)
      ⊢ iprop(all8 (T0p (F := F) c) ∗ lend (F := F) c 0 ∗ lend (F := F) c 1) := by
  refine (sep_mono_right (BI.sep_mono (snd_split c) (BI.sep_mono (rcv_split c) (out_split c)))).trans ?_
  refine BIBase.Entails.trans ?_ (sep_mono_right (lends c))
  refine BIBase.Entails.trans ?_ (Entails.of_eq (all8_sep (T0p (F := F) c) (lend1 (F := F) c)))
  exact (Entails.of_eq (all8_four _ _ _ _).symm).trans (all8_mono fun d q => stream_intro c d q)

theorem pre_intro (c : Dev nD) :
    iprop(gr (F := F) c ∗ all8 (gq (F := F) c) ∗ Mem₀ (F := F) c ∗ ownsTc c xM fullShare (X c) ∗ held (F := F) c oM fullShare ∗ ownsTc c wM fullShare (Wt c))
      ⊢ Pre X Wt c := by
  unfold gr Mem₀ Pre In1
  iintro ⟨⟨⟨I0, I1, I2, I3⟩, ⟨B0, B1⟩, HB⟩, HQ, ⟨HN, HR, HXB, HWB, HST⟩, HX, HO, HW⟩
  ihave HS := (streams_intro c) $$ [HQ HN HR HO]
  · isplitl [HQ]; · iexact HQ
    isplitl [HN]; · iexact HN
    isplitl [HR]; · iexact HR
    iexact HO
  icases HS with ⟨HT, L0, L1⟩
  ihave HXB := (xb_split c) $$ HXB
  icases HXB with ⟨Xa, Xb, Xc, Xd⟩
  ihave HWB := (wb_split c) $$ HWB
  icases HWB with ⟨W0, W1⟩
  ihave HST := (st_split c) $$ HST
  ihave HX := (Entails.of_eq (x_eq X c)) $$ HX
  icases HX with ⟨C0, C1, C2, C3⟩
  isplitr [Xb Xc Xd I3 C3]
  · isplitl [I0 I1 I2]
    · isplitl [I0]; · iexact I0
      isplitl [I1]; · iexact I1
      iexact I2
    isplitl [C0 C1 C2]
    · isplitl [C0]; · iexact C0
      isplitl [C1]; · iexact C1
      iexact C2
    isplitl [HST]; · iexact HST
    isplitl [B0 B1 L0 L1]
    · isplitl [B0]; · iexact B0
      isplitl [B1]; · iexact B1
      isplitl [L0]; · iexact L0
      iexact L1
    isplitl [HB]; · iexact HB
    isplitl [HW]; · iexact HW
    isplitl [W0]; · iexact W0
    isplitl [W1]; · iexact W1
    isplitl [Xa]; · iexact Xa
    iexact HT
  · isplitl [Xb]; · iexact Xb
    isplitl [Xc]; · iexact Xc
    isplitl [Xd]; · iexact Xd
    isplitl [I3]; · iexact I3
    iexact C3

/-- One stream's cells at zero. -/
theorem cells_done (c : Dev nD) (d : Fin 2) (q : Fin 4) :
    iprop(fin (F := F) c (kC d q) ∗ fin (F := F) c (kO d 0 q) ∗ fin (F := F) c (kO d 1 q) ∗ fin (F := F) c (kO d 2 q) ∗ CL (F := F) c d q 6)
      ⊢ byQ (fin (F := F) c) (d, q) := by
  have hCL : CL (F := F) c d q 6 = iprop(FN c d q 5 ∗ FN c d q 4 ∗ FN c d q 3 ∗ FN c d q 2 ∗ FN c d q 1 ∗ FN c d q 0 ∗ emp) := rfl
  unfold byQ
  rw [hCL, six, six, three]
  unfold FN
  iintro ⟨HC, O0, O1, O2, ⟨S5, R5⟩, ⟨S4, R4⟩, ⟨S3, R3⟩, ⟨S2, R2⟩, ⟨S1, R1⟩, ⟨S0, R0⟩, -⟩
  isplitl [S0 S1 S2 S3 S4 S5]
  · isplitl [S0]; · iexact S0
    isplitl [S1]; · iexact S1
    isplitl [S2]; · iexact S2
    isplitl [S3]; · iexact S3
    isplitl [S4]; · iexact S4
    iexact S5
  isplitl [R0 R1 R2 R3 R4 R5]
  · isplitl [R0]; · iexact R0
    isplitl [R1]; · iexact R1
    isplitl [R2]; · iexact R2
    isplitl [R3]; · iexact R3
    isplitl [R4]; · iexact R4
    iexact R5
  isplitl [HC]; · iexact HC
  isplitl [O0]; · iexact O0
  isplitl [O1]; · iexact O1
  iexact O2

theorem stream_elim (c : Dev nD) (d : Fin 2) (q : Fin 4) :
    T8 X Wt c d q ⊢ iprop((held (F := F) c (sndS d 0 q) fullShare ∗ held (F := F) c (sndS d 1 q) fullShare)
        ∗ (held (F := F) c (rcvS d 0 q) fullShare ∗ held (F := F) c (rcvS d 1 q) fullShare)
        ∗ (outO X Wt c d q 0 ∗ outO X Wt c d q 1 ∗ outO X Wt c d q 2 ∗ lastOut X Wt c d q)
        ∗ byQ (fin (F := F) c) (d, q)) := by
  refine BIBase.Entails.trans ?_ (sep_mono_right (sep_mono_right (sep_mono_right (cells_done c d q))))
  unfold T8
  iintro ⟨N0, N1, R0, R1, O0, O1, O2, O3, HF⟩
  isplitl [N0 N1]
  · isplitl [N0]; · iexact N0
    iexact N1
  isplitl [R0 R1]
  · isplitl [R0]; · iexact R0
    iexact R1
  isplitr [HF]
  · isplitl [O0]; · iexact O0
    isplitl [O1]; · iexact O1
    isplitl [O2]; · iexact O2
    iexact O3
  iexact HF

theorem streams_elim (c : Dev nD) :
    all8 (T8 X Wt c) ⊢ iprop(held (F := F) c sndM fullShare ∗ held (F := F) c rcvM fullShare ∗ ownsTc c oM fullShare (outVal X Wt)
        ∗ bigSep Finset.univ (byQ (fin (F := F) c))) := by
  refine (all8_mono fun d q => stream_elim X Wt c d q).trans ?_
  refine (Entails.of_eq (all8_four _ _ _ _)).trans ?_
  exact BI.sep_mono (snd_join c) (BI.sep_mono (rcv_join c) (BI.sep_mono (out_join X Wt c) (Entails.of_eq (all8_eq fun d q => byQ (fin (F := F) c) (d, q)))))

theorem post_elim (c : Dev nD) :
    Post X Wt c ⊢ iprop((bigSep Finset.univ (fin (F := F) c)) ∗ Mem₀ (F := F) c ∗ ownsTc c xM fullShare (X c)
        ∗ ownsTc c oM fullShare (outVal X Wt) ∗ ownsTc c wM fullShare (Wt c)) := by
  rw [bigSep_CK, four]
  unfold Post Out1 Mem₀
  iintro ⟨⟨⟨I0, I1, I2⟩, ⟨C0, C1, C2⟩, HB, HW, Xa⟩, ⟨I3, C3⟩, ⟨T0, T1⟩, ⟨W0, W1⟩, ⟨Xb, Xc, Xd⟩, HT⟩
  ihave HT := (streams_elim X Wt c) $$ HT
  icases HT with ⟨HN, HR, HO, HF⟩
  isplitl [HF I0 I1 I2 I3 HB]
  · isplitl [HF]; · iexact HF
    isplitr [HB]
    · isplitl [I0]; · iexact I0
      isplitl [I1]; · iexact I1
      isplitl [I2]; · iexact I2
      iexact I3
    iexact HB
  isplitl [HN HR Xa Xb Xc Xd W0 W1 T0 T1]
  · isplitl [HN]; · iexact HN
    isplitl [HR]; · iexact HR
    isplitl [Xa Xb Xc Xd]
    · iapply (xb_join c)
      isplitl [Xa]; · iapply (all4_mono fun q => held_of c (xbS (fk 0 c) q) fullShare (xb X c (fk 0 c) q)); iexact Xa
      isplitl [Xb]; · iapply (all4_mono fun q => held_of c (xbS (fk 1 c) q) fullShare (xb X c (fk 1 c) q)); iexact Xb
      isplitl [Xc]; · iapply (all4_mono fun q => held_of c (xbS (fk 2 c) q) fullShare (xb X c (fk 2 c) q)); iexact Xc
      iapply (all4_mono fun q => held_of c (xbS (fk 3 c) q) fullShare (xb X c (fk 3 c) q)); iexact Xd
    isplitl [W0 W1]
    · iapply (wb_join c)
      isplitl [W0]; · iapply (show wO Wt c 0 ⊢ _ from held_of c (wbS 0) fullShare (wb Wt c 0)); iexact W0
      iapply (show wO Wt c 1 ⊢ _ from held_of c (wbS 1) fullShare (wb Wt c 1)); iexact W1
    iapply (st_join c)
    isplitl [T0]; · iapply (show stO X c 0 2 ⊢ _ from held_of c (stS 0) fullShare (chunk X c 2)); iexact T0
    iapply (show stO X c 1 3 ⊢ _ from held_of c (stS 1) fullShare (chunk X c 3)); iexact T1
  isplitl [C0 C1 C2 C3]
  · iapply (Entails.of_eq (x_eq X c).symm)
    isplitl [C0]; · iexact C0
    isplitl [C1]; · iexact C1
    isplitl [C2]; · iexact C2
    iexact C3
  isplitl [HO]; · iexact HO
  iexact HW

end Whole

end Cert.KernelIdeal.Hand
-- ==== Proof.BodyEq.lean ====
module

public import proofs.«01_k».proof.Proof.Program
public import Idealize.ShloMosaic.Lib.Pipeline.Regions

@[expose] public section

noncomputable section

namespace Cert.KernelIdeal.Hand

open Idealize.ShloMosaic Idealize.SL.Sem Cert.KernelIdeal Cert.KernelIdeal.Gen

variable {F : FTy → Type} [FloatOps F]

set_option maxRecDepth 1000000 in
/-- The printed body is `prog`. -/
theorem body_eq (t : Fin cfg0.N) : bodyAt0 (F := F) t = prog := by chain_rfl

end Cert.KernelIdeal.Hand
-- ==== Proof.Run.lean ====
module

public import proofs.«01_k».proof.Proof.Pieces
public import proofs.«01_k».proof.Proof.Creds
public import proofs.«01_k».proof.Proof.Body
public import proofs.«01_k».proof.Proof.BodyEq
public import Idealize.ShloMosaic.Lib.Pipeline.CollectiveSegs

/-! The launch on the four devices, and what every run ends with. -/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

open Idealize.ShloMosaic.Pipeline (Dat BodyObligation)

variable (m : (ℓ : Loc nD τ sig) → Buf (Elt F) ℓ) (ρ : Dev nD → PrngReg)

abbrev 𝒱₀ : Variants := Variants.none

/-! ## The proof data of the one pipeline -/

/-- The operands as the region finds them. -/
def Xm (c : Dev nD) : (main_arg0 : Ref sig .tc).ty.Contents (Elt F) := m ((c : Thread nD τ).loc main_arg0)
def Wm (c : Dev nD) : (cc0_stg0_0 : Ref sig .tc).ty.Contents (Elt F) :=
  (win0_0.blk t0_0).view.read (Elt F) (m ((c : Thread nD τ).loc main_arg1))

theorem Wm_eq (c : Dev nD) : Wm m c = m ((c : Thread nD τ).loc main_arg1) := by
  have he : ∀ i : S1024x2048.Idx, (win0_0.blk t0_0).view.emb i = i := by
    intro i
    funext a
    apply Fin.ext
    show 0 * _ + 1 * (i a).val = (i a).val
    rw [Nat.zero_mul, Nat.zero_add, Nat.one_mul]
  funext i
  exact congrArg (m ((c : Thread nD τ).loc main_arg1)) (he i)

abbrev O₀ (c : Dev nD) : CellTallies nD τ sig ℕ := ow c items

def start (c : Dev nD) : sProp 𝕄 :=
  iprop((∃ K Ks, Rec (Xm m) (Wm m) K Ks) ∗ levAts L lv ∗ gr (F := F) c ∗ all8 (gq (F := F) c)
    ∗ ownsTc c xM fullShare (Xm m c) ∗ held (F := F) c oM fullShare)
def Φ₀ (c : Dev nD) : sProp 𝕄 := iprop(start m c ∗ Mem₀ (F := F) c)
def leave (c : Dev nD) : sProp 𝕄 :=
  iprop(unscopedSems0 c ∗ ownsTc c xM fullShare (Xm m c) ∗ ownsTc c oM fullShare (outVal (Xm m) (Wm m)))
def Φ₁ (c : Dev nD) : sProp 𝕄 :=
  iprop((bigSep Finset.univ (fin (F := F) c)) ∗ Mem₀ (F := F) c ∗ ownsTc c xM fullShare (Xm m c) ∗ ownsTc c oM fullShare (outVal (Xm m) (Wm m)))

def dats (_ : Fin 1) (c : Dev nD) : Dat τ (Elt F) ℕ ℕ UU ℕ cfg0 c where
  A w := m ((cfg0.win w).arr.view.loc (c : Thread nD τ))
  after w _ := match w with
    | ⟨0, _⟩ => Wm m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m 0 c).share w = fullShare := by
  unfold Dat.share; split <;> rfl

theorem fetched_eq (c : Dev nD) (d) : (dats m 0 c).before (0 : Fin 1) t0_0 d = Wm m c := by
  unfold Dat.before
  rw [if_pos (fetch0_0 t0_0)]
  rfl

theorem whole_eq (c : Dev nD) (b : Ref sig .tc) (f : b.ty.Contents (Elt F)) :
    (ownsTc c (Memref.whole b) fullShare f : sProp 𝕄) = (((c : Thread nD τ).loc b) ↦{fullShare} f) :=
  owns_whole (c : Thread nD τ) b fullShare f

theorem held_whole (c : Dev nD) (b : Ref sig .tc) :
    held (F := F) c (Memref.whole b) fullShare
      = iprop(∃ f : Buf (Elt F) ((c : Thread nD τ).loc b), ((c : Thread nD τ).loc b) ↦{fullShare} f) :=
  congrArg (fun g : Buf (Elt F) ((c : Thread nD τ).loc b) → sProp 𝕄 => iprop(∃ f, g f)) (funext fun f => whole_eq c b f)

theorem mem_eq (c : Dev nD) : (Pipeline.scopedRest (Ix := ℕ) (Name := ℕ) (U := UU) (Lvl := ℕ) (Val := Elt F) cfg0.spec c : sProp 𝕄) = Mem₀ (F := F) c := by
  unfold Mem₀
  rw [held_whole, held_whole, held_whole, held_whole, held_whole]
  exact scopedRest0_eq c

/-! ## The body -/

theorem rec_ctx (X : Dev nD → (main_arg0 : Ref sig .tc).ty.Contents (Elt F)) (Wt : Dev nD → (cc0_stg0_0 : Ref sig .tc).ty.Contents (Elt F))
    (K : Dev nD × CK → ℕ) (Ks : Key → ℕ) : iprop(Rec X Wt K Ks ∗ levAts L lv) ⊢ Ctx X Wt K Ks := by
  unfold Rec Ctx
  iintro ⟨⟨H1, H2, H3⟩, H4⟩
  isplitl [H1]; · iexact H1
  isplitl [H2]; · iexact H2
  isplitl [H3]; · iexact H3
  iexact H4

theorem run_end (c : Dev nD) :
    iprop(Ow (F := F) c [] ∗ Post (Xm m) (Wm m) c)
      ⊢ iprop(Φ₁ m c ∗ (dats m 0 c).owesAt 0 t0_0.succ ∗ ownsTc c wM fullShare (Wm m c)) := by
  unfold Ow Φ₁ Dat.owesAt Pipeline.owesWithin
  rw [show (dats m 0 c).owed t0_0.succ = 0 from rfl]
  iintro ⟨⟨%W, HO⟩, HP⟩
  ihave HP := (post_elim (Xm m) (Wm m) c) $$ HP
  icases HP with ⟨HF, HM, HX, HY, HW⟩
  isplitl [HF HM HX HY]
  · isplitl [HF]; · iexact HF
    isplitl [HM]; · iexact HM
    isplitl [HX]; · iexact HX
    iexact HY
  isplitl [HO]
  · iexists W
    isplitr
    · ipureintro; exact fun _ _ => Or.inl trivial
    iexact HO
  iexact HW

set_option maxRecDepth 1000000 in
theorem body_obligation (c : Dev nD) : BodyObligation (dats (F := F) m 0 c) (defs₀ (F := F)) 𝒱₀ 0 Set.univ := fun t => by
  obtain rfl : t = t0_0 := fin_N0 t
  rw [bigSep_W0, bigSep_W0]
  show iprop(Φ₀ m c ∗ (dats m 0 c).owesAt 0 t0_0.castSucc ∗ (∃ d, ownsTc c wM fullShare ((dats m 0 c).before (0 : Fin 1) t0_0 d)))
    ⊢ Wp c (bodyAt0 t0_0) (fun _ => iprop(Φ₁ m c ∗ (dats m 0 c).owesAt 0 t0_0.succ ∗ ownsTc c wM fullShare (Wm m c)))
  rw [body_eq]
  unfold prog Wp
  rw [wp_deviceId]
  refine BIBase.Entails.trans ?_ (Idealize.SL.Sem.wp_mono _ _ _ (Q := fun _ => iprop(Ow (F := F) c [] ∗ Post (Xm m) (Wm m) c)) (fun _ => run_end m c))
  unfold Φ₀ start Dat.owesAt Pipeline.owesWithin
  rw [show (dats m 0 c).owed t0_0.castSucc = O₀ c from rfl]
  iintro ⟨⟨⟨⟨%K, %Ks, HR⟩, HL, HG, HQ, HX, HY⟩, HM⟩, ⟨%W, %hW, HO⟩, %d, HW⟩
  ihave HW := (Entails.of_eq (congrArg (fun v => (ownsTc c wM fullShare v : sProp 𝕄)) (fetched_eq m c d))) $$ HW
  ihave HP := (pre_intro (Xm m) (Wm m) c) $$ [HG HQ HM HX HY HW]
  · isplitl [HG]; · iexact HG
    isplitl [HQ]; · iexact HQ
    isplitl [HM]; · iexact HM
    isplitl [HX]; · iexact HX
    isplitl [HY]; · iexact HY
    iexact HW
  iapply (run_prog (Xm m) (Wm m) K Ks c)
  isplitl [HR HL]
  · iapply (rec_ctx (Xm m) (Wm m) K Ks)
    isplitl [HR]; · iexact HR
    iexact HL
  isplitl [HO]
  · unfold Ow
    iexists W
    iexact HO
  iexact HP

/-! ## The launch -/

theorem launch_own :
    (ownU u₀ : sProp 𝕄) ⊢ |={Set.univ}=> iprop(BI.own (EP (F := F) (initOf (Pipeline.cells cfgs cellOf_inj) (Pipeline.launchToks cfgs cellOf_inj)))
      ∗ bigSep Finset.univ (G (Xm m) (Wm m))) := by
  unfold u₀
  iintro Hu
  ihave H := (ownU_pair _ _) $$ Hu
  icases H with ⟨HP, HX⟩
  ihave HX := (own_pair_emb _ _ _) $$ HX
  imod (fund_cells (Xm m) (Wm m)) $$ HX with HG
  imodintro
  isplitl [HP]; · iexact HP
  iexact HG

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Xm m) (Wm m) c)
      ⊢ |={Set.univ}=> iprop(start m c ∗ emp) := by
  have hrest : (Pipeline.unscopedRestP Pipeline.Prefetch.none cfg0.spec c (fun b => m ((c : Thread nD τ).loc b)) : sProp 𝕄)
      = iprop((((c : Thread nD τ).loc main_arg0) ↦{fullShare} m ((c : Thread nD τ).loc main_arg0))
        ∗ (((c : Thread nD τ).loc main_v1) ↦{fullShare} m ((c : Thread nD τ).loc main_v1))) :=
    (Pipeline.unscopedRestP_none _ _ _).trans (unscopedRest0_eq c _)
  rw [hrest]
  unfold start G'
  iintro ⟨⟨HX, HY⟩, HL, HC, -, %K, %Ks, HR, Hlin⟩
  ihave HC := (creds c) $$ HC
  icases HC with ⟨HB, HQ⟩
  ihave HG := (lin_ghost c) $$ [Hlin HB HQ]
  · isplitl [Hlin]; · iexact Hlin
    isplitl [HB]; · iexact HB
    iexact HQ
  icases HG with ⟨HG, HQ⟩
  imodintro
  isplitl
  · isplitl [HR]
    · iexists K, Ks
      iexact HR
    isplitl [HL]; · iexact HL
    isplitl [HG]; · iexact HG
    isplitl [HQ]; · iexact HQ
    isplitl [HX]
    · iapply (Entails.of_eq (whole_eq c main_arg0 (Xm m c)).symm)
      iexact HX
    iapply (Entails.of_eq (held_whole c main_v1).symm)
    iexists _
    iexact HY
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, mem_eq]
  unfold Φ₀
  iintro ⟨Hs, -, HM⟩
  isplitl [Hs]; · iexact Hs
  iexact HM

theorem phi1_exit (c : Dev nD) :
    (dats m 0 c).Φ (Fin.last cfg0.N) ⊢ iprop(leave m c ∗ Pipeline.ownSems0 osem c ∗ Pipeline.scopedRest cfg0.spec c) := by
  rw [show (dats m 0 c).Φ (Fin.last cfg0.N) = Φ₁ m c from rfl, mem_eq]
  unfold Φ₁ leave
  iintro ⟨HF, HM, HX, HY⟩
  ihave HF := (show bigSep Finset.univ (fin (F := F) c) ⊢ iprop(Pipeline.ownSems0 osem c ∗ unscopedSems0 c) from Entails.of_eq (sems_eq c).symm) $$ HF
  icases HF with ⟨HF, HB⟩
  isplitl [HB HX HY]
  · isplitl [HB]; · iexact HB
    isplitl [HX]; · iexact HX
    iexact HY
  isplitl [HF]; · iexact HF
  iexact HM

theorem staging_kind : kindOf (.dma (sem0_0 0) : SemLoc sig) = none :=
  dif_neg fun ⟨k, h⟩ => (show ∀ k : CK, csem k ≠ (.dma (sem0_0 0) : SemLoc sig) by decide +kernel) k h

theorem iLev_pos (i : Itm) : 0 < iLev i := by
  rcases i with d | ⟨d, k, q⟩ | ⟨d, h, q⟩ <;> exact Nat.succ_pos _

theorem waits (c : Dev nD) : (levAts L lv : sProp 𝕄) ⊢ Pipeline.cellsWaits cfgs (dats m) 0 0 c :=
  Pipeline.cellsWaits_intro cfgs (dats m) 0 0 c fun w s t => by
    have h0 : lv ((c : Thread nD τ), (.dma ((cfg0.spec w).sem s) : SemLoc sig)) 0 ≤ 0 := by
      have hk : kindOf (.dma ((cfg0.spec w).sem s) : SemLoc sig) = none := by
        fin_cases w <;> fin_cases s <;> exact staging_kind
      show (kindOf (.dma ((cfg0.spec w).sem s) : SemLoc sig)).elim 0 (lvK 0) ≤ 0
      rw [hk]
      exact Nat.le_refl 0
    rcases t with ⟨_ | _, ht⟩
    · exact mayWait_of c _ 0 0 items (by decide) h0 fun i _ => iLev_pos i
    · exact mayWait_of c _ 0 0 [] (by decide) h0 fun i h => absurd h (List.not_mem_nil)

/-- What a device's memory holds at the end besides the staged operand. -/
def QY (c : Dev nD) (s : MemSt nD τ sig (Elt F)) : Prop :=
  (∀ sm : SemLoc sig, sm.isScoped .tc = false → s.sem ((c.tc : Thread nD τ), sm) = 0)
    ∧ s.mem ((c.tc : Thread nD τ).loc main_arg0) = Xm m c
    ∧ s.mem ((c.tc : Thread nD τ).loc main_v1) = outVal (Xm m) (Wm m)

theorem read_end (c : Dev nD) (s' : Phys nD τ sig (Elt F)) :
    iprop(leave m c ∗ emp ∗ SI s') ⊢ |={Set.univ}=> iprop(⌜QY m c s'.mem⌝ ∗ SI s') := by
  unfold leave
  have hX : (ownsTc c xM fullShare (Xm m c) : sProp 𝕄) = (((c : Thread nD τ).loc main_arg0) ↦{fullShare} Xm m c) := whole_eq c main_arg0 _
  have hY : (ownsTc c oM fullShare (outVal (Xm m) (Wm m)) : sProp 𝕄) = (((c : Thread nD τ).loc main_v1) ↦{fullShare} outVal (Xm m) (Wm m)) :=
    whole_eq c main_v1 _
  rw [hX, hY]
  iintro ⟨⟨HB, HX, HY⟩, -, HS⟩
  ihave %h1 := (SI_pointsTo_agree (st := s')) $$ [HS HX]
  · isplitl [HS]; · iexact HS
    iexact HX
  ihave %h2 := (SI_pointsTo_agree (st := s')) $$ [HS HY]
  · isplitl [HS]; · iexact HS
    iexact HY
  imod (Pipeline.unscopedSems0_read (X := unscopedSems0 c) (c := c) fupd_intro s') $$ [HB HS] with ⟨%h3, HS⟩
  · isplitl [HB]; · iexact HB
    iexact HS
  imodintro
  isplitr
  · ipureintro
    exact ⟨h3, funext fun i => h1 i (Finset.mem_univ _), funext fun i => h2 i (Finset.mem_univ _)⟩
  iexact HS

def QC : PUnit × MemSt nD τ sig (Elt F) → Prop := fun r => ∀ c : Dev nD,
  r.2.mem ((c.tc : Thread nD τ).loc main_v1) = outVal (Xm m) (Wm m)
    ∧ r.2.mem ((c.tc : Thread nD τ).loc main_arg0) = m ((c.tc : Thread nD τ).loc main_arg0)
    ∧ r.2.mem ((c.tc : Thread nD τ).loc main_arg1) = m ((c.tc : Thread nD τ).loc main_arg1)

set_option maxRecDepth 100000 in
/-- The four devices' runs, for any float values, from any memory with zero counters. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (Xm m) (Wm m)) (G' := G' (Xm m) (Wm m)) (u₀ := u₀)
    (hu₀ := launch_own m)
    (hglob := glob (Xm m) (Wm m))
    (hA := fun _ _ => rfl) (hpf := fun _ k => k.elim0)
    (X := start m) (Y := leave m) (Z := fun _ => iprop(emp))
    (hX := start_intro m ρ) (hin := phi0_intro m) (hout := phi1_exit m)
    (QY := QY m) (hY := read_end m)
    (hQ := fun _ h hs => ⟨fun c => ⟨(h c).2.2.2.2, (h c).2.2.2.1, ((h c).1 0).trans ((dats m 0 c).arrAt_in 0 rfl _)⟩,
      sem_eq_zero hs fun c => (h c).2.2.1⟩)

end Cert.KernelIdeal.Hand
-- ==== Proof.Value.lean ====
module

public import proofs.«01_k».proof.Proof.Pieces
public import Idealize.ShloMosaic.Lib.MatmulPlain
public import Idealize.ShloMosaic.Lib.StackMember
public import Idealize.ShloMosaic.Lib.IdealHost
public import Idealize.ShloMosaic.Lib.Pipeline.Value
public import Idealize.ShloMosaic.Lib.Pipeline.ValueKit

/-! What the result holds over the extended reals: the product of the whole matrices, clipped below at zero. -/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

open Idealize.ShloMosaic.ValueIdx (idx2_lt0 idx2_lt1)
open scoped BigOperators

/-! ## The values read over the extended reals -/

/-- An entry of a matrix, by its row and column as numbers: zero outside. -/
def entry {M N : ℕ} (v : (⟨2, ![M, N]⟩ : Shape).Idx → EReal) (a b : ℕ) : EReal :=
  if h : a < M ∧ b < N then v (ValueIdx.ix2 ⟨a, h.1⟩ ⟨b, h.2⟩) else 0

theorem entry_eq {M N : ℕ} (v : (⟨2, ![M, N]⟩ : Shape).Idx → EReal) (i : (⟨2, ![M, N]⟩ : Shape).Idx) (a b : ℕ)
    (ha : (i 0).val = a) (hb : (i 1).val = b) : v i = entry v a b := by
  subst ha hb
  unfold entry
  rw [dif_pos ⟨idx2_lt0 i, idx2_lt1 i⟩]
  exact congrArg v (ValueIdx.eq_ix2 i)

/-- A product of two matrices read at an entry. -/
def prodAt {M K N : ℕ} (x : (⟨2, ![M, K]⟩ : Shape).Idx → EReal) (w : (⟨2, ![K, N]⟩ : Shape).Idx → EReal) (a b : ℕ) : EReal :=
  ∑ j : Fin K, entry x a j.val * entry w j.val b

section Values

variable (X : Dev nD → (main_arg0 : Ref sig .tc).ty.Contents (Elt Ideal))
  (Wt : Dev nD → (cc0_stg0_0 : Ref sig .tc).ty.Contents (Elt Ideal))

theorem xb_apply (c : Dev nD) (k q : Fin 4) (y : S256x1024.Idx) (a b : ℕ)
    (ha : 1024 * k.val + 256 * q.val + (y 0).val = a) (hb : (y 1).val = b) :
    xb X c k q y = entry (M := 4096) (N := 1024) (X c) a b := by
  have e : xb X c k q y = xrow X c k q y := by
    unfold xb castP
    rw [shapeCast_shapeCast, shapeCast_self]
    rfl
  rw [e]
  refine (?_ : _ = X c ((xbR (xbOff k q) (xb_inb k q)).emb y)).trans (entry_eq (M := 4096) (N := 1024) (X c) _ a b ?_ ?_)
  · rfl
  · rw [ValueKit.rect_emb_unit_val]; exact ha
  · rw [ValueKit.rect_emb_unit_val]; exact (Nat.zero_add _).trans hb

theorem wb_apply (c : Dev nD) (d : Fin 2) (y : S1024x1024.Idx) (a b : ℕ)
    (ha : (y 0).val = a) (hb : 1024 * d.val + (y 1).val = b) :
    wb Wt c d y = entry (M := 1024) (N := 2048) (Wt c) a b := by
  have e : wb Wt c d y = (wM.slice (wR d) (fun _ => rfl)).view.read (Elt Ideal) (Wt c) y := by
    unfold wb castW
    rw [shapeCast_self, shapeCast_self]
    rfl
  rw [e]
  refine (?_ : _ = Wt c ((wR d).emb y)).trans (entry_eq (M := 1024) (N := 2048) (Wt c) _ a b ?_ ?_)
  · rfl
  · rw [ValueKit.rect_emb_unit_val]; exact (Nat.zero_add _).trans ha
  · rw [ValueKit.rect_emb_unit_val]; exact hb

/-- A device's part of a block of the product is the block of its product. -/
theorem part_apply (c : Dev nD) (k : Fin 4) (d : Fin 2) (q : Fin 4) (y : S256x1024.Idx) :
    part X Wt c k d q y = prodAt (M := 4096) (K := 1024) (N := 2048) (X c) (Wt c)
      (1024 * k.val + 256 * q.val + (y 0).val) (1024 * d.val + (y 1).val) := by
  obtain ⟨r, t, rfl⟩ : ∃ (r : Fin 256) (t : Fin 1024), y = ValueIdx.ix2 r t := ⟨y 0, y 1, ValueIdx.eq_ix2 y⟩
  have e : part X Wt c k d q (ValueIdx.ix2 r t) = FloatOps.matmul (DotDims.plain 256 1024 1024) none (xb X c k q) (wb Wt c d)
      (constant S256x1024 .f32 0x00000000#32) (ValueIdx.ix2 r t) := rfl
  have z : (constant S256x1024 .f32 0x00000000#32 : FVec Ideal S256x1024 .f32) (ValueIdx.ix2 r t) = 0 := Ideal.ofBits_zero_f32
  rw [e, Ideal.matmul_plain_apply, z, zero_add]
  refine Finset.sum_congr rfl fun j _ => ?_
  rw [xb_apply X c k q (ValueIdx.ix2 r j) _ _ rfl rfl, wb_apply Wt c d (ValueIdx.ix2 j t) _ _ rfl rfl]

/-- The four devices, last first, in the order a block visits them. -/
def rounds (d : Fin 2) (k : Dev nD) : Fin 4 → Dev nD :=
  ![rcvFrom d k, rcvFrom d (rcvFrom d k), rcvFrom d (rcvFrom d (rcvFrom d k)),
    rcvFrom d (rcvFrom d (rcvFrom d (rcvFrom d k)))]

theorem rounds_inj : ∀ (d : Fin 2) (k : Dev nD) (i j : Fin 4), rounds d k i = rounds d k j → i = j := by decide +kernel
theorem rounds_bijective (d : Fin 2) (k : Dev nD) : Function.Bijective (rounds d k) :=
  Finite.injective_iff_bijective.mp fun i j => rounds_inj d k i j

theorem rounds_eq : ∀ (d : Fin 2) (k : Dev nD), rounds d k 0 = rcvFrom d k ∧ rounds d k 1 = rcvFrom d (rcvFrom d k)
    ∧ rounds d k 2 = rcvFrom d (rcvFrom d (rcvFrom d k))
    ∧ rounds d k 3 = rcvFrom d (rcvFrom d (rcvFrom d (rcvFrom d k))) := by decide +kernel

theorem add_assoc4 (a b c d : EReal) : a + (b + (c + d)) = a + b + c + d := by rw [add_assoc, add_assoc]

theorem sum_ring (d : Fin 2) (k : Dev nD) (f : Dev nD → EReal) :
    f (rcvFrom d k) + (f (rcvFrom d (rcvFrom d k)) + (f (rcvFrom d (rcvFrom d (rcvFrom d k)))
      + f (rcvFrom d (rcvFrom d (rcvFrom d (rcvFrom d k)))))) = ∑ c : Dev nD, f c := by
  have h : ∑ i : Fin 4, f (rounds d k i) = ∑ c : Dev nD, f c := (rounds_bijective d k).sum_comp f
  rw [Fin.sum_univ_four] at h
  obtain ⟨h0, h1, h2, h3⟩ := rounds_eq d k
  rw [h0, h1, h2, h3] at h
  exact (add_assoc4 _ _ _ _).trans h

theorem dk_ring : ∀ (d : Fin 2) (k : Dev nD), dk 3 d (rcvFrom d k) = k ∧ dk 2 d (rcvFrom d (rcvFrom d k)) = k
    ∧ dk 1 d (rcvFrom d (rcvFrom d (rcvFrom d k))) = k
    ∧ dk 0 d (rcvFrom d (rcvFrom d (rcvFrom d (rcvFrom d k)))) = k := by decide +kernel

theorem addP_true_apply (u v : FVec Ideal S256x1024 .bf16) (y : S256x1024.Idx) :
    addP true u v y = max (u y + v y) (Ideal.ofBits .bf16 0x0000#16) := rfl
theorem addP_false_apply (u v : FVec Ideal S256x1024 .bf16) (y : S256x1024.Idx) : addP false u v y = u y + v y := rfl

theorem acc_three (d : Fin 2) (q : Fin 4) (c : Dev nD) :
    acc X Wt d q 3 c = addP true (part X Wt c (dk 3 d c) d q) (acc X Wt d q 2 (rcvFrom d c)) := acc.eq_4 ..
theorem acc_two (d : Fin 2) (q : Fin 4) (c : Dev nD) :
    acc X Wt d q 2 c = addP false (part X Wt c (dk 2 d c) d q) (acc X Wt d q 1 (rcvFrom d c)) := acc.eq_3 ..
theorem acc_one (d : Fin 2) (q : Fin 4) (c : Dev nD) :
    acc X Wt d q 1 c = addP false (part X Wt c (dk 1 d c) d q) (acc X Wt d q 0 (rcvFrom d c)) := acc.eq_2 ..
theorem acc_zero (d : Fin 2) (q : Fin 4) (c : Dev nD) : acc X Wt d q 0 c = part X Wt c (dk 0 d c) d q := acc.eq_1 ..

/-- What a block holds once it has gone round: the sum of the devices' products, clipped below at zero. -/
theorem acc_apply (d : Fin 2) (q : Fin 4) (k : Dev nD) (y : S256x1024.Idx) :
    acc X Wt d q 3 (rcvFrom d k) y = max (∑ c : Dev nD, prodAt (M := 4096) (K := 1024) (N := 2048) (X c) (Wt c)
      (1024 * k.val + 256 * q.val + (y 0).val) (1024 * d.val + (y 1).val)) 0 := by
  obtain ⟨h3, h2, h1, h0⟩ := dk_ring d k
  rw [acc_three, addP_true_apply, acc_two, addP_false_apply, acc_one, addP_false_apply, acc_zero, h3, h2, h1, h0,
    Ideal.ofBits_zero_bf16, part_apply, part_apply, part_apply, part_apply]
  exact congrArg (max · 0) (sum_ring d k fun c => prodAt (M := 4096) (K := 1024) (N := 2048) (X c) (Wt c)
    (1024 * k.val + 256 * q.val + (y 0).val) (1024 * d.val + (y 1).val))

/-- The result, entry by entry. -/
theorem outVal_apply (i : S4096x2048.Idx) :
    outVal X Wt i = max (∑ c : Dev nD, prodAt (M := 4096) (K := 1024) (N := 2048) (X c) (Wt c) (i 0).val (i 1).val) 0 := by
  unfold outVal valAt
  rw [acc_apply]
  refine congrArg (max · 0) (Finset.sum_congr rfl fun c _ => congrArg₂ (prodAt (M := 4096) (K := 1024) (N := 2048) (X c) (Wt c)) ?_ ?_)
  · show 1024 * ((i 0).val / 1024) + 256 * ((i 0).val / 256 % 4) + (i 0).val % 256 = (i 0).val
    omega
  · show 1024 * ((i 1).val / 1024) + (i 1).val % 1024 = (i 1).val
    omega

end Values

/-! ## The whole product by blocks -/

/-- A product of whole matrices is the sum of the products of their blocks. -/
theorem prodAt_blocks {M N : ℕ} (K : ℕ) (x : (⟨2, ![M, 4 * K]⟩ : Shape).Idx → EReal) (w : (⟨2, ![4 * K, N]⟩ : Shape).Idx → EReal)
    (xs : Fin 4 → (⟨2, ![M, K]⟩ : Shape).Idx → EReal) (ws : Fin 4 → (⟨2, ![K, N]⟩ : Shape).Idx → EReal) (a b : ℕ)
    (hx : ∀ c (j : Fin K), entry (xs c) a j.val = entry x a (c.val * K + j.val))
    (hw : ∀ c (j : Fin K), entry (ws c) j.val b = entry w (c.val * K + j.val) b) :
    ∑ c : Fin 4, prodAt (xs c) (ws c) a b = prodAt x w a b := by
  unfold prodAt
  rw [← Fin.sum_univ_univ_mul_add 4 K fun n => entry x a n * entry w n b]
  exact Finset.sum_congr rfl fun c _ => Finset.sum_congr rfl fun j _ => by rw [hx c j, hw c j]

end Cert.KernelIdeal.Hand
-- ==== Proof.Whole.lean ====
module

public import proofs.«01_k».proof.Proof.Value
public import proofs.«01_k».proof.Proof.Gen.ReferenceIdeal.Run

/-! The result is the reference's. -/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen
open Cert.ReferenceIdeal (S4096x4096)

variable {F : FTy → Type} [FloatOps F]

local notation "𝕄" => MT nD τ sig ℕ (Elt F) ℕ UU ℕ

open scoped BigOperators

/-- The reference's result from its arguments. -/
def refOut (x : FVec Ideal S4096x4096 .f32) (w : FVec Ideal S4096x2048 .f32) : FVec Ideal Cert.ReferenceIdeal.S4096x2048 .bf16 :=
  truncf .bf16 (maximumf (Host.dotGeneral Cert.ReferenceIdeal.dot_S4096x4096_S4096x2048_S4096x2048_1_0_0_1_n_n none x w)
    (broadcastInDim Cert.ReferenceIdeal.S4096x2048 ![] Cert.ReferenceIdeal.Gen.bcast_S_S4096x2048
      (constant Cert.ReferenceIdeal.S_ .f32 0x00000000#32))) bitsLt_bf16_f32

/-- The reference's result, entry by entry. -/
theorem ref_apply (x : FVec Ideal S4096x4096 .f32) (w : FVec Ideal S4096x2048 .f32) (i : Cert.ReferenceIdeal.S4096x2048.Idx) :
    refOut x w i = max (prodAt (M := 4096) (K := 4096) (N := 2048) x w (i 0).val (i 1).val) 0 := by
  obtain ⟨r, t, rfl⟩ : ∃ (r : Fin 4096) (t : Fin 2048), i = ValueIdx.ix2 r t := ⟨i 0, i 1, ValueIdx.eq_ix2 i⟩
  have e : refOut x w (ValueIdx.ix2 r t)
      = max (Host.dotGeneral (DotDims.plain 4096 4096 2048) none x w (ValueIdx.ix2 r t)) (Ideal.ofBits .f32 0x00000000#32) := rfl
  rw [e, Ideal.ofBits_zero_f32, StackMember.dotGeneral_plain_apply]
  refine congrArg (max · 0) (Finset.sum_congr rfl fun j _ => ?_)
  rw [entry_eq (M := 4096) (N := 4096) x (ValueIdx.ix2 r j) _ _ rfl rfl, entry_eq (M := 4096) (N := 2048) w (ValueIdx.ix2 j t) _ _ rfl rfl]

/-- A block of columns, read at an entry. -/
theorem entry_cols {M K : ℕ} (h : Layout.Tiles ⟨2, ![M, K]⟩ ⟨2, ![M, 4 * K]⟩ 1 4) (x : (⟨2, ![M, 4 * K]⟩ : Shape).Idx → EReal)
    (c : Fin 4) (a : ℕ) (ha : a < M) (j : Fin K) :
    entry (Layout.block ⟨2, ![M, K]⟩ ⟨2, ![M, 4 * K]⟩ 1 4 c x h) a j.val = entry x a (c.val * K + j.val) := by
  conv_lhs => unfold entry
  rw [dif_pos ⟨ha, j.isLt⟩, Layout.block_apply]
  refine entry_eq x _ _ _ ?_ ?_
  · rw [Layout.Tiles.idx_val]; rfl
  · rw [Layout.Tiles.idx_val]; rfl

/-- A block of rows, read at an entry. -/
theorem entry_rows {K N : ℕ} (h : Layout.Tiles ⟨2, ![K, N]⟩ ⟨2, ![4 * K, N]⟩ 0 4) (w : (⟨2, ![4 * K, N]⟩ : Shape).Idx → EReal)
    (c : Fin 4) (b : ℕ) (hb : b < N) (j : Fin K) :
    entry (Layout.block ⟨2, ![K, N]⟩ ⟨2, ![4 * K, N]⟩ 0 4 c w h) j.val b = entry w (c.val * K + j.val) b := by
  conv_lhs => unfold entry
  rw [dif_pos ⟨j.isLt, hb⟩, Layout.block_apply]
  refine entry_eq w _ _ _ ?_ ?_
  · rw [Layout.Tiles.idx_val]; rfl
  · rw [Layout.Tiles.idx_val]; rfl

/-- Where the devices hold the blocks of the whole arguments, the result is the reference's. -/
theorem out_eq (X : Dev nD → (main_arg0 : Ref sig .tc).ty.Contents (Elt Ideal))
    (Wt : Dev nD → (cc0_stg0_0 : Ref sig .tc).ty.Contents (Elt Ideal)) (x : FVec Ideal S4096x4096 .f32) (w : FVec Ideal S4096x2048 .f32)
    (hX : ∀ c, X c = Layout.block ⟨2, ![4096, 1024]⟩ ⟨2, ![4096, 4096]⟩ 1 4 c x)
    (hW : ∀ c, Wt c = Layout.block ⟨2, ![1024, 2048]⟩ ⟨2, ![4096, 2048]⟩ 0 4 c w) : outVal X Wt = refOut x w := by
  funext i
  have hi0 : (i 0).val < 4096 := (i 0).isLt
  have hi1 : (i 1).val < 2048 := (i 1).isLt
  rw [outVal_apply, ref_apply]
  refine congrArg (max · 0) ?_
  refine prodAt_blocks 1024 (M := 4096) (N := 2048) x w X Wt _ _ (fun c j => ?_) (fun c j => ?_)
  · rw [hX c]; exact entry_cols (K := 1024) _ x c _ hi0 j
  · rw [hW c]; exact entry_rows (K := 1024) _ w c _ hi1 j

end Cert.KernelIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Whole
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem
open Cert.KernelIdeal.Hand

/-- The two programs have the same text. -/
theorem defs_same : Cert.Kernel.defs (F := Bits) = Cert.KernelIdeal.defs (F := Bits) := by chain_rfl
theorem main_same : Cert.Kernel.main (F := Bits) = Cert.KernelIdeal.main (F := Bits) := by chain_rfl

theorem frame_kernel : Cert.quiescent_Kernel := fun m ρ _ => by
  rw [defs_same, main_same]
  exact (θ_run (Cert.KernelIdeal.defs (F := Bits)) _ _).mono
    (fun _ h => ⟨fun c => ⟨(h.1 c).2.1, (h.1 c).2.2⟩, h.2⟩) (run_main (F := Bits) m ρ)

theorem frame_kernelIdeal : Cert.quiescent_KernelIdeal := fun m ρ _ =>
  (θ_run (Cert.KernelIdeal.defs (F := Ideal)) _ _).mono
    (fun _ h => ⟨fun c => ⟨(h.1 c).2.1, (h.1 c).2.2⟩, h.2⟩) (run_main (F := Ideal) m ρ)

theorem frame_reference : Cert.quiescent_ReferenceIdeal := fun m ρ _ =>
  (θ_run (Cert.ReferenceIdeal.defs (F := Ideal)) _ _).mono
    (fun r h => ⟨fun c => ⟨(h c).2.1, (h c).2.2⟩, sem_eq_zero_of_no_sems rfl _⟩) (Cert.ReferenceIdeal.Value.run m ρ)

theorem value : Cert.algebraic_KernelIdeal_ReferenceIdeal := fun m g m' g' _ hargs =>
  ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run (Cert.KernelIdeal.defs (F := Ideal)) _ _).mono
      (fun _ h c => ⟨(h.1 c).1.trans (out_eq (Xm m) (Wm m) _ _ (fun c => (hargs c).1)
        (fun c => (Wm_eq m c).trans (hargs c).2)), (h.1 c).2⟩) (run_main (F := Ideal) m g),
    (θ_run (Cert.ReferenceIdeal.defs (F := Ideal)) _ _).mono
      (fun _ h => h 0) (Cert.ReferenceIdeal.Value.run m' g')⟩

theorem claim : Cert.Claim := ⟨Cert.Kernel.Gen.facts, Cert.KernelIdeal.Gen.facts, Cert.ReferenceIdeal.Gen.facts,
  frame_kernel, frame_kernelIdeal, frame_reference, trivial, value⟩

end Cert.Proof

end
